-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x1024 : Shape := ⟨2, ![8192, 1024]⟩
abbrev S2x1024x1024 : Shape := ⟨3, ![2, 1024, 1024]⟩
abbrev S2 : Shape := ⟨1, ![2]⟩
abbrev S2x11 : Shape := ⟨2, ![2, 11]⟩
abbrev S2x8 : Shape := ⟨2, ![2, 8]⟩
abbrev S_ : Shape := ⟨0, ![]⟩
abbrev S1x1 : Shape := ⟨2, ![1, 1]⟩
abbrev S256x1024 : Shape := ⟨2, ![256, 1024]⟩
abbrev S1x256x1024 : Shape := ⟨3, ![1, 256, 1024]⟩
abbrev S1 : Shape := ⟨1, ![1]⟩
abbrev S1x1024x1024 : Shape := ⟨3, ![1, 1024, 1024]⟩
abbrev S1024x1024 : Shape := ⟨2, ![1024, 1024]⟩

abbrev nBuf : Space → Nat
  | .hbm => 2
  | .vmem => 3
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .f32⟩
  | .local _ .vmem, ⟨0, _⟩ => ⟨S8192x1024, .f32⟩
  | .local _ .vmem, ⟨1, _⟩ => ⟨S2x1024x1024, .f32⟩
  | .local _ .vmem, ⟨2, _⟩ => ⟨S2x1024x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 1 74 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_59 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_58 : BitVec 32 := 4#32
  let v111 : BitVec 32 := Scalar.muli v2 c4_i32_58
  let v112 : BitVec 32 := Scalar.addi c0_i32_59 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_60 : BitVec 32 := 2#32
  let v113 : BitVec 32 := Scalar.muli v5 c2_i32_60
  let v114 : BitVec 32 := Scalar.addi v112 v113
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_61 : BitVec 32 := 1#32
  let v115 : BitVec 32 := Scalar.muli v12 c1_i32_61
  let v116 : BitVec 32 := Scalar.addi v114 v115
  v116.toNat
def k0_dev2 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_20 : BitVec 32 := 1#32
  let v45 : BitVec 32 := Scalar.subi v11 c1_i32_20
  let c4_i32_21 : BitVec 32 := 4#32
  let c0_i32_22 : BitVec 32 := 0#32
  let v46 : BitVec 1 := Scalar.cmpi .eq c4_i32_21 c0_i32_22
  let c1_i32_23 : BitVec 32 := 1#32
  let v47 : BitVec 32 := Scalar.select v46 c1_i32_23 c4_i32_21
  let v48 : BitVec 32 := Scalar.remsi v45 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let c0_i32_28 : BitVec 32 := 0#32
  let v57 : BitVec 1 := Scalar.cmpi .sgt v55 c0_i32_28
  let v58 : BitVec 32 := Scalar.extui v57
  let c0_i32_29 : BitVec 32 := 0#32
  let v59 : BitVec 1 := Scalar.cmpi .slt v55 c0_i32_29
  let v60 : BitVec 32 := Scalar.extui v59
  let v61 : BitVec 32 := Scalar.subi v58 v60
  let c2_i32_27 : BitVec 32 := 2#32
  let c0_i32_30 : BitVec 32 := 0#32
  let v62 : BitVec 1 := Scalar.cmpi .sgt c2_i32_27 c0_i32_30
  let v63 : BitVec 32 := Scalar.extui v62
  let c0_i32_31 : BitVec 32 := 0#32
  let v64 : BitVec 1 := Scalar.cmpi .slt c2_i32_27 c0_i32_31
  let v65 : BitVec 32 := Scalar.extui v64
  let v66 : BitVec 32 := Scalar.subi v63 v65
  let v67 : BitVec 1 := Scalar.cmpi .ne v61 v66
  let v68 : BitVec 32 := Scalar.remsi v55 c2_i32_27
  let c0_i32_32 : BitVec 32 := 0#32
  let v69 : BitVec 1 := Scalar.cmpi .ne v68 c0_i32_32
  let v70 : BitVec 1 := Scalar.andi v67 v69
  let v56 : BitVec 32 := Scalar.divsi v55 c2_i32_27
  let c1_i32_33 : BitVec 32 := 1#32
  let v71 : BitVec 32 := Scalar.subi v56 c1_i32_33
  let v72 : BitVec 32 := Scalar.select v70 v71 v56
  let c4_i32_63 : BitVec 32 := 4#32
  let v117 : BitVec 32 := Scalar.muli v72 c4_i32_63
  let v118 : BitVec 32 := Scalar.addi c0_i32_64 v117
  let c1_i32_34 : BitVec 32 := 1#32
  let v73 : BitVec 1 := Scalar.cmpi .eq v55 c1_i32_34
  let c2_i32_35 : BitVec 32 := 2#32
  let v74 : BitVec 1 := Scalar.cmpi .eq v55 c2_i32_35
  let v75 : BitVec 1 := Scalar.ori v73 v74
  let v76 : BitVec 32 := Scalar.extui v75
  let c2_i32_65 : BitVec 32 := 2#32
  let v119 : BitVec 32 := Scalar.muli v76 c2_i32_65
  let v120 : BitVec 32 := Scalar.addi v118 v119
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v121 : BitVec 32 := Scalar.muli v8 c1_i32_66
  let v122 : BitVec 32 := Scalar.addi v120 v121
  v122.toNat
def k0_dev3 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_5 : BitVec 32 := 1#32
  let v13 : BitVec 32 := Scalar.addi v11 c1_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_68 : BitVec 32 := 4#32
  let v123 : BitVec 32 := Scalar.muli v40 c4_i32_68
  let v124 : BitVec 32 := Scalar.addi c0_i32_69 v123
  let c1_i32_18 : BitVec 32 := 1#32
  let v41 : BitVec 1 := Scalar.cmpi .eq v23 c1_i32_18
  let c2_i32_19 : BitVec 32 := 2#32
  let v42 : BitVec 1 := Scalar.cmpi .eq v23 c2_i32_19
  let v43 : BitVec 1 := Scalar.ori v41 v42
  let v44 : BitVec 32 := Scalar.extui v43
  let c2_i32_70 : BitVec 32 := 2#32
  let v125 : BitVec 32 := Scalar.muli v44 c2_i32_70
  let v126 : BitVec 32 := Scalar.addi v124 v125
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v127 : BitVec 32 := Scalar.muli v8 c1_i32_71
  let v128 : BitVec 32 := Scalar.addi v126 v127
  v128.toNat
def k0_off1 (d0 : Dev nD) (c0_i32_74 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c2048_i32 : BitVec 32 := 2048#32
  let v132 : BitVec 32 := Scalar.muli v11 c2048_i32
  let v133 : BitVec 32 := Scalar.addi v132 c0_i32_74
  let c0_i32_84 : BitVec 32 := 0#32
  ![v133.toNat, 0]
def k0_off2 (d0 : Dev nD) (c0_i32_74 : BitVec 32) : Fin 3 → Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c2048_i32 : BitVec 32 := 2048#32
  let v132 : BitVec 32 := Scalar.muli v11 c2048_i32
  let v133 : BitVec 32 := Scalar.addi v132 c0_i32_74
  let c1_i32_72 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v129 : BitVec 32 := Scalar.subi c1_i32_72 v8
  let c1024_i32 : BitVec 32 := 1024#32
  let v130 : BitVec 32 := Scalar.muli v129 c1024_i32
  ![0, v133.toNat, v130.toNat]
def k0_dev4 (d0 : Dev nD) : Nat :=
  let c0_i32_81 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_80 : BitVec 32 := 4#32
  let v134 : BitVec 32 := Scalar.muli v2 c4_i32_80
  let v135 : BitVec 32 := Scalar.addi c0_i32_81 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_82 : BitVec 32 := 2#32
  let v136 : BitVec 32 := Scalar.muli v5 c2_i32_82
  let v137 : BitVec 32 := Scalar.addi v135 v136
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_83 : BitVec 32 := 1#32
  let v138 : BitVec 32 := Scalar.muli v12 c1_i32_83
  let v139 : BitVec 32 := Scalar.addi v137 v138
  v139.toNat
def k0_dev5 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v149 : BitVec 32 := Scalar.muli v2 c4_i32_91
  let v150 : BitVec 32 := Scalar.addi c0_i32_92 v149
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v151 : BitVec 32 := Scalar.muli v5 c2_i32_93
  let v152 : BitVec 32 := Scalar.addi v150 v151
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_94 : BitVec 32 := 1#32
  let v153 : BitVec 32 := Scalar.muli v12 c1_i32_94
  let v154 : BitVec 32 := Scalar.addi v152 v153
  v154.toNat
def k0_dev6 (d0 : Dev nD) : Nat :=
  let c0_i32_103 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_102 : BitVec 32 := 4#32
  let v164 : BitVec 32 := Scalar.muli v2 c4_i32_102
  let v165 : BitVec 32 := Scalar.addi c0_i32_103 v164
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_104 : BitVec 32 := 2#32
  let v166 : BitVec 32 := Scalar.muli v5 c2_i32_104
  let v167 : BitVec 32 := Scalar.addi v165 v166
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_105 : BitVec 32 := 1#32
  let v168 : BitVec 32 := Scalar.muli v12 c1_i32_105
  let v169 : BitVec 32 := Scalar.addi v167 v168
  v169.toNat
def k0_dev7 (d0 : Dev nD) : Nat :=
  let c0_i32_114 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_113 : BitVec 32 := 4#32
  let v179 : BitVec 32 := Scalar.muli v2 c4_i32_113
  let v180 : BitVec 32 := Scalar.addi c0_i32_114 v179
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_115 : BitVec 32 := 2#32
  let v181 : BitVec 32 := Scalar.muli v5 c2_i32_115
  let v182 : BitVec 32 := Scalar.addi v180 v181
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_116 : BitVec 32 := 1#32
  let v183 : BitVec 32 := Scalar.muli v12 c1_i32_116
  let v184 : BitVec 32 := Scalar.addi v182 v183
  v184.toNat
def k0_dev8 (d0 : Dev nD) : Nat :=
  let c0_i32_126 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_125 : BitVec 32 := 4#32
  let v194 : BitVec 32 := Scalar.muli v2 c4_i32_125
  let v195 : BitVec 32 := Scalar.addi c0_i32_126 v194
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_127 : BitVec 32 := 2#32
  let v196 : BitVec 32 := Scalar.muli v5 c2_i32_127
  let v197 : BitVec 32 := Scalar.addi v195 v196
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_128 : BitVec 32 := 1#32
  let v198 : BitVec 32 := Scalar.muli v12 c1_i32_128
  let v199 : BitVec 32 := Scalar.addi v197 v198
  v199.toNat
def k0_dev9 (d0 : Dev nD) : Nat :=
  let c0_i32_136 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_135 : BitVec 32 := 4#32
  let v209 : BitVec 32 := Scalar.muli v2 c4_i32_135
  let v210 : BitVec 32 := Scalar.addi c0_i32_136 v209
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_137 : BitVec 32 := 2#32
  let v211 : BitVec 32 := Scalar.muli v5 c2_i32_137
  let v212 : BitVec 32 := Scalar.addi v210 v211
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_138 : BitVec 32 := 1#32
  let v213 : BitVec 32 := Scalar.muli v12 c1_i32_138
  let v214 : BitVec 32 := Scalar.addi v212 v213
  v214.toNat
def k0_dev10 (d0 : Dev nD) : Nat :=
  let c0_i32_146 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_145 : BitVec 32 := 4#32
  let v224 : BitVec 32 := Scalar.muli v2 c4_i32_145
  let v225 : BitVec 32 := Scalar.addi c0_i32_146 v224
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v226 : BitVec 32 := Scalar.muli v5 c2_i32_147
  let v227 : BitVec 32 := Scalar.addi v225 v226
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_148 : BitVec 32 := 1#32
  let v228 : BitVec 32 := Scalar.muli v12 c1_i32_148
  let v229 : BitVec 32 := Scalar.addi v227 v228
  v229.toNat
def k0_dev11 (d0 : Dev nD) : Nat :=
  let c0_i32_156 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_155 : BitVec 32 := 4#32
  let v239 : BitVec 32 := Scalar.muli v2 c4_i32_155
  let v240 : BitVec 32 := Scalar.addi c0_i32_156 v239
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_157 : BitVec 32 := 2#32
  let v241 : BitVec 32 := Scalar.muli v5 c2_i32_157
  let v242 : BitVec 32 := Scalar.addi v240 v241
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_158 : BitVec 32 := 1#32
  let v243 : BitVec 32 := Scalar.muli v12 c1_i32_158
  let v244 : BitVec 32 := Scalar.addi v242 v243
  v244.toNat
def k0_off3 (d0 : Dev nD) (c2_i32_50 : BitVec 32) (c0_i32_161 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let v99 : BitVec 32 := Scalar.addi v11 c2_i32_50
  let c4_i32_51 : BitVec 32 := 4#32
  let c0_i32_52 : BitVec 32 := 0#32
  let v100 : BitVec 1 := Scalar.cmpi .eq c4_i32_51 c0_i32_52
  let c1_i32_53 : BitVec 32 := 1#32
  let v101 : BitVec 32 := Scalar.select v100 c1_i32_53 c4_i32_51
  let v102 : BitVec 32 := Scalar.remsi v99 v101
  let c0_i32_55 : BitVec 32 := 0#32
  let v104 : BitVec 1 := Scalar.cmpi .slt v102 c0_i32_55
  let c0_i32_56 : BitVec 32 := 0#32
  let v105 : BitVec 1 := Scalar.cmpi .slt v101 c0_i32_56
  let v106 : BitVec 1 := Scalar.xori v104 v105
  let c0_i32_54 : BitVec 32 := 0#32
  let v103 : BitVec 1 := Scalar.cmpi .ne v102 c0_i32_54
  let v107 : BitVec 1 := Scalar.andi v106 v103
  let v108 : BitVec 32 := Scalar.addi v102 v101
  let v109 : BitVec 32 := Scalar.select v107 v108 v102
  let c2048_i32_160 : BitVec 32 := 2048#32
  let v252 : BitVec 32 := Scalar.muli v109 c2048_i32_160
  let v253 : BitVec 32 := Scalar.addi v252 c0_i32_161
  let c0_i32_170 : BitVec 32 := 0#32
  ![v253.toNat, 0]
def k0_off4 (d0 : Dev nD) (c0_i32_161 : BitVec 32) : Fin 3 → Nat :=
  let c0_i32_162 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c2_i32_50 : BitVec 32 := 2#32
  let v99 : BitVec 32 := Scalar.addi v11 c2_i32_50
  let c4_i32_51 : BitVec 32 := 4#32
  let c0_i32_52 : BitVec 32 := 0#32
  let v100 : BitVec 1 := Scalar.cmpi .eq c4_i32_51 c0_i32_52
  let c1_i32_53 : BitVec 32 := 1#32
  let v101 : BitVec 32 := Scalar.select v100 c1_i32_53 c4_i32_51
  let v102 : BitVec 32 := Scalar.remsi v99 v101
  let c0_i32_55 : BitVec 32 := 0#32
  let v104 : BitVec 1 := Scalar.cmpi .slt v102 c0_i32_55
  let c0_i32_56 : BitVec 32 := 0#32
  let v105 : BitVec 1 := Scalar.cmpi .slt v101 c0_i32_56
  let v106 : BitVec 1 := Scalar.xori v104 v105
  let c0_i32_54 : BitVec 32 := 0#32
  let v103 : BitVec 1 := Scalar.cmpi .ne v102 c0_i32_54
  let v107 : BitVec 1 := Scalar.andi v106 v103
  let v108 : BitVec 32 := Scalar.addi v102 v101
  let v109 : BitVec 32 := Scalar.select v107 v108 v102
  let c2048_i32_160 : BitVec 32 := 2048#32
  let v252 : BitVec 32 := Scalar.muli v109 c2048_i32_160
  let v253 : BitVec 32 := Scalar.addi v252 c0_i32_161
  let c1_i32_72 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v129 : BitVec 32 := Scalar.subi c1_i32_72 v8
  let c1024_i32 : BitVec 32 := 1024#32
  let v130 : BitVec 32 := Scalar.muli v129 c1024_i32
  ![0, v253.toNat, v130.toNat]
def k0_dev12 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_166 : BitVec 32 := 4#32
  let v254 : BitVec 32 := Scalar.muli v2 c4_i32_166
  let v255 : BitVec 32 := Scalar.addi c0_i32_167 v254
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v256 : BitVec 32 := Scalar.muli v5 c2_i32_168
  let v257 : BitVec 32 := Scalar.addi v255 v256
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_169 : BitVec 32 := 1#32
  let v258 : BitVec 32 := Scalar.muli v12 c1_i32_169
  let v259 : BitVec 32 := Scalar.addi v257 v258
  v259.toNat
def k0_dev13 (d0 : Dev nD) : Nat :=
  let c0_i32_178 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_177 : BitVec 32 := 4#32
  let v269 : BitVec 32 := Scalar.muli v2 c4_i32_177
  let v270 : BitVec 32 := Scalar.addi c0_i32_178 v269
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_179 : BitVec 32 := 2#32
  let v271 : BitVec 32 := Scalar.muli v5 c2_i32_179
  let v272 : BitVec 32 := Scalar.addi v270 v271
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_180 : BitVec 32 := 1#32
  let v273 : BitVec 32 := Scalar.muli v12 c1_i32_180
  let v274 : BitVec 32 := Scalar.addi v272 v273
  v274.toNat
def k0_dev14 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_188 : BitVec 32 := 4#32
  let v284 : BitVec 32 := Scalar.muli v2 c4_i32_188
  let v285 : BitVec 32 := Scalar.addi c0_i32_189 v284
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_190 : BitVec 32 := 2#32
  let v286 : BitVec 32 := Scalar.muli v5 c2_i32_190
  let v287 : BitVec 32 := Scalar.addi v285 v286
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.subi c1_i32_4 v8
  let c1_i32_191 : BitVec 32 := 1#32
  let v288 : BitVec 32 := Scalar.muli v12 c1_i32_191
  let v289 : BitVec 32 := Scalar.addi v287 v288
  v289.toNat
def k0_dev15 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_5 : BitVec 32 := 1#32
  let v13 : BitVec 32 := Scalar.addi v11 c1_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_209 : BitVec 32 := 4#32
  let v310 : BitVec 32 := Scalar.muli v40 c4_i32_209
  let v311 : BitVec 32 := Scalar.addi c0_i32_210 v310
  let c1_i32_18 : BitVec 32 := 1#32
  let v41 : BitVec 1 := Scalar.cmpi .eq v23 c1_i32_18
  let c2_i32_19 : BitVec 32 := 2#32
  let v42 : BitVec 1 := Scalar.cmpi .eq v23 c2_i32_19
  let v43 : BitVec 1 := Scalar.ori v41 v42
  let v44 : BitVec 32 := Scalar.extui v43
  let c2_i32_211 : BitVec 32 := 2#32
  let v312 : BitVec 32 := Scalar.muli v44 c2_i32_211
  let v313 : BitVec 32 := Scalar.addi v311 v312
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_212 : BitVec 32 := 1#32
  let v314 : BitVec 32 := Scalar.muli v8 c1_i32_212
  let v315 : BitVec 32 := Scalar.addi v313 v314
  v315.toNat
def k0_dev16 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_20 : BitVec 32 := 1#32
  let v45 : BitVec 32 := Scalar.subi v11 c1_i32_20
  let c4_i32_21 : BitVec 32 := 4#32
  let c0_i32_22 : BitVec 32 := 0#32
  let v46 : BitVec 1 := Scalar.cmpi .eq c4_i32_21 c0_i32_22
  let c1_i32_23 : BitVec 32 := 1#32
  let v47 : BitVec 32 := Scalar.select v46 c1_i32_23 c4_i32_21
  let v48 : BitVec 32 := Scalar.remsi v45 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let c0_i32_28 : BitVec 32 := 0#32
  let v57 : BitVec 1 := Scalar.cmpi .sgt v55 c0_i32_28
  let v58 : BitVec 32 := Scalar.extui v57
  let c0_i32_29 : BitVec 32 := 0#32
  let v59 : BitVec 1 := Scalar.cmpi .slt v55 c0_i32_29
  let v60 : BitVec 32 := Scalar.extui v59
  let v61 : BitVec 32 := Scalar.subi v58 v60
  let c2_i32_27 : BitVec 32 := 2#32
  let c0_i32_30 : BitVec 32 := 0#32
  let v62 : BitVec 1 := Scalar.cmpi .sgt c2_i32_27 c0_i32_30
  let v63 : BitVec 32 := Scalar.extui v62
  let c0_i32_31 : BitVec 32 := 0#32
  let v64 : BitVec 1 := Scalar.cmpi .slt c2_i32_27 c0_i32_31
  let v65 : BitVec 32 := Scalar.extui v64
  let v66 : BitVec 32 := Scalar.subi v63 v65
  let v67 : BitVec 1 := Scalar.cmpi .ne v61 v66
  let v68 : BitVec 32 := Scalar.remsi v55 c2_i32_27
  let c0_i32_32 : BitVec 32 := 0#32
  let v69 : BitVec 1 := Scalar.cmpi .ne v68 c0_i32_32
  let v70 : BitVec 1 := Scalar.andi v67 v69
  let v56 : BitVec 32 := Scalar.divsi v55 c2_i32_27
  let c1_i32_33 : BitVec 32 := 1#32
  let v71 : BitVec 32 := Scalar.subi v56 c1_i32_33
  let v72 : BitVec 32 := Scalar.select v70 v71 v56
  let c4_i32_221 : BitVec 32 := 4#32
  let v324 : BitVec 32 := Scalar.muli v72 c4_i32_221
  let v325 : BitVec 32 := Scalar.addi c0_i32_222 v324
  let c1_i32_34 : BitVec 32 := 1#32
  let v73 : BitVec 1 := Scalar.cmpi .eq v55 c1_i32_34
  let c2_i32_35 : BitVec 32 := 2#32
  let v74 : BitVec 1 := Scalar.cmpi .eq v55 c2_i32_35
  let v75 : BitVec 1 := Scalar.ori v73 v74
  let v76 : BitVec 32 := Scalar.extui v75
  let c2_i32_223 : BitVec 32 := 2#32
  let v326 : BitVec 32 := Scalar.muli v76 c2_i32_223
  let v327 : BitVec 32 := Scalar.addi v325 v326
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_224 : BitVec 32 := 1#32
  let v328 : BitVec 32 := Scalar.muli v8 c1_i32_224
  let v329 : BitVec 32 := Scalar.addi v327 v328
  v329.toNat
def k0_dev17 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_5 : BitVec 32 := 1#32
  let v13 : BitVec 32 := Scalar.addi v11 c1_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_243 : BitVec 32 := 4#32
  let v349 : BitVec 32 := Scalar.muli v40 c4_i32_243
  let v350 : BitVec 32 := Scalar.addi c0_i32_244 v349
  let c1_i32_18 : BitVec 32 := 1#32
  let v41 : BitVec 1 := Scalar.cmpi .eq v23 c1_i32_18
  let c2_i32_19 : BitVec 32 := 2#32
  let v42 : BitVec 1 := Scalar.cmpi .eq v23 c2_i32_19
  let v43 : BitVec 1 := Scalar.ori v41 v42
  let v44 : BitVec 32 := Scalar.extui v43
  let c2_i32_245 : BitVec 32 := 2#32
  let v351 : BitVec 32 := Scalar.muli v44 c2_i32_245
  let v352 : BitVec 32 := Scalar.addi v350 v351
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_246 : BitVec 32 := 1#32
  let v353 : BitVec 32 := Scalar.muli v8 c1_i32_246
  let v354 : BitVec 32 := Scalar.addi v352 v353
  v354.toNat
def k0_dev18 (d0 : Dev nD) : Nat :=
  let c0_i32_256 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_20 : BitVec 32 := 1#32
  let v45 : BitVec 32 := Scalar.subi v11 c1_i32_20
  let c4_i32_21 : BitVec 32 := 4#32
  let c0_i32_22 : BitVec 32 := 0#32
  let v46 : BitVec 1 := Scalar.cmpi .eq c4_i32_21 c0_i32_22
  let c1_i32_23 : BitVec 32 := 1#32
  let v47 : BitVec 32 := Scalar.select v46 c1_i32_23 c4_i32_21
  let v48 : BitVec 32 := Scalar.remsi v45 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let c0_i32_28 : BitVec 32 := 0#32
  let v57 : BitVec 1 := Scalar.cmpi .sgt v55 c0_i32_28
  let v58 : BitVec 32 := Scalar.extui v57
  let c0_i32_29 : BitVec 32 := 0#32
  let v59 : BitVec 1 := Scalar.cmpi .slt v55 c0_i32_29
  let v60 : BitVec 32 := Scalar.extui v59
  let v61 : BitVec 32 := Scalar.subi v58 v60
  let c2_i32_27 : BitVec 32 := 2#32
  let c0_i32_30 : BitVec 32 := 0#32
  let v62 : BitVec 1 := Scalar.cmpi .sgt c2_i32_27 c0_i32_30
  let v63 : BitVec 32 := Scalar.extui v62
  let c0_i32_31 : BitVec 32 := 0#32
  let v64 : BitVec 1 := Scalar.cmpi .slt c2_i32_27 c0_i32_31
  let v65 : BitVec 32 := Scalar.extui v64
  let v66 : BitVec 32 := Scalar.subi v63 v65
  let v67 : BitVec 1 := Scalar.cmpi .ne v61 v66
  let v68 : BitVec 32 := Scalar.remsi v55 c2_i32_27
  let c0_i32_32 : BitVec 32 := 0#32
  let v69 : BitVec 1 := Scalar.cmpi .ne v68 c0_i32_32
  let v70 : BitVec 1 := Scalar.andi v67 v69
  let v56 : BitVec 32 := Scalar.divsi v55 c2_i32_27
  let c1_i32_33 : BitVec 32 := 1#32
  let v71 : BitVec 32 := Scalar.subi v56 c1_i32_33
  let v72 : BitVec 32 := Scalar.select v70 v71 v56
  let c4_i32_255 : BitVec 32 := 4#32
  let v363 : BitVec 32 := Scalar.muli v72 c4_i32_255
  let v364 : BitVec 32 := Scalar.addi c0_i32_256 v363
  let c1_i32_34 : BitVec 32 := 1#32
  let v73 : BitVec 1 := Scalar.cmpi .eq v55 c1_i32_34
  let c2_i32_35 : BitVec 32 := 2#32
  let v74 : BitVec 1 := Scalar.cmpi .eq v55 c2_i32_35
  let v75 : BitVec 1 := Scalar.ori v73 v74
  let v76 : BitVec 32 := Scalar.extui v75
  let c2_i32_257 : BitVec 32 := 2#32
  let v365 : BitVec 32 := Scalar.muli v76 c2_i32_257
  let v366 : BitVec 32 := Scalar.addi v364 v365
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_258 : BitVec 32 := 1#32
  let v367 : BitVec 32 := Scalar.muli v8 c1_i32_258
  let v368 : BitVec 32 := Scalar.addi v366 v367
  v368.toNat
def k0_dev19 (d0 : Dev nD) : Nat :=
  let c0_i32_278 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_5 : BitVec 32 := 1#32
  let v13 : BitVec 32 := Scalar.addi v11 c1_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_277 : BitVec 32 := 4#32
  let v388 : BitVec 32 := Scalar.muli v40 c4_i32_277
  let v389 : BitVec 32 := Scalar.addi c0_i32_278 v388
  let c1_i32_18 : BitVec 32 := 1#32
  let v41 : BitVec 1 := Scalar.cmpi .eq v23 c1_i32_18
  let c2_i32_19 : BitVec 32 := 2#32
  let v42 : BitVec 1 := Scalar.cmpi .eq v23 c2_i32_19
  let v43 : BitVec 1 := Scalar.ori v41 v42
  let v44 : BitVec 32 := Scalar.extui v43
  let c2_i32_279 : BitVec 32 := 2#32
  let v390 : BitVec 32 := Scalar.muli v44 c2_i32_279
  let v391 : BitVec 32 := Scalar.addi v389 v390
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_280 : BitVec 32 := 1#32
  let v392 : BitVec 32 := Scalar.muli v8 c1_i32_280
  let v393 : BitVec 32 := Scalar.addi v391 v392
  v393.toNat
def k0_dev20 (d0 : Dev nD) : Nat :=
  let c0_i32_290 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_20 : BitVec 32 := 1#32
  let v45 : BitVec 32 := Scalar.subi v11 c1_i32_20
  let c4_i32_21 : BitVec 32 := 4#32
  let c0_i32_22 : BitVec 32 := 0#32
  let v46 : BitVec 1 := Scalar.cmpi .eq c4_i32_21 c0_i32_22
  let c1_i32_23 : BitVec 32 := 1#32
  let v47 : BitVec 32 := Scalar.select v46 c1_i32_23 c4_i32_21
  let v48 : BitVec 32 := Scalar.remsi v45 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let c0_i32_28 : BitVec 32 := 0#32
  let v57 : BitVec 1 := Scalar.cmpi .sgt v55 c0_i32_28
  let v58 : BitVec 32 := Scalar.extui v57
  let c0_i32_29 : BitVec 32 := 0#32
  let v59 : BitVec 1 := Scalar.cmpi .slt v55 c0_i32_29
  let v60 : BitVec 32 := Scalar.extui v59
  let v61 : BitVec 32 := Scalar.subi v58 v60
  let c2_i32_27 : BitVec 32 := 2#32
  let c0_i32_30 : BitVec 32 := 0#32
  let v62 : BitVec 1 := Scalar.cmpi .sgt c2_i32_27 c0_i32_30
  let v63 : BitVec 32 := Scalar.extui v62
  let c0_i32_31 : BitVec 32 := 0#32
  let v64 : BitVec 1 := Scalar.cmpi .slt c2_i32_27 c0_i32_31
  let v65 : BitVec 32 := Scalar.extui v64
  let v66 : BitVec 32 := Scalar.subi v63 v65
  let v67 : BitVec 1 := Scalar.cmpi .ne v61 v66
  let v68 : BitVec 32 := Scalar.remsi v55 c2_i32_27
  let c0_i32_32 : BitVec 32 := 0#32
  let v69 : BitVec 1 := Scalar.cmpi .ne v68 c0_i32_32
  let v70 : BitVec 1 := Scalar.andi v67 v69
  let v56 : BitVec 32 := Scalar.divsi v55 c2_i32_27
  let c1_i32_33 : BitVec 32 := 1#32
  let v71 : BitVec 32 := Scalar.subi v56 c1_i32_33
  let v72 : BitVec 32 := Scalar.select v70 v71 v56
  let c4_i32_289 : BitVec 32 := 4#32
  let v402 : BitVec 32 := Scalar.muli v72 c4_i32_289
  let v403 : BitVec 32 := Scalar.addi c0_i32_290 v402
  let c1_i32_34 : BitVec 32 := 1#32
  let v73 : BitVec 1 := Scalar.cmpi .eq v55 c1_i32_34
  let c2_i32_35 : BitVec 32 := 2#32
  let v74 : BitVec 1 := Scalar.cmpi .eq v55 c2_i32_35
  let v75 : BitVec 1 := Scalar.ori v73 v74
  let v76 : BitVec 32 := Scalar.extui v75
  let c2_i32_291 : BitVec 32 := 2#32
  let v404 : BitVec 32 := Scalar.muli v76 c2_i32_291
  let v405 : BitVec 32 := Scalar.addi v403 v404
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v406 : BitVec 32 := Scalar.muli v8 c1_i32_292
  let v407 : BitVec 32 := Scalar.addi v405 v406
  v407.toNat
def k0_dev21 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_5 : BitVec 32 := 1#32
  let v13 : BitVec 32 := Scalar.addi v11 c1_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_311 : BitVec 32 := 4#32
  let v427 : BitVec 32 := Scalar.muli v40 c4_i32_311
  let v428 : BitVec 32 := Scalar.addi c0_i32_312 v427
  let c1_i32_18 : BitVec 32 := 1#32
  let v41 : BitVec 1 := Scalar.cmpi .eq v23 c1_i32_18
  let c2_i32_19 : BitVec 32 := 2#32
  let v42 : BitVec 1 := Scalar.cmpi .eq v23 c2_i32_19
  let v43 : BitVec 1 := Scalar.ori v41 v42
  let v44 : BitVec 32 := Scalar.extui v43
  let c2_i32_313 : BitVec 32 := 2#32
  let v429 : BitVec 32 := Scalar.muli v44 c2_i32_313
  let v430 : BitVec 32 := Scalar.addi v428 v429
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_314 : BitVec 32 := 1#32
  let v431 : BitVec 32 := Scalar.muli v8 c1_i32_314
  let v432 : BitVec 32 := Scalar.addi v430 v431
  v432.toNat
def k0_dev22 (d0 : Dev nD) : Nat :=
  let c0_i32_324 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_20 : BitVec 32 := 1#32
  let v45 : BitVec 32 := Scalar.subi v11 c1_i32_20
  let c4_i32_21 : BitVec 32 := 4#32
  let c0_i32_22 : BitVec 32 := 0#32
  let v46 : BitVec 1 := Scalar.cmpi .eq c4_i32_21 c0_i32_22
  let c1_i32_23 : BitVec 32 := 1#32
  let v47 : BitVec 32 := Scalar.select v46 c1_i32_23 c4_i32_21
  let v48 : BitVec 32 := Scalar.remsi v45 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let c0_i32_28 : BitVec 32 := 0#32
  let v57 : BitVec 1 := Scalar.cmpi .sgt v55 c0_i32_28
  let v58 : BitVec 32 := Scalar.extui v57
  let c0_i32_29 : BitVec 32 := 0#32
  let v59 : BitVec 1 := Scalar.cmpi .slt v55 c0_i32_29
  let v60 : BitVec 32 := Scalar.extui v59
  let v61 : BitVec 32 := Scalar.subi v58 v60
  let c2_i32_27 : BitVec 32 := 2#32
  let c0_i32_30 : BitVec 32 := 0#32
  let v62 : BitVec 1 := Scalar.cmpi .sgt c2_i32_27 c0_i32_30
  let v63 : BitVec 32 := Scalar.extui v62
  let c0_i32_31 : BitVec 32 := 0#32
  let v64 : BitVec 1 := Scalar.cmpi .slt c2_i32_27 c0_i32_31
  let v65 : BitVec 32 := Scalar.extui v64
  let v66 : BitVec 32 := Scalar.subi v63 v65
  let v67 : BitVec 1 := Scalar.cmpi .ne v61 v66
  let v68 : BitVec 32 := Scalar.remsi v55 c2_i32_27
  let c0_i32_32 : BitVec 32 := 0#32
  let v69 : BitVec 1 := Scalar.cmpi .ne v68 c0_i32_32
  let v70 : BitVec 1 := Scalar.andi v67 v69
  let v56 : BitVec 32 := Scalar.divsi v55 c2_i32_27
  let c1_i32_33 : BitVec 32 := 1#32
  let v71 : BitVec 32 := Scalar.subi v56 c1_i32_33
  let v72 : BitVec 32 := Scalar.select v70 v71 v56
  let c4_i32_323 : BitVec 32 := 4#32
  let v441 : BitVec 32 := Scalar.muli v72 c4_i32_323
  let v442 : BitVec 32 := Scalar.addi c0_i32_324 v441
  let c1_i32_34 : BitVec 32 := 1#32
  let v73 : BitVec 1 := Scalar.cmpi .eq v55 c1_i32_34
  let c2_i32_35 : BitVec 32 := 2#32
  let v74 : BitVec 1 := Scalar.cmpi .eq v55 c2_i32_35
  let v75 : BitVec 1 := Scalar.ori v73 v74
  let v76 : BitVec 32 := Scalar.extui v75
  let c2_i32_325 : BitVec 32 := 2#32
  let v443 : BitVec 32 := Scalar.muli v76 c2_i32_325
  let v444 : BitVec 32 := Scalar.addi v442 v443
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_326 : BitVec 32 := 1#32
  let v445 : BitVec 32 := Scalar.muli v8 c1_i32_326
  let v446 : BitVec 32 := Scalar.addi v444 v445
  v446.toNat
def k0_off5 (d0 : Dev nD) (c0_i32_330 : BitVec 32) : Fin 3 → Nat :=
  let c0_i32_331 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c2048_i32_329 : BitVec 32 := 2048#32
  let v453 : BitVec 32 := Scalar.muli v11 c2048_i32_329
  let v454 : BitVec 32 := Scalar.addi v453 c0_i32_330
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_73 : BitVec 32 := 1024#32
  let v131 : BitVec 32 := Scalar.muli v8 c1024_i32_73
  ![0, v454.toNat, v131.toNat]
def k0_dev23 (d0 : Dev nD) : Nat :=
  let c0_i32_353 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_5 : BitVec 32 := 1#32
  let v13 : BitVec 32 := Scalar.addi v11 c1_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_352 : BitVec 32 := 4#32
  let v474 : BitVec 32 := Scalar.muli v40 c4_i32_352
  let v475 : BitVec 32 := Scalar.addi c0_i32_353 v474
  let c1_i32_18 : BitVec 32 := 1#32
  let v41 : BitVec 1 := Scalar.cmpi .eq v23 c1_i32_18
  let c2_i32_19 : BitVec 32 := 2#32
  let v42 : BitVec 1 := Scalar.cmpi .eq v23 c2_i32_19
  let v43 : BitVec 1 := Scalar.ori v41 v42
  let v44 : BitVec 32 := Scalar.extui v43
  let c2_i32_354 : BitVec 32 := 2#32
  let v476 : BitVec 32 := Scalar.muli v44 c2_i32_354
  let v477 : BitVec 32 := Scalar.addi v475 v476
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_355 : BitVec 32 := 1#32
  let v478 : BitVec 32 := Scalar.muli v8 c1_i32_355
  let v479 : BitVec 32 := Scalar.addi v477 v478
  v479.toNat
def k0_dev24 (d0 : Dev nD) : Nat :=
  let c0_i32_365 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_20 : BitVec 32 := 1#32
  let v45 : BitVec 32 := Scalar.subi v11 c1_i32_20
  let c4_i32_21 : BitVec 32 := 4#32
  let c0_i32_22 : BitVec 32 := 0#32
  let v46 : BitVec 1 := Scalar.cmpi .eq c4_i32_21 c0_i32_22
  let c1_i32_23 : BitVec 32 := 1#32
  let v47 : BitVec 32 := Scalar.select v46 c1_i32_23 c4_i32_21
  let v48 : BitVec 32 := Scalar.remsi v45 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let c0_i32_28 : BitVec 32 := 0#32
  let v57 : BitVec 1 := Scalar.cmpi .sgt v55 c0_i32_28
  let v58 : BitVec 32 := Scalar.extui v57
  let c0_i32_29 : BitVec 32 := 0#32
  let v59 : BitVec 1 := Scalar.cmpi .slt v55 c0_i32_29
  let v60 : BitVec 32 := Scalar.extui v59
  let v61 : BitVec 32 := Scalar.subi v58 v60
  let c2_i32_27 : BitVec 32 := 2#32
  let c0_i32_30 : BitVec 32 := 0#32
  let v62 : BitVec 1 := Scalar.cmpi .sgt c2_i32_27 c0_i32_30
  let v63 : BitVec 32 := Scalar.extui v62
  let c0_i32_31 : BitVec 32 := 0#32
  let v64 : BitVec 1 := Scalar.cmpi .slt c2_i32_27 c0_i32_31
  let v65 : BitVec 32 := Scalar.extui v64
  let v66 : BitVec 32 := Scalar.subi v63 v65
  let v67 : BitVec 1 := Scalar.cmpi .ne v61 v66
  let v68 : BitVec 32 := Scalar.remsi v55 c2_i32_27
  let c0_i32_32 : BitVec 32 := 0#32
  let v69 : BitVec 1 := Scalar.cmpi .ne v68 c0_i32_32
  let v70 : BitVec 1 := Scalar.andi v67 v69
  let v56 : BitVec 32 := Scalar.divsi v55 c2_i32_27
  let c1_i32_33 : BitVec 32 := 1#32
  let v71 : BitVec 32 := Scalar.subi v56 c1_i32_33
  let v72 : BitVec 32 := Scalar.select v70 v71 v56
  let c4_i32_364 : BitVec 32 := 4#32
  let v488 : BitVec 32 := Scalar.muli v72 c4_i32_364
  let v489 : BitVec 32 := Scalar.addi c0_i32_365 v488
  let c1_i32_34 : BitVec 32 := 1#32
  let v73 : BitVec 1 := Scalar.cmpi .eq v55 c1_i32_34
  let c2_i32_35 : BitVec 32 := 2#32
  let v74 : BitVec 1 := Scalar.cmpi .eq v55 c2_i32_35
  let v75 : BitVec 1 := Scalar.ori v73 v74
  let v76 : BitVec 32 := Scalar.extui v75
  let c2_i32_366 : BitVec 32 := 2#32
  let v490 : BitVec 32 := Scalar.muli v76 c2_i32_366
  let v491 : BitVec 32 := Scalar.addi v489 v490
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_367 : BitVec 32 := 1#32
  let v492 : BitVec 32 := Scalar.muli v8 c1_i32_367
  let v493 : BitVec 32 := Scalar.addi v491 v492
  v493.toNat
def k0_dev25 (d0 : Dev nD) : Nat :=
  let c0_i32_387 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_5 : BitVec 32 := 1#32
  let v13 : BitVec 32 := Scalar.addi v11 c1_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_386 : BitVec 32 := 4#32
  let v513 : BitVec 32 := Scalar.muli v40 c4_i32_386
  let v514 : BitVec 32 := Scalar.addi c0_i32_387 v513
  let c1_i32_18 : BitVec 32 := 1#32
  let v41 : BitVec 1 := Scalar.cmpi .eq v23 c1_i32_18
  let c2_i32_19 : BitVec 32 := 2#32
  let v42 : BitVec 1 := Scalar.cmpi .eq v23 c2_i32_19
  let v43 : BitVec 1 := Scalar.ori v41 v42
  let v44 : BitVec 32 := Scalar.extui v43
  let c2_i32_388 : BitVec 32 := 2#32
  let v515 : BitVec 32 := Scalar.muli v44 c2_i32_388
  let v516 : BitVec 32 := Scalar.addi v514 v515
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_389 : BitVec 32 := 1#32
  let v517 : BitVec 32 := Scalar.muli v8 c1_i32_389
  let v518 : BitVec 32 := Scalar.addi v516 v517
  v518.toNat
def k0_dev26 (d0 : Dev nD) : Nat :=
  let c0_i32_399 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_20 : BitVec 32 := 1#32
  let v45 : BitVec 32 := Scalar.subi v11 c1_i32_20
  let c4_i32_21 : BitVec 32 := 4#32
  let c0_i32_22 : BitVec 32 := 0#32
  let v46 : BitVec 1 := Scalar.cmpi .eq c4_i32_21 c0_i32_22
  let c1_i32_23 : BitVec 32 := 1#32
  let v47 : BitVec 32 := Scalar.select v46 c1_i32_23 c4_i32_21
  let v48 : BitVec 32 := Scalar.remsi v45 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let c0_i32_28 : BitVec 32 := 0#32
  let v57 : BitVec 1 := Scalar.cmpi .sgt v55 c0_i32_28
  let v58 : BitVec 32 := Scalar.extui v57
  let c0_i32_29 : BitVec 32 := 0#32
  let v59 : BitVec 1 := Scalar.cmpi .slt v55 c0_i32_29
  let v60 : BitVec 32 := Scalar.extui v59
  let v61 : BitVec 32 := Scalar.subi v58 v60
  let c2_i32_27 : BitVec 32 := 2#32
  let c0_i32_30 : BitVec 32 := 0#32
  let v62 : BitVec 1 := Scalar.cmpi .sgt c2_i32_27 c0_i32_30
  let v63 : BitVec 32 := Scalar.extui v62
  let c0_i32_31 : BitVec 32 := 0#32
  let v64 : BitVec 1 := Scalar.cmpi .slt c2_i32_27 c0_i32_31
  let v65 : BitVec 32 := Scalar.extui v64
  let v66 : BitVec 32 := Scalar.subi v63 v65
  let v67 : BitVec 1 := Scalar.cmpi .ne v61 v66
  let v68 : BitVec 32 := Scalar.remsi v55 c2_i32_27
  let c0_i32_32 : BitVec 32 := 0#32
  let v69 : BitVec 1 := Scalar.cmpi .ne v68 c0_i32_32
  let v70 : BitVec 1 := Scalar.andi v67 v69
  let v56 : BitVec 32 := Scalar.divsi v55 c2_i32_27
  let c1_i32_33 : BitVec 32 := 1#32
  let v71 : BitVec 32 := Scalar.subi v56 c1_i32_33
  let v72 : BitVec 32 := Scalar.select v70 v71 v56
  let c4_i32_398 : BitVec 32 := 4#32
  let v527 : BitVec 32 := Scalar.muli v72 c4_i32_398
  let v528 : BitVec 32 := Scalar.addi c0_i32_399 v527
  let c1_i32_34 : BitVec 32 := 1#32
  let v73 : BitVec 1 := Scalar.cmpi .eq v55 c1_i32_34
  let c2_i32_35 : BitVec 32 := 2#32
  let v74 : BitVec 1 := Scalar.cmpi .eq v55 c2_i32_35
  let v75 : BitVec 1 := Scalar.ori v73 v74
  let v76 : BitVec 32 := Scalar.extui v75
  let c2_i32_400 : BitVec 32 := 2#32
  let v529 : BitVec 32 := Scalar.muli v76 c2_i32_400
  let v530 : BitVec 32 := Scalar.addi v528 v529
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_401 : BitVec 32 := 1#32
  let v531 : BitVec 32 := Scalar.muli v8 c1_i32_401
  let v532 : BitVec 32 := Scalar.addi v530 v531
  v532.toNat
def k0_dev27 (d0 : Dev nD) : Nat :=
  let c0_i32_421 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_5 : BitVec 32 := 1#32
  let v13 : BitVec 32 := Scalar.addi v11 c1_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_420 : BitVec 32 := 4#32
  let v552 : BitVec 32 := Scalar.muli v40 c4_i32_420
  let v553 : BitVec 32 := Scalar.addi c0_i32_421 v552
  let c1_i32_18 : BitVec 32 := 1#32
  let v41 : BitVec 1 := Scalar.cmpi .eq v23 c1_i32_18
  let c2_i32_19 : BitVec 32 := 2#32
  let v42 : BitVec 1 := Scalar.cmpi .eq v23 c2_i32_19
  let v43 : BitVec 1 := Scalar.ori v41 v42
  let v44 : BitVec 32 := Scalar.extui v43
  let c2_i32_422 : BitVec 32 := 2#32
  let v554 : BitVec 32 := Scalar.muli v44 c2_i32_422
  let v555 : BitVec 32 := Scalar.addi v553 v554
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_423 : BitVec 32 := 1#32
  let v556 : BitVec 32 := Scalar.muli v8 c1_i32_423
  let v557 : BitVec 32 := Scalar.addi v555 v556
  v557.toNat
def k0_dev28 (d0 : Dev nD) : Nat :=
  let c0_i32_433 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_20 : BitVec 32 := 1#32
  let v45 : BitVec 32 := Scalar.subi v11 c1_i32_20
  let c4_i32_21 : BitVec 32 := 4#32
  let c0_i32_22 : BitVec 32 := 0#32
  let v46 : BitVec 1 := Scalar.cmpi .eq c4_i32_21 c0_i32_22
  let c1_i32_23 : BitVec 32 := 1#32
  let v47 : BitVec 32 := Scalar.select v46 c1_i32_23 c4_i32_21
  let v48 : BitVec 32 := Scalar.remsi v45 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let c0_i32_28 : BitVec 32 := 0#32
  let v57 : BitVec 1 := Scalar.cmpi .sgt v55 c0_i32_28
  let v58 : BitVec 32 := Scalar.extui v57
  let c0_i32_29 : BitVec 32 := 0#32
  let v59 : BitVec 1 := Scalar.cmpi .slt v55 c0_i32_29
  let v60 : BitVec 32 := Scalar.extui v59
  let v61 : BitVec 32 := Scalar.subi v58 v60
  let c2_i32_27 : BitVec 32 := 2#32
  let c0_i32_30 : BitVec 32 := 0#32
  let v62 : BitVec 1 := Scalar.cmpi .sgt c2_i32_27 c0_i32_30
  let v63 : BitVec 32 := Scalar.extui v62
  let c0_i32_31 : BitVec 32 := 0#32
  let v64 : BitVec 1 := Scalar.cmpi .slt c2_i32_27 c0_i32_31
  let v65 : BitVec 32 := Scalar.extui v64
  let v66 : BitVec 32 := Scalar.subi v63 v65
  let v67 : BitVec 1 := Scalar.cmpi .ne v61 v66
  let v68 : BitVec 32 := Scalar.remsi v55 c2_i32_27
  let c0_i32_32 : BitVec 32 := 0#32
  let v69 : BitVec 1 := Scalar.cmpi .ne v68 c0_i32_32
  let v70 : BitVec 1 := Scalar.andi v67 v69
  let v56 : BitVec 32 := Scalar.divsi v55 c2_i32_27
  let c1_i32_33 : BitVec 32 := 1#32
  let v71 : BitVec 32 := Scalar.subi v56 c1_i32_33
  let v72 : BitVec 32 := Scalar.select v70 v71 v56
  let c4_i32_432 : BitVec 32 := 4#32
  let v566 : BitVec 32 := Scalar.muli v72 c4_i32_432
  let v567 : BitVec 32 := Scalar.addi c0_i32_433 v566
  let c1_i32_34 : BitVec 32 := 1#32
  let v73 : BitVec 1 := Scalar.cmpi .eq v55 c1_i32_34
  let c2_i32_35 : BitVec 32 := 2#32
  let v74 : BitVec 1 := Scalar.cmpi .eq v55 c2_i32_35
  let v75 : BitVec 1 := Scalar.ori v73 v74
  let v76 : BitVec 32 := Scalar.extui v75
  let c2_i32_434 : BitVec 32 := 2#32
  let v568 : BitVec 32 := Scalar.muli v76 c2_i32_434
  let v569 : BitVec 32 := Scalar.addi v567 v568
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_435 : BitVec 32 := 1#32
  let v570 : BitVec 32 := Scalar.muli v8 c1_i32_435
  let v571 : BitVec 32 := Scalar.addi v569 v570
  v571.toNat
def k0_dev29 (d0 : Dev nD) : Nat :=
  let c0_i32_455 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_5 : BitVec 32 := 1#32
  let v13 : BitVec 32 := Scalar.addi v11 c1_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_454 : BitVec 32 := 4#32
  let v591 : BitVec 32 := Scalar.muli v40 c4_i32_454
  let v592 : BitVec 32 := Scalar.addi c0_i32_455 v591
  let c1_i32_18 : BitVec 32 := 1#32
  let v41 : BitVec 1 := Scalar.cmpi .eq v23 c1_i32_18
  let c2_i32_19 : BitVec 32 := 2#32
  let v42 : BitVec 1 := Scalar.cmpi .eq v23 c2_i32_19
  let v43 : BitVec 1 := Scalar.ori v41 v42
  let v44 : BitVec 32 := Scalar.extui v43
  let c2_i32_456 : BitVec 32 := 2#32
  let v593 : BitVec 32 := Scalar.muli v44 c2_i32_456
  let v594 : BitVec 32 := Scalar.addi v592 v593
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_457 : BitVec 32 := 1#32
  let v595 : BitVec 32 := Scalar.muli v8 c1_i32_457
  let v596 : BitVec 32 := Scalar.addi v594 v595
  v596.toNat
def k0_dev30 (d0 : Dev nD) : Nat :=
  let c0_i32_467 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_20 : BitVec 32 := 1#32
  let v45 : BitVec 32 := Scalar.subi v11 c1_i32_20
  let c4_i32_21 : BitVec 32 := 4#32
  let c0_i32_22 : BitVec 32 := 0#32
  let v46 : BitVec 1 := Scalar.cmpi .eq c4_i32_21 c0_i32_22
  let c1_i32_23 : BitVec 32 := 1#32
  let v47 : BitVec 32 := Scalar.select v46 c1_i32_23 c4_i32_21
  let v48 : BitVec 32 := Scalar.remsi v45 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let c0_i32_28 : BitVec 32 := 0#32
  let v57 : BitVec 1 := Scalar.cmpi .sgt v55 c0_i32_28
  let v58 : BitVec 32 := Scalar.extui v57
  let c0_i32_29 : BitVec 32 := 0#32
  let v59 : BitVec 1 := Scalar.cmpi .slt v55 c0_i32_29
  let v60 : BitVec 32 := Scalar.extui v59
  let v61 : BitVec 32 := Scalar.subi v58 v60
  let c2_i32_27 : BitVec 32 := 2#32
  let c0_i32_30 : BitVec 32 := 0#32
  let v62 : BitVec 1 := Scalar.cmpi .sgt c2_i32_27 c0_i32_30
  let v63 : BitVec 32 := Scalar.extui v62
  let c0_i32_31 : BitVec 32 := 0#32
  let v64 : BitVec 1 := Scalar.cmpi .slt c2_i32_27 c0_i32_31
  let v65 : BitVec 32 := Scalar.extui v64
  let v66 : BitVec 32 := Scalar.subi v63 v65
  let v67 : BitVec 1 := Scalar.cmpi .ne v61 v66
  let v68 : BitVec 32 := Scalar.remsi v55 c2_i32_27
  let c0_i32_32 : BitVec 32 := 0#32
  let v69 : BitVec 1 := Scalar.cmpi .ne v68 c0_i32_32
  let v70 : BitVec 1 := Scalar.andi v67 v69
  let v56 : BitVec 32 := Scalar.divsi v55 c2_i32_27
  let c1_i32_33 : BitVec 32 := 1#32
  let v71 : BitVec 32 := Scalar.subi v56 c1_i32_33
  let v72 : BitVec 32 := Scalar.select v70 v71 v56
  let c4_i32_466 : BitVec 32 := 4#32
  let v605 : BitVec 32 := Scalar.muli v72 c4_i32_466
  let v606 : BitVec 32 := Scalar.addi c0_i32_467 v605
  let c1_i32_34 : BitVec 32 := 1#32
  let v73 : BitVec 1 := Scalar.cmpi .eq v55 c1_i32_34
  let c2_i32_35 : BitVec 32 := 2#32
  let v74 : BitVec 1 := Scalar.cmpi .eq v55 c2_i32_35
  let v75 : BitVec 1 := Scalar.ori v73 v74
  let v76 : BitVec 32 := Scalar.extui v75
  let c2_i32_468 : BitVec 32 := 2#32
  let v607 : BitVec 32 := Scalar.muli v76 c2_i32_468
  let v608 : BitVec 32 := Scalar.addi v606 v607
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_469 : BitVec 32 := 1#32
  let v609 : BitVec 32 := Scalar.muli v8 c1_i32_469
  let v610 : BitVec 32 := Scalar.addi v608 v609
  v610.toNat
def k0_off6 (d0 : Dev nD) (c0_i32_480 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_36 : BitVec 32 := 1#32
  let v77 : BitVec 32 := Scalar.subi v11 c1_i32_36
  let c4_i32_37 : BitVec 32 := 4#32
  let c0_i32_38 : BitVec 32 := 0#32
  let v78 : BitVec 1 := Scalar.cmpi .eq c4_i32_37 c0_i32_38
  let c1_i32_39 : BitVec 32 := 1#32
  let v79 : BitVec 32 := Scalar.select v78 c1_i32_39 c4_i32_37
  let v80 : BitVec 32 := Scalar.remsi v77 v79
  let c0_i32_41 : BitVec 32 := 0#32
  let v82 : BitVec 1 := Scalar.cmpi .slt v80 c0_i32_41
  let c0_i32_42 : BitVec 32 := 0#32
  let v83 : BitVec 1 := Scalar.cmpi .slt v79 c0_i32_42
  let v84 : BitVec 1 := Scalar.xori v82 v83
  let c0_i32_40 : BitVec 32 := 0#32
  let v81 : BitVec 1 := Scalar.cmpi .ne v80 c0_i32_40
  let v85 : BitVec 1 := Scalar.andi v84 v81
  let v86 : BitVec 32 := Scalar.addi v80 v79
  let v87 : BitVec 32 := Scalar.select v85 v86 v80
  let c2048_i32_479 : BitVec 32 := 2048#32
  let v625 : BitVec 32 := Scalar.muli v87 c2048_i32_479
  let v626 : BitVec 32 := Scalar.addi v625 c0_i32_480
  let c0_i32_489 : BitVec 32 := 0#32
  ![v626.toNat, 0]
def k0_dev31 (d0 : Dev nD) : Nat :=
  let c0_i32_534 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_5 : BitVec 32 := 1#32
  let v13 : BitVec 32 := Scalar.addi v11 c1_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_533 : BitVec 32 := 4#32
  let v675 : BitVec 32 := Scalar.muli v40 c4_i32_533
  let v676 : BitVec 32 := Scalar.addi c0_i32_534 v675
  let c1_i32_18 : BitVec 32 := 1#32
  let v41 : BitVec 1 := Scalar.cmpi .eq v23 c1_i32_18
  let c2_i32_19 : BitVec 32 := 2#32
  let v42 : BitVec 1 := Scalar.cmpi .eq v23 c2_i32_19
  let v43 : BitVec 1 := Scalar.ori v41 v42
  let v44 : BitVec 32 := Scalar.extui v43
  let c2_i32_535 : BitVec 32 := 2#32
  let v677 : BitVec 32 := Scalar.muli v44 c2_i32_535
  let v678 : BitVec 32 := Scalar.addi v676 v677
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_536 : BitVec 32 := 1#32
  let v679 : BitVec 32 := Scalar.muli v8 c1_i32_536
  let v680 : BitVec 32 := Scalar.addi v678 v679
  v680.toNat
def k0_dev32 (d0 : Dev nD) : Nat :=
  let c0_i32_570 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_20 : BitVec 32 := 1#32
  let v45 : BitVec 32 := Scalar.subi v11 c1_i32_20
  let c4_i32_21 : BitVec 32 := 4#32
  let c0_i32_22 : BitVec 32 := 0#32
  let v46 : BitVec 1 := Scalar.cmpi .eq c4_i32_21 c0_i32_22
  let c1_i32_23 : BitVec 32 := 1#32
  let v47 : BitVec 32 := Scalar.select v46 c1_i32_23 c4_i32_21
  let v48 : BitVec 32 := Scalar.remsi v45 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let c0_i32_28 : BitVec 32 := 0#32
  let v57 : BitVec 1 := Scalar.cmpi .sgt v55 c0_i32_28
  let v58 : BitVec 32 := Scalar.extui v57
  let c0_i32_29 : BitVec 32 := 0#32
  let v59 : BitVec 1 := Scalar.cmpi .slt v55 c0_i32_29
  let v60 : BitVec 32 := Scalar.extui v59
  let v61 : BitVec 32 := Scalar.subi v58 v60
  let c2_i32_27 : BitVec 32 := 2#32
  let c0_i32_30 : BitVec 32 := 0#32
  let v62 : BitVec 1 := Scalar.cmpi .sgt c2_i32_27 c0_i32_30
  let v63 : BitVec 32 := Scalar.extui v62
  let c0_i32_31 : BitVec 32 := 0#32
  let v64 : BitVec 1 := Scalar.cmpi .slt c2_i32_27 c0_i32_31
  let v65 : BitVec 32 := Scalar.extui v64
  let v66 : BitVec 32 := Scalar.subi v63 v65
  let v67 : BitVec 1 := Scalar.cmpi .ne v61 v66
  let v68 : BitVec 32 := Scalar.remsi v55 c2_i32_27
  let c0_i32_32 : BitVec 32 := 0#32
  let v69 : BitVec 1 := Scalar.cmpi .ne v68 c0_i32_32
  let v70 : BitVec 1 := Scalar.andi v67 v69
  let v56 : BitVec 32 := Scalar.divsi v55 c2_i32_27
  let c1_i32_33 : BitVec 32 := 1#32
  let v71 : BitVec 32 := Scalar.subi v56 c1_i32_33
  let v72 : BitVec 32 := Scalar.select v70 v71 v56
  let c4_i32_569 : BitVec 32 := 4#32
  let v713 : BitVec 32 := Scalar.muli v72 c4_i32_569
  let v714 : BitVec 32 := Scalar.addi c0_i32_570 v713
  let c1_i32_34 : BitVec 32 := 1#32
  let v73 : BitVec 1 := Scalar.cmpi .eq v55 c1_i32_34
  let c2_i32_35 : BitVec 32 := 2#32
  let v74 : BitVec 1 := Scalar.cmpi .eq v55 c2_i32_35
  let v75 : BitVec 1 := Scalar.ori v73 v74
  let v76 : BitVec 32 := Scalar.extui v75
  let c2_i32_571 : BitVec 32 := 2#32
  let v715 : BitVec 32 := Scalar.muli v76 c2_i32_571
  let v716 : BitVec 32 := Scalar.addi v714 v715
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_572 : BitVec 32 := 1#32
  let v717 : BitVec 32 := Scalar.muli v8 c1_i32_572
  let v718 : BitVec 32 := Scalar.addi v716 v717
  v718.toNat
def k0_off7 (d0 : Dev nD) (c0_i32_330 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c2048_i32_329 : BitVec 32 := 2048#32
  let v453 : BitVec 32 := Scalar.muli v11 c2048_i32_329
  let v454 : BitVec 32 := Scalar.addi v453 c0_i32_330
  let v759 : Index := Scalar.indexCast v454
  let c0_608 : Index := 0#32
  ![v759.toNat, 0]
def k0_off8 (d0 : Dev nD) (c0_i32_330 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c2048_i32_329 : BitVec 32 := 2048#32
  let v453 : BitVec 32 := Scalar.muli v11 c2048_i32_329
  let v454 : BitVec 32 := Scalar.addi v453 c0_i32_330
  let c0_i32_614 : BitVec 32 := 0#32
  ![v454.toNat, 0]
def k0_off9 (d0 : Dev nD) (c0_i32_600 : BitVec 32) : Fin 3 → Nat :=
  let c0_i32_617 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_36 : BitVec 32 := 1#32
  let v77 : BitVec 32 := Scalar.subi v11 c1_i32_36
  let c4_i32_37 : BitVec 32 := 4#32
  let c0_i32_38 : BitVec 32 := 0#32
  let v78 : BitVec 1 := Scalar.cmpi .eq c4_i32_37 c0_i32_38
  let c1_i32_39 : BitVec 32 := 1#32
  let v79 : BitVec 32 := Scalar.select v78 c1_i32_39 c4_i32_37
  let v80 : BitVec 32 := Scalar.remsi v77 v79
  let c0_i32_41 : BitVec 32 := 0#32
  let v82 : BitVec 1 := Scalar.cmpi .slt v80 c0_i32_41
  let c0_i32_42 : BitVec 32 := 0#32
  let v83 : BitVec 1 := Scalar.cmpi .slt v79 c0_i32_42
  let v84 : BitVec 1 := Scalar.xori v82 v83
  let c0_i32_40 : BitVec 32 := 0#32
  let v81 : BitVec 1 := Scalar.cmpi .ne v80 c0_i32_40
  let v85 : BitVec 1 := Scalar.andi v84 v81
  let v86 : BitVec 32 := Scalar.addi v80 v79
  let v87 : BitVec 32 := Scalar.select v85 v86 v80
  let c2048_i32_599 : BitVec 32 := 2048#32
  let v749 : BitVec 32 := Scalar.muli v87 c2048_i32_599
  let v750 : BitVec 32 := Scalar.addi v749 c0_i32_600
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_73 : BitVec 32 := 1024#32
  let v131 : BitVec 32 := Scalar.muli v8 c1024_i32_73
  ![0, v750.toNat, v131.toNat]
def k0_off10 (d0 : Dev nD) (c1_i32_43 : BitVec 32) (c0_i32_623 : BitVec 32) : Fin 3 → Nat :=
  let c0_i32_640 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let v88 : BitVec 32 := Scalar.addi v11 c1_i32_43
  let c4_i32_44 : BitVec 32 := 4#32
  let c0_i32_45 : BitVec 32 := 0#32
  let v89 : BitVec 1 := Scalar.cmpi .eq c4_i32_44 c0_i32_45
  let c1_i32_46 : BitVec 32 := 1#32
  let v90 : BitVec 32 := Scalar.select v89 c1_i32_46 c4_i32_44
  let v91 : BitVec 32 := Scalar.remsi v88 v90
  let c0_i32_48 : BitVec 32 := 0#32
  let v93 : BitVec 1 := Scalar.cmpi .slt v91 c0_i32_48
  let c0_i32_49 : BitVec 32 := 0#32
  let v94 : BitVec 1 := Scalar.cmpi .slt v90 c0_i32_49
  let v95 : BitVec 1 := Scalar.xori v93 v94
  let c0_i32_47 : BitVec 32 := 0#32
  let v92 : BitVec 1 := Scalar.cmpi .ne v91 c0_i32_47
  let v96 : BitVec 1 := Scalar.andi v95 v92
  let v97 : BitVec 32 := Scalar.addi v91 v90
  let v98 : BitVec 32 := Scalar.select v96 v97 v91
  let c2048_i32_622 : BitVec 32 := 2048#32
  let v776 : BitVec 32 := Scalar.muli v98 c2048_i32_622
  let v777 : BitVec 32 := Scalar.addi v776 c0_i32_623
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_73 : BitVec 32 := 1024#32
  let v131 : BitVec 32 := Scalar.muli v8 c1024_i32_73
  ![0, v777.toNat, v131.toNat]
def k0_dev33 (d0 : Dev nD) : Nat :=
  let c0_i32_676 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_5 : BitVec 32 := 1#32
  let v13 : BitVec 32 := Scalar.addi v11 c1_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_675 : BitVec 32 := 4#32
  let v829 : BitVec 32 := Scalar.muli v40 c4_i32_675
  let v830 : BitVec 32 := Scalar.addi c0_i32_676 v829
  let c1_i32_18 : BitVec 32 := 1#32
  let v41 : BitVec 1 := Scalar.cmpi .eq v23 c1_i32_18
  let c2_i32_19 : BitVec 32 := 2#32
  let v42 : BitVec 1 := Scalar.cmpi .eq v23 c2_i32_19
  let v43 : BitVec 1 := Scalar.ori v41 v42
  let v44 : BitVec 32 := Scalar.extui v43
  let c2_i32_677 : BitVec 32 := 2#32
  let v831 : BitVec 32 := Scalar.muli v44 c2_i32_677
  let v832 : BitVec 32 := Scalar.addi v830 v831
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_678 : BitVec 32 := 1#32
  let v833 : BitVec 32 := Scalar.muli v8 c1_i32_678
  let v834 : BitVec 32 := Scalar.addi v832 v833
  v834.toNat
def k0_dev34 (d0 : Dev nD) : Nat :=
  let c0_i32_712 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_20 : BitVec 32 := 1#32
  let v45 : BitVec 32 := Scalar.subi v11 c1_i32_20
  let c4_i32_21 : BitVec 32 := 4#32
  let c0_i32_22 : BitVec 32 := 0#32
  let v46 : BitVec 1 := Scalar.cmpi .eq c4_i32_21 c0_i32_22
  let c1_i32_23 : BitVec 32 := 1#32
  let v47 : BitVec 32 := Scalar.select v46 c1_i32_23 c4_i32_21
  let v48 : BitVec 32 := Scalar.remsi v45 v47
  let c0_i32_25 : BitVec 32 := 0#32
  let v50 : BitVec 1 := Scalar.cmpi .slt v48 c0_i32_25
  let c0_i32_26 : BitVec 32 := 0#32
  let v51 : BitVec 1 := Scalar.cmpi .slt v47 c0_i32_26
  let v52 : BitVec 1 := Scalar.xori v50 v51
  let c0_i32_24 : BitVec 32 := 0#32
  let v49 : BitVec 1 := Scalar.cmpi .ne v48 c0_i32_24
  let v53 : BitVec 1 := Scalar.andi v52 v49
  let v54 : BitVec 32 := Scalar.addi v48 v47
  let v55 : BitVec 32 := Scalar.select v53 v54 v48
  let c0_i32_28 : BitVec 32 := 0#32
  let v57 : BitVec 1 := Scalar.cmpi .sgt v55 c0_i32_28
  let v58 : BitVec 32 := Scalar.extui v57
  let c0_i32_29 : BitVec 32 := 0#32
  let v59 : BitVec 1 := Scalar.cmpi .slt v55 c0_i32_29
  let v60 : BitVec 32 := Scalar.extui v59
  let v61 : BitVec 32 := Scalar.subi v58 v60
  let c2_i32_27 : BitVec 32 := 2#32
  let c0_i32_30 : BitVec 32 := 0#32
  let v62 : BitVec 1 := Scalar.cmpi .sgt c2_i32_27 c0_i32_30
  let v63 : BitVec 32 := Scalar.extui v62
  let c0_i32_31 : BitVec 32 := 0#32
  let v64 : BitVec 1 := Scalar.cmpi .slt c2_i32_27 c0_i32_31
  let v65 : BitVec 32 := Scalar.extui v64
  let v66 : BitVec 32 := Scalar.subi v63 v65
  let v67 : BitVec 1 := Scalar.cmpi .ne v61 v66
  let v68 : BitVec 32 := Scalar.remsi v55 c2_i32_27
  let c0_i32_32 : BitVec 32 := 0#32
  let v69 : BitVec 1 := Scalar.cmpi .ne v68 c0_i32_32
  let v70 : BitVec 1 := Scalar.andi v67 v69
  let v56 : BitVec 32 := Scalar.divsi v55 c2_i32_27
  let c1_i32_33 : BitVec 32 := 1#32
  let v71 : BitVec 32 := Scalar.subi v56 c1_i32_33
  let v72 : BitVec 32 := Scalar.select v70 v71 v56
  let c4_i32_711 : BitVec 32 := 4#32
  let v867 : BitVec 32 := Scalar.muli v72 c4_i32_711
  let v868 : BitVec 32 := Scalar.addi c0_i32_712 v867
  let c1_i32_34 : BitVec 32 := 1#32
  let v73 : BitVec 1 := Scalar.cmpi .eq v55 c1_i32_34
  let c2_i32_35 : BitVec 32 := 2#32
  let v74 : BitVec 1 := Scalar.cmpi .eq v55 c2_i32_35
  let v75 : BitVec 1 := Scalar.ori v73 v74
  let v76 : BitVec 32 := Scalar.extui v75
  let c2_i32_713 : BitVec 32 := 2#32
  let v869 : BitVec 32 := Scalar.muli v76 c2_i32_713
  let v870 : BitVec 32 := Scalar.addi v868 v869
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_714 : BitVec 32 := 1#32
  let v871 : BitVec 32 := Scalar.muli v8 c1_i32_714
  let v872 : BitVec 32 := Scalar.addi v870 v871
  v872.toNat
def k0_dev35 (d0 : Dev nD) : Nat :=
  let c0_i32_772 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_5 : BitVec 32 := 1#32
  let v13 : BitVec 32 := Scalar.addi v11 c1_i32_5
  let c4_i32_6 : BitVec 32 := 4#32
  let c0_i32 : BitVec 32 := 0#32
  let v14 : BitVec 1 := Scalar.cmpi .eq c4_i32_6 c0_i32
  let c1_i32_7 : BitVec 32 := 1#32
  let v15 : BitVec 32 := Scalar.select v14 c1_i32_7 c4_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c0_i32_12 : BitVec 32 := 0#32
  let v25 : BitVec 1 := Scalar.cmpi .sgt v23 c0_i32_12
  let v26 : BitVec 32 := Scalar.extui v25
  let c0_i32_13 : BitVec 32 := 0#32
  let v27 : BitVec 1 := Scalar.cmpi .slt v23 c0_i32_13
  let v28 : BitVec 32 := Scalar.extui v27
  let v29 : BitVec 32 := Scalar.subi v26 v28
  let c2_i32_11 : BitVec 32 := 2#32
  let c0_i32_14 : BitVec 32 := 0#32
  let v30 : BitVec 1 := Scalar.cmpi .sgt c2_i32_11 c0_i32_14
  let v31 : BitVec 32 := Scalar.extui v30
  let c0_i32_15 : BitVec 32 := 0#32
  let v32 : BitVec 1 := Scalar.cmpi .slt c2_i32_11 c0_i32_15
  let v33 : BitVec 32 := Scalar.extui v32
  let v34 : BitVec 32 := Scalar.subi v31 v33
  let v35 : BitVec 1 := Scalar.cmpi .ne v29 v34
  let v36 : BitVec 32 := Scalar.remsi v23 c2_i32_11
  let c0_i32_16 : BitVec 32 := 0#32
  let v37 : BitVec 1 := Scalar.cmpi .ne v36 c0_i32_16
  let v38 : BitVec 1 := Scalar.andi v35 v37
  let v24 : BitVec 32 := Scalar.divsi v23 c2_i32_11
  let c1_i32_17 : BitVec 32 := 1#32
  let v39 : BitVec 32 := Scalar.subi v24 c1_i32_17
  let v40 : BitVec 32 := Scalar.select v38 v39 v24
  let c4_i32_771 : BitVec 32 := 4#32
  let v929 : BitVec 32 := Scalar.muli v40 c4_i32_771
  let v930 : BitVec 32 := Scalar.addi c0_i32_772 v929
  let c1_i32_18 : BitVec 32 := 1#32
  let v41 : BitVec 1 := Scalar.cmpi .eq v23 c1_i32_18
  let c2_i32_19 : BitVec 32 := 2#32
  let v42 : BitVec 1 := Scalar.cmpi .eq v23 c2_i32_19
  let v43 : BitVec 1 := Scalar.ori v41 v42
  let v44 : BitVec 32 := Scalar.extui v43
  let c2_i32_773 : BitVec 32 := 2#32
  let v931 : BitVec 32 := Scalar.muli v44 c2_i32_773
  let v932 : BitVec 32 := Scalar.addi v930 v931
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_774 : BitVec 32 := 1#32
  let v933 : BitVec 32 := Scalar.muli v8 c1_i32_774
  let v934 : BitVec 32 := Scalar.addi v932 v933
  v934.toNat
def k0_off11 (d0 : Dev nD) (c0_i32_600 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_36 : BitVec 32 := 1#32
  let v77 : BitVec 32 := Scalar.subi v11 c1_i32_36
  let c4_i32_37 : BitVec 32 := 4#32
  let c0_i32_38 : BitVec 32 := 0#32
  let v78 : BitVec 1 := Scalar.cmpi .eq c4_i32_37 c0_i32_38
  let c1_i32_39 : BitVec 32 := 1#32
  let v79 : BitVec 32 := Scalar.select v78 c1_i32_39 c4_i32_37
  let v80 : BitVec 32 := Scalar.remsi v77 v79
  let c0_i32_41 : BitVec 32 := 0#32
  let v82 : BitVec 1 := Scalar.cmpi .slt v80 c0_i32_41
  let c0_i32_42 : BitVec 32 := 0#32
  let v83 : BitVec 1 := Scalar.cmpi .slt v79 c0_i32_42
  let v84 : BitVec 1 := Scalar.xori v82 v83
  let c0_i32_40 : BitVec 32 := 0#32
  let v81 : BitVec 1 := Scalar.cmpi .ne v80 c0_i32_40
  let v85 : BitVec 1 := Scalar.andi v84 v81
  let v86 : BitVec 32 := Scalar.addi v80 v79
  let v87 : BitVec 32 := Scalar.select v85 v86 v80
  let c2048_i32_599 : BitVec 32 := 2048#32
  let v749 : BitVec 32 := Scalar.muli v87 c2048_i32_599
  let v750 : BitVec 32 := Scalar.addi v749 c0_i32_600
  let v956 : Index := Scalar.indexCast v750
  let c0_792 : Index := 0#32
  ![v956.toNat, 0]
def k0_off12 (d0 : Dev nD) (c0_i32_600 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let c1_i32_36 : BitVec 32 := 1#32
  let v77 : BitVec 32 := Scalar.subi v11 c1_i32_36
  let c4_i32_37 : BitVec 32 := 4#32
  let c0_i32_38 : BitVec 32 := 0#32
  let v78 : BitVec 1 := Scalar.cmpi .eq c4_i32_37 c0_i32_38
  let c1_i32_39 : BitVec 32 := 1#32
  let v79 : BitVec 32 := Scalar.select v78 c1_i32_39 c4_i32_37
  let v80 : BitVec 32 := Scalar.remsi v77 v79
  let c0_i32_41 : BitVec 32 := 0#32
  let v82 : BitVec 1 := Scalar.cmpi .slt v80 c0_i32_41
  let c0_i32_42 : BitVec 32 := 0#32
  let v83 : BitVec 1 := Scalar.cmpi .slt v79 c0_i32_42
  let v84 : BitVec 1 := Scalar.xori v82 v83
  let c0_i32_40 : BitVec 32 := 0#32
  let v81 : BitVec 1 := Scalar.cmpi .ne v80 c0_i32_40
  let v85 : BitVec 1 := Scalar.andi v84 v81
  let v86 : BitVec 32 := Scalar.addi v80 v79
  let v87 : BitVec 32 := Scalar.select v85 v86 v80
  let c2048_i32_599 : BitVec 32 := 2048#32
  let v749 : BitVec 32 := Scalar.muli v87 c2048_i32_599
  let v750 : BitVec 32 := Scalar.addi v749 c0_i32_600
  let c0_i32_798 : BitVec 32 := 0#32
  ![v750.toNat, 0]
def k0_off13 (d0 : Dev nD) (c1_i32_43 : BitVec 32) (c0_i32_623 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let v88 : BitVec 32 := Scalar.addi v11 c1_i32_43
  let c4_i32_44 : BitVec 32 := 4#32
  let c0_i32_45 : BitVec 32 := 0#32
  let v89 : BitVec 1 := Scalar.cmpi .eq c4_i32_44 c0_i32_45
  let c1_i32_46 : BitVec 32 := 1#32
  let v90 : BitVec 32 := Scalar.select v89 c1_i32_46 c4_i32_44
  let v91 : BitVec 32 := Scalar.remsi v88 v90
  let c0_i32_48 : BitVec 32 := 0#32
  let v93 : BitVec 1 := Scalar.cmpi .slt v91 c0_i32_48
  let c0_i32_49 : BitVec 32 := 0#32
  let v94 : BitVec 1 := Scalar.cmpi .slt v90 c0_i32_49
  let v95 : BitVec 1 := Scalar.xori v93 v94
  let c0_i32_47 : BitVec 32 := 0#32
  let v92 : BitVec 1 := Scalar.cmpi .ne v91 c0_i32_47
  let v96 : BitVec 1 := Scalar.andi v95 v92
  let v97 : BitVec 32 := Scalar.addi v91 v90
  let v98 : BitVec 32 := Scalar.select v96 v97 v91
  let c2048_i32_622 : BitVec 32 := 2048#32
  let v776 : BitVec 32 := Scalar.muli v98 c2048_i32_622
  let v777 : BitVec 32 := Scalar.addi v776 c0_i32_623
  let v988 : Index := Scalar.indexCast v777
  let c0_821 : Index := 0#32
  ![v988.toNat, 0]
def k0_off14 (d0 : Dev nD) (c1_i32_43 : BitVec 32) (c0_i32_623 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2_i32_3 : BitVec 32 := 2#32
  let v9 : BitVec 32 := Scalar.muli v2 c2_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 v2
  let v11 : BitVec 32 := Scalar.addi v9 v10
  let v88 : BitVec 32 := Scalar.addi v11 c1_i32_43
  let c4_i32_44 : BitVec 32 := 4#32
  let c0_i32_45 : BitVec 32 := 0#32
  let v89 : BitVec 1 := Scalar.cmpi .eq c4_i32_44 c0_i32_45
  let c1_i32_46 : BitVec 32 := 1#32
  let v90 : BitVec 32 := Scalar.select v89 c1_i32_46 c4_i32_44
  let v91 : BitVec 32 := Scalar.remsi v88 v90
  let c0_i32_48 : BitVec 32 := 0#32
  let v93 : BitVec 1 := Scalar.cmpi .slt v91 c0_i32_48
  let c0_i32_49 : BitVec 32 := 0#32
  let v94 : BitVec 1 := Scalar.cmpi .slt v90 c0_i32_49
  let v95 : BitVec 1 := Scalar.xori v93 v94
  let c0_i32_47 : BitVec 32 := 0#32
  let v92 : BitVec 1 := Scalar.cmpi .ne v91 c0_i32_47
  let v96 : BitVec 1 := Scalar.andi v95 v92
  let v97 : BitVec 32 := Scalar.addi v91 v90
  let v98 : BitVec 32 := Scalar.select v96 v97 v91
  let c2048_i32_622 : BitVec 32 := 2048#32
  let v776 : BitVec 32 := Scalar.muli v98 c2048_i32_622
  let v777 : BitVec 32 := Scalar.addi v776 c0_i32_623
  let c0_i32_827 : BitVec 32 := 0#32
  ![v777.toNat, 0]
-- ==== ReferenceIdeal.lean ====
abbrev S2x8192x2048 : Shape := ⟨3, ![2, 8192, 2048]⟩
abbrev S_ : Shape := ⟨0, ![]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S_, .f32⟩
  | .hbm, ⟨2, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.K.Geom.lean ====
/-
The mesh, the 32 transfers each device starts and the 32 pieces it receives.

The four devices of one `z`-plane stand in a ring; `fp c` is device `c`'s position in it. Each device starts 32
transfers of 256 rows, numbered `k : Fin 32` in program order: 0–10 to its `z`-peer, 11–26 the forwards of what
came from the `z`-peer (odd to the right, even to the left), 27–31 the second forwards. The same number names, on the
receiving side, the piece of the landing buffer the transfer fills. The facts about the program's own chains of
integer operations (which device, which rows, which semaphore) are decided over the eight devices.
-/
module

public import proofs.«01_k».proof.Proof.Gen.KernelIdeal
public import proofs.«01_k».proof.Proof.Gen.KernelIdeal.Skeleton

@[expose] public section

namespace Cert.KProof

open Cert.KernelIdeal Cert.KernelIdeal.Gen Idealize.ShloMosaic Idealize.SL.Sem

/-! ## The mesh -/

/-- The device's coordinate on `z`. -/
abbrev zOf (c : Dev nD) : ℕ := c.val % 2
/-- The device's position in the ring of its `z`-plane. -/
abbrev fp (c : Dev nD) : ℕ := 2 * (c.val / 4) + (c.val / 2 % 2 + c.val / 4) % 2
/-- The device at position `q` (mod 4) of the ring of plane `z` (mod 2). -/
def devOf (q z : ℕ) : Dev nD := ⟨(4 * (q % 4 / 2) + 2 * ((q % 4 + 1) / 2 % 2) + z % 2) % 8, Nat.mod_lt _ (by decide)⟩

/-- The neighbour in direction 0 (the `z`-peer), 1 (right) or 2 (left). -/
def nb (δ : Fin 3) (c : Dev nD) : Dev nD :=
  if δ = 0 then devOf (fp c) (1 - zOf c) else if δ = 1 then devOf (fp c + 1) (zOf c) else devOf (fp c + 3) (zOf c)
/-- The direction back. -/
def opp (δ : Fin 3) : Fin 3 := if δ = 0 then 0 else if δ = 1 then 2 else 1

theorem opp_opp : ∀ δ, opp (opp δ) = δ := by decide
theorem nb_opp_nb : ∀ δ c, nb (opp δ) (nb δ c) = c := by decide +kernel
theorem nb_nb_opp : ∀ δ c, nb δ (nb (opp δ) c) = c := by decide +kernel
/-- Going in direction `δ` permutes the devices. -/
def nbEquiv (δ : Fin 3) : Dev nD ≃ Dev nD := ⟨nb δ, nb (opp δ), nb_opp_nb δ, nb_nb_opp δ⟩

/-! ## The 32 transfers -/

/-- The direction of transfer `k`. -/
def dirK (k : Fin 32) : Fin 3 := if k.val < 11 then 0 else if k.val % 2 = 1 then 1 else 2
/-- Which of the eight 256-row sub-blocks of its group transfer `k` moves. -/
def sK (k : Fin 32) : ℕ :=
  if k.val < 8 then k.val else if k.val < 11 then 3 * (k.val - 8) else if k.val < 27 then (k.val - 11) / 2 else ((k.val - 27) * 3 + 2) / 2
/-- The group of rows transfer `k` moves, relative to the sender's position. -/
def tS (k : Fin 32) : ℕ := if k.val < 8 then 0 else if k.val < 11 then 2 else if k.val < 27 then 0 else if k.val % 2 = 1 then 3 else 1
/-- The same group relative to the receiver's position. -/
def tR (k : Fin 32) : ℕ :=
  if k.val < 8 then 0 else if k.val < 11 then 2 else if k.val < 27 then (if k.val % 2 = 1 then 3 else 1) else 2

/-- Transfer `k` of device `c` goes to `tgt c k`; -/
abbrev tgt (c : Dev nD) (k : Fin 32) : Dev nD := nb (dirK k) c
/-- what lands as piece `k` of device `c` comes from `sndr c k`. -/
abbrev sndr (c : Dev nD) (k : Fin 32) : Dev nD := nb (opp (dirK k)) c

/-- The first row of piece `k` on the device `c` that receives it, and of transfer `k` on the device that sends it. -/
abbrev row (c : Dev nD) (k : Fin 32) : ℕ := (fp c + tR k) % 4 * 2048 + 256 * sK k
abbrev srow (c : Dev nD) (k : Fin 32) : ℕ := (fp c + tS k) % 4 * 2048 + 256 * sK k

theorem row_tgt : ∀ c k, row (tgt c k) k = srow c k := by decide +kernel
theorem sK_lt : ∀ k, sK k < 8 := by decide

/-- The semaphores of transfer `k`: the sender's, and the receiver's. -/
def sIdx (k : Fin 32) : ℕ :=
  if k.val < 11 then 4 + k.val else if k.val < 27 then (if k.val % 2 = 1 then 26 else 42) + sK k else 58 + sK k
def rIdx (k : Fin 32) : ℕ := if k.val < 11 then 15 + k.val else sIdx k + 8
theorem sIdx_lt : ∀ k, sIdx k < 74 := by decide
theorem rIdx_lt : ∀ k, rIdx k < 74 := by decide
def sSem (k : Fin 32) : DmaSem sig := ⟨sIdx k, sIdx_lt k⟩
def rSem (k : Fin 32) : DmaSem sig := ⟨rIdx k, rIdx_lt k⟩
def aSem (i : Fin 2) : DmaSem sig := ⟨i.val, lt_of_lt_of_le i.isLt (by decide)⟩
def oSem (i : Fin 2) : DmaSem sig := ⟨2 + i.val, lt_of_lt_of_le (Nat.add_lt_add_left i.isLt 2) (by decide)⟩

/-- Which transfer a semaphore belongs to, on the receiving and on the sending side. -/
def decR (i : DmaSem sig) : Option (Fin 32) := (List.finRange 32).find? fun k => rIdx k == i.val
def decS (i : DmaSem sig) : Option (Fin 32) := (List.finRange 32).find? fun k => sIdx k == i.val
theorem decR_r : ∀ k, decR (rSem k) = some k := by decide +kernel
theorem decR_s : ∀ k, decR (sSem k) = none := by decide +kernel
theorem decS_s : ∀ k, decS (sSem k) = some k := by decide +kernel
theorem rSem_inj : Function.Injective rSem := fun a b h => Option.some.inj ((decR_r a).symm.trans ((congrArg decR h).trans (decR_r b)))

/-- The piece a transfer from the landing buffer reads: the received piece it forwards. -/
def srcK (k : Fin 32) : Fin 32 :=
  if h : k.val < 11 then k else if k.val < 27 then ⟨(k.val - 11) / 2, by omega⟩
  else if k.val % 2 = 1 then ⟨(11 + 2 * sK k) % 32, Nat.mod_lt _ (by decide)⟩ else ⟨(12 + 2 * sK k) % 32, Nat.mod_lt _ (by decide)⟩

theorem row_srcK : ∀ c k, 11 ≤ k.val → row c (srcK k) = srow c k := by decide +kernel

/-- The order in which the pieces are awaited. -/
def rOrd (p : Fin 32) : Fin 32 :=
  if p.val < 8 then p else if h : p.val < 24 then ⟨p.val + 3, by omega⟩
  else ![8, 27, 28, 9, 29, 30, 10, 31] ⟨(p.val - 24) % 8, Nat.mod_lt _ (by decide)⟩
/-- The order in which the finished transfers are awaited. -/
def wOrd (p : Fin 32) : Fin 32 :=
  if h : p.val < 24 then
    (if p.val % 3 = 0 then ⟨p.val / 3, by omega⟩ else if p.val % 3 = 1 then ⟨11 + 2 * (p.val / 3), by omega⟩ else ⟨12 + 2 * (p.val / 3), by omega⟩)
  else if p.val < 27 then ⟨p.val - 16, by omega⟩ else p
theorem rOrd_inj : Function.Injective rOrd := by decide +kernel
theorem wOrd_inj : Function.Injective wOrd := by decide +kernel
noncomputable def rOrdE : Fin 32 ≃ Fin 32 := Equiv.ofBijective rOrd (Finite.injective_iff_bijective.mp rOrd_inj)
noncomputable def wOrdE : Fin 32 ≃ Fin 32 := Equiv.ofBijective wOrd (Finite.injective_iff_bijective.mp wOrd_inj)

/-! ## The eight output chunks -/

/-- The group and the half of output chunk `n`, in program order. -/
def tC (n : Fin 8) : ℕ := ![0, 0, 3, 1, 3, 1, 2, 2] n
def jC (n : Fin 8) : ℕ := ![0, 1, 0, 0, 1, 1, 0, 1] n
/-- Its first row. -/
abbrev rowC (c : Dev nD) (n : Fin 8) : ℕ := (fp c + tC n) % 4 * 2048 + 1024 * jC n
/-- Its slot and the slot's round. -/
def slotC (n : Fin 8) : Fin 2 := ⟨n.val % 2, Nat.mod_lt _ (by decide)⟩
def chunkOf (i : Fin 2) (r : ℕ) : Fin 8 := ⟨(2 * r + i.val) % 8, Nat.mod_lt _ (by decide)⟩
theorem chunkOf_eq : ∀ n : Fin 8, chunkOf (slotC n) (n.val / 2) = n := by decide

/-- The piece that holds rows `256 * i` to `256 * i + 255` of chunk `n`, by its place in the order of arrival. -/
def posC (n : Fin 8) (i : Fin 4) : Fin 32 :=
  ![![0, 1, 2, 3], ![4, 5, 6, 7], ![8, 10, 12, 14], ![9, 11, 13, 15], ![16, 18, 20, 22], ![17, 19, 21, 23], ![24, 25, 26, 27],
    ![28, 29, 30, 31]] n i
theorem row_posC : ∀ c n i, row c (rOrd (posC n i)) = rowC c n + 256 * i.val := by decide +kernel
theorem posC_inj : ∀ n, Function.Injective (posC n) := by decide +kernel

theorem rowC_le : ∀ c n, rowC c n + 1024 ≤ 8192 := by decide +kernel
theorem row_le : ∀ c k, row c k + 256 ≤ 8192 := by decide +kernel
theorem srow_le : ∀ c k, srow c k + 256 ≤ 8192 := by decide +kernel

/-! ## The origin of the data -/

/-- The device whose argument the 256 rows `s` of group `q` in the landing buffer of `c` come from. -/
def srcDev (c : Dev nD) (q s : ℕ) : Dev nD := if q = (fp c + 2) % 4 ∧ s % 3 = 0 then nb 0 c else devOf q (1 - zOf c)

theorem srcDev_tgt_r : ∀ c k, 11 ≤ k.val → srcDev (tgt c k) ((fp c + tS k) % 4) (sK k) = srcDev c ((fp c + tS k) % 4) (sK k) := by decide +kernel
theorem srcDev_tgt_x : ∀ c k, k.val < 11 → srcDev (tgt c k) ((fp c + tS k) % 4) (sK k) = c := by decide +kernel
theorem zOf_tgt_r : ∀ c k, 11 ≤ k.val → zOf (tgt c k) = zOf c := by decide +kernel
theorem zOf_tgt_x : ∀ c k, k.val < 11 → zOf (tgt c k) = 1 - zOf c := by decide +kernel
theorem zOf_srcDev : ∀ c, ∀ q < 4, ∀ s < 8, zOf (srcDev c q s) = 1 - zOf c := by decide +kernel

/-- The 32 pieces are the 32 sub-blocks, each once. -/
theorem piece_at : ∀ c, ∀ q < 4, ∀ s < 8, ∃ k : Fin 32, (fp c + tR k) % 4 = q ∧ sK k = s := by decide +kernel
theorem piece_inj : ∀ c (k k' : Fin 32), (fp c + tR k) % 4 = (fp c + tR k') % 4 → sK k = sK k' → k = k' := by decide +kernel
theorem chunk_at : ∀ c, ∀ q < 4, ∀ j < 2, ∃ n : Fin 8, (fp c + tC n) % 4 = q ∧ jC n = j := by decide +kernel
theorem chunk_inj : ∀ c (n n' : Fin 8), (fp c + tC n) % 4 = (fp c + tC n') % 4 → jC n = jC n' → n = n' := by decide +kernel
theorem jC_lt : ∀ n, jC n < 2 := by decide

/-! ## The program's own chains -/

/-- Rows `r` of the output, the argument and the landing buffer, as the program's offsets spell them. -/
abbrev offR (r : ℕ) : Fin 2 → ℕ := ![r, 0]
abbrev offX (r l : ℕ) : Fin 3 → ℕ := ![0, r, l]

theorem off1_eq : ∀ c : Dev nD, ∀ r : Fin 8, k0_off1 c (BitVec.ofNat 32 (256 * r.val)) = offR (fp c % 4 * 2048 + 256 * r.val) := by decide +kernel
theorem off2_eq : ∀ c : Dev nD, ∀ r : Fin 8, k0_off2 c (BitVec.ofNat 32 (256 * r.val)) = offX (fp c % 4 * 2048 + 256 * r.val) ((1 - zOf c) * 1024) := by
  decide +kernel
theorem off3_eq : ∀ c : Dev nD, ∀ (t : Fin 2) (r : Fin 8),
    k0_off3 c (BitVec.ofNat 32 (1 + t.val)) (BitVec.ofNat 32 (256 * r.val)) = offR ((fp c + 1 + t.val) % 4 * 2048 + 256 * r.val) := by decide +kernel
theorem off4_eq : ∀ c : Dev nD, ∀ r : Fin 3,
    k0_off4 c (BitVec.ofNat 32 (768 * r.val)) = offX ((fp c + 2) % 4 * 2048 + 768 * r.val) ((1 - zOf c) * 1024) := by decide +kernel
theorem off5_eq : ∀ c : Dev nD, ∀ r : Fin 2, k0_off5 c (BitVec.ofNat 32 (1024 * r.val)) = offX (fp c % 4 * 2048 + 1024 * r.val) (zOf c * 1024) := by
  decide +kernel
theorem off6_eq : ∀ c : Dev nD, ∀ r : Fin 8, k0_off6 c (BitVec.ofNat 32 (256 * r.val)) = offR ((fp c + 3) % 4 * 2048 + 256 * r.val) := by decide +kernel
theorem off7_eq : ∀ c : Dev nD, ∀ r : Fin 2, k0_off7 c (BitVec.ofNat 32 (1024 * r.val)) = offR (fp c % 4 * 2048 + 1024 * r.val) := by decide +kernel
theorem off8_eq : ∀ c : Dev nD, ∀ r : Fin 2, k0_off8 c (BitVec.ofNat 32 (1024 * r.val)) = offR (fp c % 4 * 2048 + 1024 * r.val) := by decide +kernel
theorem off9_eq : ∀ c : Dev nD, ∀ r : Fin 2, k0_off9 c (BitVec.ofNat 32 (1024 * r.val)) = offX ((fp c + 3) % 4 * 2048 + 1024 * r.val) (zOf c * 1024) := by
  decide +kernel
theorem off10_eq : ∀ c : Dev nD, ∀ (t : Fin 2) (r : Fin 2),
    k0_off10 c (BitVec.ofNat 32 (1 + t.val)) (BitVec.ofNat 32 (1024 * r.val)) = offX ((fp c + 1 + t.val) % 4 * 2048 + 1024 * r.val) (zOf c * 1024) := by
  decide +kernel
theorem off11_eq : ∀ c : Dev nD, ∀ r : Fin 2, k0_off11 c (BitVec.ofNat 32 (1024 * r.val)) = offR ((fp c + 3) % 4 * 2048 + 1024 * r.val) := by decide +kernel
theorem off12_eq : ∀ c : Dev nD, ∀ r : Fin 2, k0_off12 c (BitVec.ofNat 32 (1024 * r.val)) = offR ((fp c + 3) % 4 * 2048 + 1024 * r.val) := by decide +kernel
theorem off13_eq : ∀ c : Dev nD, ∀ (t : Fin 2) (r : Fin 2),
    k0_off13 c (BitVec.ofNat 32 (1 + t.val)) (BitVec.ofNat 32 (1024 * r.val)) = offR ((fp c + 1 + t.val) % 4 * 2048 + 1024 * r.val) := by decide +kernel
theorem off14_eq : ∀ c : Dev nD, ∀ (t : Fin 2) (r : Fin 2),
    k0_off14 c (BitVec.ofNat 32 (1 + t.val)) (BitVec.ofNat 32 (1024 * r.val)) = offR ((fp c + 1 + t.val) % 4 * 2048 + 1024 * r.val) := by decide +kernel

/-- The device each signal and each transfer of the program names. -/
theorem dev_sig : ∀ c : Dev nD, k0_dev1 c = (nb 0 c).val ∧ k0_dev2 c = (nb 2 c).val ∧ k0_dev3 c = (nb 1 c).val := by decide +kernel
theorem dev_z : ∀ c : Dev nD, k0_dev4 c = (nb 0 c).val ∧ k0_dev5 c = (nb 0 c).val ∧ k0_dev6 c = (nb 0 c).val ∧ k0_dev7 c = (nb 0 c).val
    ∧ k0_dev8 c = (nb 0 c).val ∧ k0_dev9 c = (nb 0 c).val ∧ k0_dev10 c = (nb 0 c).val ∧ k0_dev11 c = (nb 0 c).val
    ∧ k0_dev12 c = (nb 0 c).val ∧ k0_dev13 c = (nb 0 c).val ∧ k0_dev14 c = (nb 0 c).val := by decide +kernel
theorem dev_r : ∀ c : Dev nD, k0_dev15 c = (nb 1 c).val ∧ k0_dev17 c = (nb 1 c).val ∧ k0_dev19 c = (nb 1 c).val ∧ k0_dev21 c = (nb 1 c).val
    ∧ k0_dev23 c = (nb 1 c).val ∧ k0_dev25 c = (nb 1 c).val ∧ k0_dev27 c = (nb 1 c).val ∧ k0_dev29 c = (nb 1 c).val
    ∧ k0_dev31 c = (nb 1 c).val ∧ k0_dev33 c = (nb 1 c).val ∧ k0_dev35 c = (nb 1 c).val := by decide +kernel
theorem dev_l : ∀ c : Dev nD, k0_dev16 c = (nb 2 c).val ∧ k0_dev18 c = (nb 2 c).val ∧ k0_dev20 c = (nb 2 c).val ∧ k0_dev22 c = (nb 2 c).val
    ∧ k0_dev24 c = (nb 2 c).val ∧ k0_dev26 c = (nb 2 c).val ∧ k0_dev28 c = (nb 2 c).val ∧ k0_dev30 c = (nb 2 c).val
    ∧ k0_dev32 c = (nb 2 c).val ∧ k0_dev34 c = (nb 2 c).val := by decide +kernel

end Cert.KProof
-- ==== Proof.K.Mem.lean ====
/-
The places the kernel reads and writes: 256 or 1024 rows of the landing buffer and of the result, blocks of the
argument, the two slots of each staging buffer. For each, which elements it covers, what a read of it gives and what a
write of it leaves.
-/
module

public import proofs.«01_k».proof.Proof.K.Geom
public import Idealize.ShloMosaic.Lib.ValueLayout
public import Idealize.ShloMosaic.Lib.ValueIdxCoords
public import Idealize.ShloMosaic.Lib.Tactic

@[expose] public section

noncomputable section

namespace Cert.KProof

open Cert.KernelIdeal Cert.KernelIdeal.Gen Idealize.ShloMosaic Idealize.SL.Sem Idealize.ShloMosaic.ValueIdx

variable {F : FTy → Type} [FloatOps F]

/-! ## The buffers -/

abbrev xM : Memref sig .tc .hbm S1x8192x2048 .f32 := Memref.whole main_arg0
abbrev yM : Memref sig .tc .hbm S8192x1024 .f32 := Memref.whole main_v1
abbrev rM : Memref sig .tc .vmem S8192x1024 .f32 := Memref.whole cc0_scratch0
abbrev aM : Memref sig .tc .vmem S2x1024x1024 .f32 := Memref.whole cc0_scratch1
abbrev oM : Memref sig .tc .vmem S2x1024x1024 .f32 := Memref.whole cc0_scratch2

/-- Rows `r` to `r + n - 1`. -/
def rows2 (r n : ℕ) : Finset S8192x1024.Idx := Finset.univ.filter fun i => r ≤ (i 0).val ∧ (i 0).val < r + n
/-- Slot `s` of a staging buffer. -/
def slot3 (s : ℕ) : Finset S2x1024x1024.Idx := Finset.univ.filter fun i => (i 0).val = s

theorem mem_rows2 {r n : ℕ} {i : S8192x1024.Idx} : i ∈ rows2 r n ↔ r ≤ (i 0).val ∧ (i 0).val < r + n := by
  unfold rows2; rw [Finset.mem_filter]; exact ⟨fun h => h.2, fun h => ⟨Finset.mem_univ _, h⟩⟩
theorem mem_slot3 {s : ℕ} {i : S2x1024x1024.Idx} : i ∈ slot3 s ↔ (i 0).val = s := by
  unfold slot3; rw [Finset.mem_filter]; exact ⟨fun h => h.2, fun h => ⟨Finset.mem_univ _, h⟩⟩

theorem rect256_set {r : ℕ} {inb} : (Rect.unit (s := S8192x1024) (offR r) S256x1024.size inb).set = rows2 r 256 := by
  ext i
  rw [Rect.mem_set_unit, mem_rows2]
  refine ⟨fun h => h 0, fun h a => ?_⟩
  fin_cases a
  · exact h
  · exact ⟨Nat.zero_le _, by have := (i 1).isLt; simpa using this⟩

theorem rect1024_set {r : ℕ} {inb} : (Rect.unit (s := S8192x1024) (offR r) S1024x1024.size inb).set = rows2 r 1024 := by
  ext i
  rw [Rect.mem_set_unit, mem_rows2]
  refine ⟨fun h => h 0, fun h a => ?_⟩
  fin_cases a
  · exact h
  · exact ⟨Nat.zero_le _, by have := (i 1).isLt; simpa using this⟩

theorem slot_set {s : ℕ} {inb} : (Rect.unit (s := S2x1024x1024) ![s, 0, 0] S1x1024x1024.size inb).set = slot3 s := by
  ext i
  rw [Rect.mem_set_unit, mem_slot3]
  refine ⟨fun h => ?_, fun h a => ?_⟩
  · have := h 0
    simp at this; omega
  · fin_cases a
    · simp; omega
    · exact ⟨Nat.zero_le _, by have := (i 1).isLt; simpa using this⟩
    · exact ⟨Nat.zero_le _, by have := (i 2).isLt; simpa using this⟩

/-! ## The views -/

/-- 256 rows of the landing buffer; 1024 rows of the result; a block of the argument; a slot. -/
abbrev rV (r : ℕ) (inb : ∀ a, offR r a + S256x1024.size a ≤ S8192x1024.size a) : Memref sig .tc .vmem S256x1024 .f32 := rM.slice (Rect.unit (s := S8192x1024) (offR r) S256x1024.size inb) (fun _ => rfl)
abbrev yV (r : ℕ) (inb : ∀ a, offR r a + S1024x1024.size a ≤ S8192x1024.size a) : Memref sig .tc .hbm S1024x1024 .f32 := yM.slice (Rect.unit (s := S8192x1024) (offR r) S1024x1024.size inb) (fun _ => rfl)
abbrev xV (r l : ℕ) (inb : ∀ a, offX r l a + S1x256x1024.size a ≤ S1x8192x2048.size a) : Memref sig .tc .hbm S256x1024 .f32 :=
  (xM.slice (Rect.unit (s := S1x8192x2048) (offX r l) S1x256x1024.size inb) (fun _ => rfl)).squeeze S256x1024 squeezes_S1x256x1024_S256x1024
abbrev xW (r l : ℕ) (inb : ∀ a, offX r l a + S1x1024x1024.size a ≤ S1x8192x2048.size a) : Memref sig .tc .hbm S1024x1024 .f32 :=
  (xM.slice (Rect.unit (s := S1x8192x2048) (offX r l) S1x1024x1024.size inb) (fun _ => rfl)).squeeze S1024x1024 squeezes_S1x1024x1024_S1024x1024
abbrev aV (s : ℕ) (inb : ∀ a, (![s, 0, 0] : Fin 3 → ℕ) a + S1x1024x1024.size a ≤ S2x1024x1024.size a) : Memref sig .tc .vmem S1024x1024 .f32 :=
  (aM.slice (Rect.unit (s := S2x1024x1024) ![s, 0, 0] S1x1024x1024.size inb) (fun _ => rfl)).squeeze S1024x1024 squeezes_S1x1024x1024_S1024x1024
abbrev oV (s : ℕ) (inb : ∀ a, (![s, 0, 0] : Fin 3 → ℕ) a + S1x1024x1024.size a ≤ S2x1024x1024.size a) : Memref sig .tc .vmem S1024x1024 .f32 :=
  (oM.slice (Rect.unit (s := S2x1024x1024) ![s, 0, 0] S1x1024x1024.size inb) (fun _ => rfl)).squeeze S1024x1024 squeezes_S1x1024x1024_S1024x1024

theorem rV_set (r : ℕ) (inb) : (rV r inb).view.set = rows2 r 256 := (View.set_slice_whole _ _).trans rect256_set
theorem yV_set (r : ℕ) (inb) : (yV r inb).view.set = rows2 r 1024 := (View.set_slice_whole _ _).trans rect1024_set
theorem aV_set (s : ℕ) (inb) : (aV s inb).view.set = slot3 s := (View.set_reshape _ _).trans ((View.set_slice_whole _ _).trans slot_set)
theorem oV_set (s : ℕ) (inb) : (oV s inb).view.set = slot3 s := (View.set_reshape _ _).trans ((View.set_slice_whole _ _).trans slot_set)

/-! ## Reads -/

/-- Element `(a, l)` of the argument. -/
abbrev xix (a : Fin 8192) (l : Fin 2048) : S1x8192x2048.Idx := ix3 (0 : Fin 1) a l

theorem xV_emb (r l : ℕ) (inb) (a : Fin 256) (b : Fin 1024) (a' : Fin 8192) (b' : Fin 2048) (ha : a'.val = r + a.val) (hb : b'.val = l + b.val) :
    (xV r l inb).view.emb (ix2 a b) = xix a' b' := by
  show (Rect.unit (s := S1x8192x2048) (offX r l) S1x256x1024.size inb).emb (Shape.reshapeEquiv (Shape.Squeezes.numel_eq squeezes_S1x256x1024_S256x1024) (ix2 a b)) = _
  rw [reshapeEquiv_ix2_1ab]
  funext d; refine Fin.ext ?_
  rw [Rect.emb_apply]
  fin_cases d
  · rfl
  · show r + 1 * a.val = a'.val; omega
  · show l + 1 * b.val = b'.val; omega

theorem xW_emb (r l : ℕ) (inb) (a b : Fin 1024) (a' : Fin 8192) (b' : Fin 2048) (ha : a'.val = r + a.val) (hb : b'.val = l + b.val) :
    (xW r l inb).view.emb (ix2 a b) = xix a' b' := by
  show (Rect.unit (s := S1x8192x2048) (offX r l) S1x1024x1024.size inb).emb (Shape.reshapeEquiv (Shape.Squeezes.numel_eq squeezes_S1x1024x1024_S1024x1024) (ix2 a b)) = _
  rw [reshapeEquiv_ix2_1ab]
  funext d; refine Fin.ext ?_
  rw [Rect.emb_apply]
  fin_cases d
  · rfl
  · show r + 1 * a.val = a'.val; omega
  · show l + 1 * b.val = b'.val; omega

theorem slot_emb (s : ℕ) (inb) (u : Fin 1) (a b : Fin 1024) (s' : Fin 2) (hs : s'.val = s) :
    (Rect.unit (s := S2x1024x1024) ![s, 0, 0] S1x1024x1024.size inb).emb (ix3 u a b) = ix3 s' a b := by
  funext d; refine Fin.ext ?_
  rw [Rect.emb_apply]
  fin_cases d
  · show s + 1 * u.val = s'.val; omega
  · show 0 + 1 * a.val = a.val; omega
  · show 0 + 1 * b.val = b.val; omega

theorem aV_emb (s : ℕ) (inb) (a b : Fin 1024) (s' : Fin 2) (hs : s'.val = s) : (aV s inb).view.emb (ix2 a b) = ix3 s' a b := by
  show (Rect.unit (s := S2x1024x1024) ![s, 0, 0] S1x1024x1024.size inb).emb (Shape.reshapeEquiv (Shape.Squeezes.numel_eq squeezes_S1x1024x1024_S1024x1024) (ix2 a b)) = _
  rw [reshapeEquiv_ix2_1ab]; exact slot_emb s inb _ a b s' hs
theorem oV_emb (s : ℕ) (inb) (a b : Fin 1024) (s' : Fin 2) (hs : s'.val = s) : (oV s inb).view.emb (ix2 a b) = ix3 s' a b := by
  show (Rect.unit (s := S2x1024x1024) ![s, 0, 0] S1x1024x1024.size inb).emb (Shape.reshapeEquiv (Shape.Squeezes.numel_eq squeezes_S1x1024x1024_S1024x1024) (ix2 a b)) = _
  rw [reshapeEquiv_ix2_1ab]; exact slot_emb s inb _ a b s' hs

theorem rows256_emb (r : ℕ) (inb) (a : Fin 256) (b : Fin 1024) (a' : Fin 8192) (ha : a'.val = r + a.val) :
    (Rect.unit (s := S8192x1024) (offR r) S256x1024.size inb).emb (ix2 a b) = ix2 a' b := by
  funext d; refine Fin.ext ?_
  rw [Rect.emb_apply]
  fin_cases d
  · show r + 1 * a.val = a'.val; omega
  · show 0 + 1 * b.val = b.val; omega
theorem rows1024_emb (r : ℕ) (inb) (a b : Fin 1024) (a' : Fin 8192) (ha : a'.val = r + a.val) :
    (Rect.unit (s := S8192x1024) (offR r) S1024x1024.size inb).emb (ix2 a b) = ix2 a' b := by
  funext d; refine Fin.ext ?_
  rw [Rect.emb_apply]
  fin_cases d
  · show r + 1 * a.val = a'.val; omega
  · show 0 + 1 * b.val = b.val; omega

/-! ## Writes -/

omit [FloatOps F] in
/-- What 256 rows of the landing buffer hold after they are written. -/
theorem rV_write (r : ℕ) (inb) (f : S8192x1024.Idx → Elt F .f32) (w : S256x1024.Idx → Elt F .f32) (i : S8192x1024.Idx) (h1 : r ≤ (i 0).val) (h2 : (i 0).val < r + 256) :
    (rV r inb).view.write (Elt F) f w Finset.univ i = w (ix2 ⟨(i 0).val - r, by omega⟩ (i 1)) := by
  have e : (rV r inb).view.emb (ix2 (⟨(i 0).val - r, by omega⟩ : Fin 256) (i 1)) = i := by
    refine (rows256_emb r inb _ _ (i 0) ?_).trans (eq_ix2 i).symm
    show (i 0).val = r + ((i 0).val - r); omega
  conv_lhs => rw [← e]
  exact View.write_emb_of_mem _ _ (Finset.mem_univ _)

omit [FloatOps F] in
theorem yV_write (r : ℕ) (inb) (f : S8192x1024.Idx → Elt F .f32) (w : S1024x1024.Idx → Elt F .f32) (i : S8192x1024.Idx) (h1 : r ≤ (i 0).val) (h2 : (i 0).val < r + 1024) :
    (yV r inb).view.write (Elt F) f w Finset.univ i = w (ix2 ⟨(i 0).val - r, by omega⟩ (i 1)) := by
  have e : (yV r inb).view.emb (ix2 (⟨(i 0).val - r, by omega⟩ : Fin 1024) (i 1)) = i := by
    refine (rows1024_emb r inb _ _ (i 0) ?_).trans (eq_ix2 i).symm
    show (i 0).val = r + ((i 0).val - r); omega
  conv_lhs => rw [← e]
  exact View.write_emb_of_mem _ _ (Finset.mem_univ _)

omit [FloatOps F] in
theorem aV_write (s : ℕ) (inb) (f : S2x1024x1024.Idx → Elt F .f32) (w : S1024x1024.Idx → Elt F .f32) (i : S2x1024x1024.Idx) (hi : (i 0).val = s) :
    (aV s inb).view.write (Elt F) f w Finset.univ i = w (ix2 (i 1) (i 2)) := by
  have e : (aV s inb).view.emb (ix2 (i 1) (i 2)) = i := (aV_emb s inb _ _ (i 0) hi).trans (eq_ix3 i).symm
  conv_lhs => rw [← e]
  exact View.write_emb_of_mem _ _ (Finset.mem_univ _)

omit [FloatOps F] in
theorem oM_store (s : ℕ) (inb) (f : S2x1024x1024.Idx → Elt F .f32) (w : S1x1024x1024.Idx → Elt F .f32) (i : S2x1024x1024.Idx) (hi : (i 0).val = s) :
    (oM.access (Rect.unit (s := S2x1024x1024) ![s, 0, 0] S1x1024x1024.size inb)).write (Elt F) f w Finset.univ i = w (ix3 0 (i 1) (i 2)) := by
  have e : (oM.access (Rect.unit (s := S2x1024x1024) ![s, 0, 0] S1x1024x1024.size inb)).emb (ix3 0 (i 1) (i 2)) = i :=
    (slot_emb s inb 0 _ _ (i 0) hi).trans (eq_ix3 i).symm
  conv_lhs => rw [← e]
  exact View.write_emb_of_mem _ _ (Finset.mem_univ _)

/-! ## The credit of a transfer -/

/-- What 256 rows, a slot, and 1024 rows of the result credit. -/
abbrev Nr : ℕ := (rV 0 (by decide)).view.dmaCredit
abbrev Na : ℕ := (aV 0 (by decide) ).view.dmaCredit
abbrev No : ℕ := (yV 0 (by decide)).view.dmaCredit
theorem Nr_pos : 0 < Nr := View.dmaCredit_pos _ (by decide)
theorem Na_pos : 0 < Na := View.dmaCredit_pos _ (by decide)
theorem No_pos : 0 < No := View.dmaCredit_pos _ (by decide)
/-- A block of the argument credits what 256 rows of the landing buffer do. -/
theorem xV_credit (r l : ℕ) (inb) : (xV r l inb).view.dmaCredit = Nr := rfl
theorem rV_credit (r : ℕ) (inb) : (rV r inb).view.dmaCredit = Nr := rfl

end Cert.KProof
-- ==== Proof.K.Sched.lean ====
/-
What the semaphores promise. Each cell — the barrier semaphore and the 74 transfer semaphores of each device — has a
schedule of rounds; each duty of a round is paid by one signal or one finished transfer, and hands over a resource:
a signal hands over the pieces of the signaller's landing buffer that the signalled device will fill, a finished
transfer the rows it filled, the sender's semaphore the rows it read. With it the contents of every buffer, what each
device owes at each point, and the levels that order the waits.
-/
module

public import proofs.«01_k».proof.Proof.K.Mem
public import proofs.«01_k».proof.Proof.Gen.KernelIdeal.Launch
public import Idealize.ShloMosaic.Lib.Pipeline.Launch
public import Idealize.ShloMosaic.Lib.Pipeline.Kit
public import Idealize.ShloMosaic.Lib.ShareLeaves

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- A round has at most three duties. -/
abbrev DD : Type := Fin 3
abbrev UB : Type := URounds (GSem nD τ sig) DD
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR
abbrev 𝒱₀ : Variants := Variants.none

/-! ## Cells -/

/-- The runtime's barrier semaphore of collective id 0. -/
abbrev barS : Sem sig := (SemArray.scalar (sig.barrier 0 rfl) : Sems sig S_).sem
/-- The semaphores of one device, as this proof indexes them: the barrier and the 74 transfer semaphores. -/
abbrev csem : Option (DmaSem sig) → SemLoc sig := fun | none => .reg barS | some i => .dma i
abbrev kcell (p : Dev nD × Option (DmaSem sig)) : GSem nD τ sig := ((p.1 : Thread nD τ), csem p.2)
abbrev barCell (c : Dev nD) : GSem nD τ sig := ((c : Thread nD τ), .reg barS)
abbrev dCell (c : Dev nD) (i : DmaSem sig) : GSem nD τ sig := ((c : Thread nD τ), .dma i)
abbrev sendCell (c : Dev nD) (k : Fin 32) : GSem nD τ sig := dCell c (sSem k)
abbrev recvCell (c : Dev nD) (k : Fin 32) : GSem nD τ sig := dCell c (rSem k)

theorem reg_eq (s : Sem sig) : s = barS := by revert s; decide

/-! ## Contents -/

variable (m : (ℓ : Loc nD τ sig) → Buf (Elt F) ℓ)

/-- The argument of device `c`. -/
abbrev X (c : Dev nD) : S1x8192x2048.Idx → Elt F .f32 := m ((c : Thread nD τ).loc main_arg0)
/-- Column `b` of the half `z`. -/
abbrev colZ (z : ℕ) (b : Fin 1024) : Fin 2048 := ⟨(z % 2) * 1024 + b.val, by omega⟩
/-- What the landing buffer of `c` holds in the end. -/
def Rf (c : Dev nD) : S8192x1024.Idx → Elt F .f32 :=
  fun i => X m (srcDev c ((i 0).val / 2048) ((i 0).val % 2048 / 256)) (xix (i 0) (colZ (zOf c) (i 1)))
/-- Row `j` of chunk `n`. -/
def rowIx (c : Dev nD) (n : Fin 8) (j : Fin 1024) : Fin 8192 := ⟨rowC c n + j.val, by have := rowC_le c n; omega⟩
/-- What a slot of the argument's staging buffer holds for chunk `n`. -/
def aBuf (c : Dev nD) (n : Fin 8) : S2x1024x1024.Idx → Elt F .f32 := fun j => X m c (xix (rowIx c n (j 1)) (colZ (zOf c) (j 2)))
/-- What the result of `c` holds in the end: its own half of the argument plus what landed. -/
def outF (c : Dev nD) : S8192x1024.Idx → Elt F .f32 :=
  fun i => FloatOps.addf (φ := .f32) (X m c (xix (i 0) (colZ (zOf c) (i 1)))) (Rf m c i)
/-- What a slot of the result's staging buffer holds for chunk `n`. -/
def oBuf (c : Dev nD) (n : Fin 8) : S2x1024x1024.Idx → Elt F .f32 := fun j => outF m c (ix2 (rowIx c n (j 1)) (j 2))

/-! ## Resources -/

/-- Piece `k` of the landing buffer of `c`, at share `q`, holding `f`. -/
def pieceP (c : Dev nD) (k : Fin 32) (q : PosShare TreeShare) (f : S8192x1024.Idx → Elt F .f32) : sProp 𝕄 :=
  (c : Thread nD τ).loc cc0_scratch0 ↦[rows2 (row c k) 256]{q} f
/-- Slot `i` of the two staging buffers. -/
def aSlot (c : Dev nD) (i : Fin 2) (f : S2x1024x1024.Idx → Elt F .f32) : sProp 𝕄 :=
  (c : Thread nD τ).loc cc0_scratch1 ↦[slot3 i.val]{fullShare} f
def oSlot (c : Dev nD) (i : Fin 2) (f : S2x1024x1024.Idx → Elt F .f32) : sProp 𝕄 :=
  (c : Thread nD τ).loc cc0_scratch2 ↦[slot3 i.val]{fullShare} f
/-- Chunk `n` of the result. -/
def outP (c : Dev nD) (n : Fin 8) (f : S8192x1024.Idx → Elt F .f32) : sProp 𝕄 :=
  (c : Thread nD τ).loc main_v1 ↦[rows2 (rowC c n) 1024]{fullShare} f
/-- The argument of `c` at share `q`. -/
def xP (c : Dev nD) (q : PosShare TreeShare) : sProp 𝕄 := (c : Thread nD τ).loc main_arg0 ↦[Finset.univ]{q} X m c

/-- The share of the landing buffer that is kept, and the one that is lent to transfers. -/
abbrev qL : PosShare TreeShare := fullShare.left
abbrev qR : PosShare TreeShare := fullShare.right
/-- The share transfer `k ≥ 11` reads its source at. -/
def qsh (k : Fin 32) : PosShare TreeShare := if k.val < 27 then (if k.val % 2 = 1 then qR.left else qR.right) else qR
/-- The share of the argument the copy `i` of the argument reads at: transfers to the `z`-peer first, then the local copies. -/
def xLeaf (i : ℕ) : PosShare TreeShare := ShareLeaves.leaf 5 qR ⟨i % 32, Nat.mod_lt _ (by decide)⟩

/-- What transfer `k` of `c` reads. -/
def lendP (c : Dev nD) (k : Fin 32) : sProp 𝕄 := if k.val < 11 then xP m c (xLeaf k.val) else pieceP c (srcK k) (qsh k) (Rf m c)
/-- What the sender's semaphore hands back: the rows of the landing buffer that were read. -/
def sPay (c : Dev nD) (k : Fin 32) : sProp 𝕄 := if k.val < 11 then iprop(emp) else pieceP c (srcK k) (qsh k) (Rf m c)
/-- What the receiver's semaphore hands over. -/
def rPay (c : Dev nD) (k : Fin 32) : sProp 𝕄 := pieceP c k fullShare (Rf m c)
/-- What the signal from direction `δ` hands `c`: the pieces over there that `c` will fill. -/
def barPay (c : Dev nD) (δ : Fin 3) : sProp 𝕄 :=
  bigSep (Finset.univ.filter fun k => dirK k = δ) fun k => iprop(∃ f, pieceP (F := F) (nb δ c) k fullShare f)
/-- What the copy of chunk `n` into its slot hands over. -/
def aPay (c : Dev nD) (n : Fin 8) : sProp 𝕄 := aSlot c (slotC n) (aBuf m c n)
/-- What the copy of chunk `n` out of its slot hands over. -/
def oPay (c : Dev nD) (n : Fin 8) : sProp 𝕄 := iprop(outP c n (outF m c) ∗ ∃ f, oSlot (F := F) c (slotC n) f)

omit [FloatOps F] in
instance pieceP_storable (c : Dev nD) (k q f) : BI.Storable (upEmb : UEmb _ 𝕄) (pieceP (F := F) c k q f) := by unfold pieceP; infer_instance
omit [FloatOps F] in
instance aSlot_storable (c : Dev nD) (k f) : BI.Storable (upEmb : UEmb _ 𝕄) (aSlot (F := F) c k f) := by unfold aSlot; infer_instance
omit [FloatOps F] in
instance oSlot_storable (c : Dev nD) (k f) : BI.Storable (upEmb : UEmb _ 𝕄) (oSlot (F := F) c k f) := by unfold oSlot; infer_instance
omit [FloatOps F] in
instance outP_storable (c : Dev nD) (k f) : BI.Storable (upEmb : UEmb _ 𝕄) (outP (F := F) c k f) := by unfold outP; infer_instance

/-! ## The schedule -/

/-- How many rounds a semaphore goes through: the local ones four, the three unused pairs none, all others one. -/
def nR (sm : SemLoc sig) : ℕ :=
  match sm with
  | .reg _ => 1
  | .dma i => if i.val < 4 then 4 else if (decR i).isSome ∨ (decS i).isSome then 1 else 0
/-- The duties of a round. -/
def duts (sm : SemLoc sig) : Finset DD := match sm with | .reg _ => Finset.univ | .dma _ => {0}
/-- What one duty credits. -/
def amt (sm : SemLoc sig) : ℕ := match sm with | .reg _ => 1 | .dma i => if i.val < 2 then Na else if i.val < 4 then No else Nr
/-- What one duty hands over. -/
def pay (c : Dev nD) (sm : SemLoc sig) (r : ℕ) (d : DD) : sProp 𝕄 :=
  match sm with
  | .reg _ => barPay c d
  | .dma i =>
    if i.val < 2 then aPay m c (chunkOf ⟨i.val % 2, Nat.mod_lt _ (by decide)⟩ r)
    else if i.val < 4 then oPay m c (chunkOf ⟨i.val % 2, Nat.mod_lt _ (by decide)⟩ r)
    else match decR i with
      | some k => rPay m c k
      | none => match decS i with
        | some k => sPay m c k
        | none => iprop(emp)

theorem amt_pos (sm : SemLoc sig) : 0 < amt sm := by
  cases sm with
  | reg _ => exact Nat.one_pos
  | dma i => unfold amt; dsimp only; split_ifs; exacts [Na_pos, No_pos, Nr_pos]

/-- The rounds of every cell. -/
def Rd : Rounds.Schedule (GSem nD τ sig) DD 𝕄 where
  duties g r := if g.1.2 = .tc ∧ r < nR g.2 then duts g.2 else ∅
  unitless _ := False
  amount g _ _ := amt g.2
  payload g r d := pay m g.1.1 g.2 r d
  amount_pos g _ _ _ := amt_pos g.2

instance Rd_payload_storable (g : GSem nD τ sig) (r : ℕ) (d : DD) :
    BI.Storable (upEmb : UEmb _ 𝕄) ((Rd (F := F) m).payload g r d) := by
  show BI.Storable upEmb (pay m g.1.1 g.2 r d)
  unfold pay barPay aPay oPay rPay sPay
  (repeat' split) <;> infer_instance

section Facts
variable (c : Dev nD)

theorem nR_s : ∀ k, nR (.dma (sSem k)) = 1 := by decide +kernel
theorem nR_r : ∀ k, nR (.dma (rSem k)) = 1 := by decide +kernel
theorem nR_a : ∀ i, nR (.dma (aSem i)) = 4 := by decide +kernel
theorem nR_o : ∀ i, nR (.dma (oSem i)) = 4 := by decide +kernel
theorem s_ge : ∀ k, 4 ≤ (sSem k).val := by decide +kernel
theorem r_ge : ∀ k, 4 ≤ (rSem k).val := by decide +kernel

theorem duties_bar : (Rd (F := F) m).duties (barCell c) 0 = Finset.univ := by
  dsimp only [Rd]
  exact if_pos ⟨rfl, Nat.one_pos⟩
theorem duties_dma {i : DmaSem sig} {r : ℕ} (h : r < nR (.dma i)) : (Rd (F := F) m).duties (dCell c i) r = {0} := if_pos ⟨rfl, h⟩
theorem duties_late (g : GSem nD τ sig) (n : ℕ) (h : nR g.2 ≤ n) : ∀ r, n ≤ r → (Rd (F := F) m).duties g r = ∅ :=
  fun r hr => if_neg fun h' => by omega
theorem amount_r (k : Fin 32) (r : ℕ) (d : DD) : (Rd (F := F) m).amount (recvCell c k) r d = Nr := by
  show amt (.dma (rSem k)) = Nr
  have := r_ge k
  unfold amt; dsimp only; rw [if_neg (by omega), if_neg (by omega)]
theorem amount_s (k : Fin 32) (r : ℕ) (d : DD) : (Rd (F := F) m).amount (sendCell c k) r d = Nr := by
  show amt (.dma (sSem k)) = Nr
  have := s_ge k
  unfold amt; dsimp only; rw [if_neg (by omega), if_neg (by omega)]
theorem amount_a (i : Fin 2) (r : ℕ) (d : DD) : (Rd (F := F) m).amount (dCell c (aSem i)) r d = Na := if_pos i.isLt
theorem amount_o (i : Fin 2) (r : ℕ) (d : DD) : (Rd (F := F) m).amount (dCell c (oSem i)) r d = No :=
  (if_neg (by show ¬ 2 + i.val < 2; omega)).trans (if_pos (by show 2 + i.val < 4; have := i.isLt; omega))

theorem expect_bar : (Rd (F := F) m).expect (barCell c) 0 = 3 := by
  unfold Schedule.expect Schedule.amountOf
  rw [duties_bar]; rfl
theorem expect_dma {i : DmaSem sig} {r : ℕ} {N : ℕ} (h : r < nR (.dma i)) (hN : (Rd (F := F) m).amount (dCell c i) r 0 = N) :
    (Rd (F := F) m).expect (dCell c i) r = N := by
  unfold Schedule.expect Schedule.amountOf
  rw [duties_dma m c h, Finset.sum_singleton, hN]

theorem payload_r (k : Fin 32) (d : DD) : (Rd (F := F) m).payload (recvCell c k) 0 d = rPay m c k := by
  show pay m c (.dma (rSem k)) 0 d = _
  have := r_ge k
  unfold pay; dsimp only; rw [if_neg (by omega), if_neg (by omega), decR_r]
theorem payload_s (k : Fin 32) (d : DD) : (Rd (F := F) m).payload (sendCell c k) 0 d = sPay m c k := by
  show pay m c (.dma (sSem k)) 0 d = _
  have := s_ge k
  unfold pay; dsimp only; rw [if_neg (by omega), if_neg (by omega), decR_s]; dsimp only; rw [decS_s]
theorem payload_a (n : Fin 8) (d : DD) : (Rd (F := F) m).payload (dCell c (aSem (slotC n))) (n.val / 2) d = aPay m c n := by
  show pay m c (.dma (aSem (slotC n))) (n.val / 2) d = _
  unfold pay; dsimp only; rw [if_pos (show (aSem (slotC n)).val < 2 from (slotC n).isLt)]
  congr 1; revert n; decide
theorem payload_o (n : Fin 8) (d : DD) : (Rd (F := F) m).payload (dCell c (oSem (slotC n))) (n.val / 2) d = oPay m c n := by
  show pay m c (.dma (oSem (slotC n))) (n.val / 2) d = _
  have h2 := (slotC n).isLt
  have hv : (oSem (slotC n)).val = 2 + (slotC n).val := rfl
  unfold pay; dsimp only; rw [if_neg (by omega), if_pos (by omega)]
  congr 1; revert n; decide

omit [FloatOps F] in
/-- A family over the transfers, split by direction. -/
theorem bigSep_dir (Φ : Fin 32 → sProp 𝕄) : bigSep Finset.univ (fun δ : Fin 3 => bigSep (Finset.univ.filter fun k => dirK k = δ) Φ) = bigSep Finset.univ Φ := by
  have h1 : ∀ δ : Fin 3, bigSep (Finset.univ.filter fun k => dirK k = δ) Φ = bigSep Finset.univ fun k => if dirK k = δ then Φ k else iprop(emp) :=
    fun δ => bigSep_filter _ _ _
  rw [bigSep_congr fun δ _ => h1 δ, bigSep_univ_comm (fun (δ : Fin 3) (k : Fin 32) => if dirK k = δ then Φ k else iprop(emp))]
  refine bigSep_congr fun k _ => ?_
  refine (bigSep_filter Finset.univ (fun δ => dirK k = δ) (fun _ => Φ k)).symm.trans ?_
  rw [show (Finset.univ.filter fun δ => dirK k = δ) = {dirK k} by ext δ; simp [eq_comm], bigSep_singleton]

/-- All the barrier hands `c`: each piece that its 32 transfers fill. -/
theorem rest_bar : bigSep ((Rd (F := F) m).duties (barCell c) 0 \ ∅) (fun d => (Rd (F := F) m).payload (barCell c) 0 d)
    = bigSep Finset.univ fun k => iprop(∃ f, pieceP (F := F) (tgt c k) k fullShare f) := by
  rw [Finset.sdiff_empty, duties_bar]
  show bigSep Finset.univ (fun δ => bigSep (Finset.univ.filter fun k => dirK k = δ) fun k => iprop(∃ f, pieceP (F := F) (nb δ c) k fullShare f)) = _
  have h1 : ∀ δ : Fin 3, bigSep (Finset.univ.filter fun k => dirK k = δ) (fun k => iprop(∃ f, pieceP (F := F) (nb δ c) k fullShare f))
      = bigSep (Finset.univ.filter fun k => dirK k = δ) (fun k => iprop(∃ f, pieceP (F := F) (tgt c k) k fullShare f)) := fun δ =>
    bigSep_congr fun k hk => by rw [show tgt c k = nb δ c from congrArg (nb · c) (Finset.mem_filter.mp hk).2]
  rw [bigSep_congr fun δ _ => h1 δ]
  exact bigSep_dir _
theorem rest_dma {i : DmaSem sig} {r : ℕ} {P : sProp 𝕄} (h : r < nR (.dma i)) (hp : (Rd (F := F) m).payload (dCell c i) r 0 = P) :
    bigSep ((Rd (F := F) m).duties (dCell c i) r \ ∅) (fun d => (Rd (F := F) m).payload (dCell c i) r d) = P := by
  rw [Finset.sdiff_empty, duties_dma m c h, bigSep_singleton, hp]

end Facts

/-! ## What each device owes; the levels -/

/-- Before its transfer `ks`, `c` owes what transfers `ks, ks + 1, …` will credit their receivers. -/
def Ow (c : Dev nD) (ks : ℕ) : CellTallies nD τ sig Unit :=
  ∑ k ∈ Finset.univ.filter (fun k : Fin 32 => ks ≤ k.val), tallyAt (recvCell (tgt c k) k) () Nr
/-- At launch it owes one unit to each neighbour's barrier besides. -/
def O₁ (c : Dev nD) : CellTallies nD τ sig Unit := Ow c 0 + tallyAt (barCell (nb 1 c)) () 1
def O₂ (c : Dev nD) : CellTallies nD τ sig Unit := O₁ c + tallyAt (barCell (nb 2 c)) () 1
def O₀ (c : Dev nD) : CellTallies nD τ sig Unit := O₂ c + tallyAt (barCell (nb 0 c)) () 1

theorem Ow_step (c : Dev nD) (k : Fin 32) : Ow c k.val = Ow c (k.val + 1) + tallyAt (recvCell (tgt c k) k) () Nr := by
  unfold Ow
  have h : Finset.univ.filter (fun j : Fin 32 => k.val ≤ j.val) = insert k (Finset.univ.filter fun j : Fin 32 => k.val + 1 ≤ j.val) := by
    ext j; simp only [Finset.mem_filter, Finset.mem_insert, Finset.mem_univ, true_and, Fin.ext_iff]; omega
  rw [h, Finset.sum_insert (by simp), add_comm]
theorem Ow_end (c : Dev nD) : Ow c 32 = 0 := by
  unfold Ow
  rw [Finset.filter_eq_empty_iff.mpr (fun k _ => by have := k.isLt; omega), Finset.sum_empty]

def L (g : GSem nD τ sig) : Finset Unit := if g.1.2 = .tc then {()} else ∅
/-- The level of the semaphore of piece `k`. -/
def lvK (k : Fin 32) : ℕ := if k.val < 11 then 2 else if k.val < 27 then 3 else 4
def lvS (sm : SemLoc sig) : ℕ := match sm with | .reg _ => 1 | .dma i => match decR i with | some k => lvK k | none => 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (k : Fin 32) : lv (recvCell c k) () = lvK k := by
  show lvS (.dma (rSem k)) = _; unfold lvS; dsimp only; rw [decR_r]
theorem lvS_s : ∀ k, lvS (.dma (sSem k)) = 0 := by decide +kernel
theorem lvS_a : ∀ i, lvS (.dma (aSem i)) = 0 := by decide +kernel
theorem lvS_o : ∀ i, lvS (.dma (oSem i)) = 0 := by decide +kernel
theorem lvS_r : ∀ k, lvS (.dma (rSem k)) = lvK k := by decide +kernel
theorem lvK_pos : ∀ k, 2 ≤ lvK k := by decide

theorem Ow_pos {c : Dev nD} {ks : ℕ} {g : GSem nD τ sig} {u : Unit} (h : 0 < Ow c ks g u) : ∃ k : Fin 32, ks ≤ k.val ∧ g = recvCell (tgt c k) k := by
  unfold Ow at h
  rw [Finset.sum_apply, Finsupp.finset_sum_apply] at h
  obtain ⟨k, hk, hp⟩ := Finset.exists_ne_zero_of_sum_ne_zero (Nat.pos_iff_ne_zero.mp h)
  refine ⟨k, (Finset.mem_filter.mp hk).2, ?_⟩
  by_contra hn
  rw [tallyAt_apply, if_neg (fun h' => hn h'.1)] at hp
  exact hp rfl

theorem O₀_pos {c : Dev nD} {g : GSem nD τ sig} {u : Unit} (h : 0 < O₀ c g u) : (∃ k : Fin 32, g = recvCell (tgt c k) k) ∨ ∃ d, g = barCell d := by
  unfold O₀ O₂ O₁ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  obtain ⟨k, -, hk⟩ := Ow_pos (c := c) (ks := 0) (g := g) (u := u) (by omega)
  exact hn.1 ⟨k, hk⟩

omit [FloatOps F] in
/-- A device may wait at a semaphore that stands below all it still owes. -/
theorem mayWait (c : Dev nD) (sm : SemLoc sig) (ks : ℕ) (hl : ∀ k : Fin 32, ks ≤ k.val → lvS sm < lvK k) :
    (levAts L lv : sProp 𝕄) ⊢ MayWait (c : Thread nD τ) sm () (Ow c ks) :=
  MayOwe.of_cut (L := L) (lev := lv) (lvS sm) (fun p hp => by rw [Finset.mem_singleton.mp hp, L_tc]; exact Finset.mem_singleton_self _)
    (fun g u hg => by obtain ⟨k, -, rfl⟩ := Ow_pos hg; rw [L_tc]; exact Finset.mem_singleton_self _)
    (fun p hp => by rw [Finset.mem_singleton.mp hp]; exact le_rfl)
    (fun g u hg => by obtain ⟨k, hk, rfl⟩ := Ow_pos hg; rw [lv_r]; exact hl k hk)

end Cert.KProof
-- ==== Proof.K.State.lean ====
/-
The state of a device between two operations of the kernel, and its parts: what is still to be sent, in flight, still
to be received, held, the two slots of each staging buffer.
-/
module

public import proofs.«01_k».proof.Proof.K.Sched

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ

/-! ## Families with a moving end -/

/-- The members `k, k + 1, …` of a family. -/
def Suf {n : ℕ} (k : ℕ) (Φ : Fin n → sProp 𝕄) : sProp 𝕄 := bigSep (Finset.univ.filter fun i : Fin n => k ≤ i.val) Φ
/-- The members below `k`. -/
def Pre {n : ℕ} (k : ℕ) (Φ : Fin n → sProp 𝕄) : sProp 𝕄 := bigSep (Finset.univ.filter fun i : Fin n => i.val < k) Φ

omit [FloatOps F] in
theorem Suf_pop {n : ℕ} (i : Fin n) (Φ : Fin n → sProp 𝕄) : Suf i.val Φ = iprop(Φ i ∗ Suf (i.val + 1) Φ) := by
  unfold Suf
  have h : Finset.univ.filter (fun j : Fin n => i.val ≤ j.val) = insert i (Finset.univ.filter fun j : Fin n => i.val + 1 ≤ j.val) := by
    ext j; simp only [Finset.mem_filter, Finset.mem_insert, Finset.mem_univ, true_and, Fin.ext_iff]; omega
  rw [h, bigSep_insert (by simp)]; rfl
omit [FloatOps F] in
theorem Pre_push {n : ℕ} (i : Fin n) (Φ : Fin n → sProp 𝕄) : Pre (i.val + 1) Φ = iprop(Φ i ∗ Pre i.val Φ) := by
  unfold Pre
  have h : Finset.univ.filter (fun j : Fin n => j.val < i.val + 1) = insert i (Finset.univ.filter fun j : Fin n => j.val < i.val) := by
    ext j; simp only [Finset.mem_filter, Finset.mem_insert, Finset.mem_univ, true_and, Fin.ext_iff]; omega
  rw [h, bigSep_insert (by simp)]; rfl
omit [FloatOps F] in
theorem Suf_zero {n : ℕ} (Φ : Fin n → sProp 𝕄) : Suf 0 Φ = bigSep Finset.univ Φ := by
  unfold Suf; rw [Finset.filter_true_of_mem fun _ _ => Nat.zero_le _]
omit [FloatOps F] in
theorem Pre_zero {n : ℕ} (Φ : Fin n → sProp 𝕄) : Pre 0 Φ = iprop(emp) := by
  unfold Pre; rw [Finset.filter_false_of_mem fun _ _ => Nat.not_lt_zero _]; rfl
omit [FloatOps F] in
theorem Pre_all {n : ℕ} (Φ : Fin n → sProp 𝕄) : Pre n Φ = bigSep Finset.univ Φ := by
  unfold Pre; rw [Finset.filter_true_of_mem fun i _ => i.isLt]

omit [FloatOps F] in
/-- One of two slots changes. -/
theorem slots_upd (i : Fin 2) (Φ Φ' : Fin 2 → sProp 𝕄) (h : ∀ j, j ≠ i → Φ j = Φ' j) :
    bigSep Finset.univ Φ ⊢ iprop(Φ i ∗ (Φ' i -∗ bigSep Finset.univ Φ')) := by
  have e1 : bigSep Finset.univ Φ = iprop(Φ i ∗ bigSep (Finset.univ.erase i) Φ') :=
    (bigSep_univ_split i).trans (by rw [bigSep_congr (s := Finset.univ.erase i) (Ψ := Φ') fun j hj => h j (Finset.ne_of_mem_erase hj)]; rfl)
  have e2 : bigSep Finset.univ Φ' = iprop(Φ' i ∗ bigSep (Finset.univ.erase i) Φ') := bigSep_univ_split i
  rw [e1, e2]
  iintro ⟨H1, H2⟩
  isplitl [H1]; · iexact H1
  iintro H3
  isplitl [H3] <;> iassumption

variable (m : (ℓ : Loc nD τ sig) → Buf (Elt F) ℓ) (K : Dev nD × Option (DmaSem sig) → ℕ)

/-! ## What every device knows -/

/-- The invariants of all cells, that all are at round 0 or later, and the levels. -/
def Env : sProp 𝕄 :=
  iprop(levAts L lv ∗ (bigSep Finset.univ fun p => cellInv ER (Rd m) (K p) (kcell p)) ∗ bigSep Finset.univ fun p => reached ER (kcell p) 0)

instance Env_persistent : BI.Persistent (Env m K) := by
  unfold Env
  infer_instance

theorem Env_inv (p) : Env m K ⊢ cellInv ER (Rd m) (K p) (kcell p) := by
  unfold Env
  iintro ⟨-, H, -⟩
  have e : (bigSep Finset.univ fun p => cellInv ER (Rd m) (K p) (kcell p)) ⊢ cellInv ER (Rd m) (K p) (kcell p) := bigSep_elim (Finset.mem_univ p)
  iapply e $$ H
theorem Env_reached (p) : Env m K ⊢ reached ER (kcell p) 0 := by
  unfold Env
  iintro ⟨-, -, H⟩
  have e : (bigSep (M := 𝕄) Finset.univ fun p => reached ER (kcell p) 0) ⊢ reached ER (kcell p) 0 := bigSep_elim (Finset.mem_univ p)
  iapply e $$ H
theorem Env_lev : Env m K ⊢ levAts L lv := by
  unfold Env
  iintro ⟨H, -, -⟩
  iexact H

/-! ## The parts of the state -/

variable (c : Dev nD)

/-- Still to be sent: the two tokens, the sender's position, the rows to be filled and, for a transfer of the argument, the argument. -/
def sndP (k : Fin 32) : sProp 𝕄 :=
  iprop(dutyTok ER (sendCell c k) 0 0 ∗ dutyTok ER (recvCell (tgt c k) k) 0 0 ∗ atPos ER (sendCell c k) 0 ∅ 0
    ∗ (∃ f, pieceP (F := F) (tgt c k) k fullShare f) ∗ if k.val < 11 then xP m c (xLeaf k.val) else iprop(emp))
/-- In flight. -/
def pendP (k : Fin 32) : sProp 𝕄 := iprop(cred (tallyAt (sendCell c k) () Nr) ∗ atPos ER (sendCell c k) 0 ∅ 0)
/-- Still to be received. -/
def rcvP (k : Fin 32) : sProp 𝕄 := iprop(cred (tallyAt (recvCell c k) () Nr) ∗ atPos ER (recvCell c k) 0 ∅ 0)
/-- The pieces that are forwarded. -/
abbrev lent (k : Fin 32) : Prop := k.val < 8 ∨ k.val = 13 ∨ k.val = 16 ∨ k.val = 19 ∨ k.val = 22 ∨ k.val = 25
/-- A received piece: kept in part, or whole when it is not forwarded. -/
def heldP (k : Fin 32) : sProp 𝕄 :=
  iprop(pieceP c k qL (Rf m c) ∗ (if lent k then iprop(emp) else pieceP c k qR (Rf m c)) ∗ semVal (recvCell c k) 0)
/-- A copy of chunk `n` of the argument still to be started, and a copy out. -/
def aRP (n : Fin 8) : sProp 𝕄 := iprop(dutyTok ER (dCell c (aSem (slotC n))) (n.val / 2) 0 ∗ xP m c (xLeaf (11 + n.val)))
def oRP (n : Fin 8) : sProp 𝕄 := iprop(dutyTok ER (dCell c (oSem (slotC n))) (n.val / 2) 0 ∗ ∃ f, outP (F := F) c n f)

/-- How many of the first `n` chunks use slot `i`. -/
def cnt (n : ℕ) (i : Fin 2) : ℕ := (n + 1 - i.val) / 2
/-- What slot `i` holds after `r` copies. -/
def aMem (i : Fin 2) (r : ℕ) : sProp 𝕄 := if r = 0 then iprop(∃ f, aSlot (F := F) c i f) else aSlot c i (aBuf m c (chunkOf i (r - 1)))
/-- Slot `i` after `s` copies into it were started and `w` awaited. -/
def aSt (i : Fin 2) (s w : ℕ) : sProp 𝕄 :=
  if s = w then iprop(aMem m c i w ∗ atPos ER (dCell c (aSem i)) w ∅ 0 ∗ reached ER (dCell c (aSem i)) w)
  else iprop(cred (tallyAt (dCell c (aSem i)) () Na) ∗ atPos ER (dCell c (aSem i)) w ∅ 0)
/-- Slot `i` of the result after `t` stores, `s` copies started and `w` awaited. -/
def oSt (i : Fin 2) (t s w : ℕ) : sProp 𝕄 :=
  if s = w then
    iprop((if t = s then iprop(∃ f, oSlot (F := F) c i f) else oSlot c i (oBuf m c (chunkOf i w)))
      ∗ atPos ER (dCell c (oSem i)) w ∅ 0 ∗ reached ER (dCell c (oSem i)) w)
  else iprop(cred (tallyAt (dCell c (oSem i)) () No) ∗ atPos ER (dCell c (oSem i)) w ∅ 0)

/-- The state: `ks` transfers started, `kr` pieces received, `ac` chunks of the argument copied in and `aw` awaited, `ot`
    chunks of the result stored, `oc` copied out and `ow` awaited; `R` is what else is held. -/
def St (ks kr ac aw ot oc ow : ℕ) (R : sProp 𝕄) : sProp 𝕄 :=
  iprop(Env m K ∗ (∃ W, owes (c : Thread nD τ) (Ow c ks) W)
    ∗ Suf ks (sndP m c) ∗ Pre ks (pendP (F := F) c)
    ∗ Suf kr (fun p => rcvP (F := F) c (rOrd p)) ∗ Pre kr (fun p => heldP m c (rOrd p))
    ∗ Suf ac (aRP m c) ∗ (bigSep Finset.univ fun i => aSt m c i (cnt ac i) (cnt aw i))
    ∗ Suf oc (oRP (F := F) c) ∗ (bigSep Finset.univ fun i => oSt m c i (cnt ot i) (cnt oc i) (cnt ow i))
    ∗ Pre ow (fun n => outP c n (outF m c)) ∗ R)

/-- The state once everything was sent and received: `kw` finished transfers awaited. -/
def StW (kw ow : ℕ) (R : sProp 𝕄) : sProp 𝕄 :=
  iprop(Env m K ∗ (∃ W, owes (c : Thread nD τ) (Ow c 32) W)
    ∗ Suf kw (fun p => pendP (F := F) c (wOrd p)) ∗ Pre kw (fun p => iprop(sPay m c (wOrd p) ∗ semVal (sendCell c (wOrd p)) 0))
    ∗ (bigSep Finset.univ fun i => oSt m c i (cnt 8 i) (cnt 8 i) (cnt ow i))
    ∗ Pre ow (fun n => outP c n (outF m c)) ∗ R)

/-! ## Contents -/

omit [FloatOps F] in
/-- A transfer of the argument to the `z`-peer fills its piece. -/
theorem land_x (k : Fin 32) (hk : k.val < 11) (inb inbx) (fd : S8192x1024.Idx → Elt F .f32) (i : S8192x1024.Idx) (hi : i ∈ rows2 (srow c k) 256) :
    (rV (srow c k) inb).view.write (Elt F) fd ((xV (srow c k) ((1 - zOf c) * 1024) inbx).view.read (Elt F) (X m c)) Finset.univ i = Rf m (tgt c k) i := by
  obtain ⟨h1, h2⟩ := mem_rows2.mp hi
  rw [rV_write _ _ _ _ _ h1 h2]
  have hs := sK_lt k
  have hr : srow c k = (fp c + tS k) % 4 * 2048 + 256 * sK k := rfl
  have hq : (i 0).val / 2048 = (fp c + tS k) % 4 := by omega
  have hs' : (i 0).val % 2048 / 256 = sK k := by omega
  have hz := zOf_tgt_x c k hk
  unfold Rf
  rw [hq, hs', srcDev_tgt_x c k hk]
  show X m c ((xV (srow c k) ((1 - zOf c) * 1024) inbx).view.emb _) = _
  rw [xV_emb (srow c k) ((1 - zOf c) * 1024) inbx ⟨(i 0).val - srow c k, by omega⟩ (i 1) (i 0) (colZ (zOf (tgt c k)) (i 1))
    (by show (i 0).val = srow c k + ((i 0).val - srow c k); omega)
    (by show zOf (tgt c k) % 2 * 1024 + (i 1).val = _; rw [hz]; omega)]

omit [FloatOps F] in
/-- A forwarded piece fills its piece. -/
theorem land_r (k : Fin 32) (hk : 11 ≤ k.val) (inb inb') (fd : S8192x1024.Idx → Elt F .f32) (i : S8192x1024.Idx) (hi : i ∈ rows2 (srow c k) 256) :
    (rV (srow c k) inb).view.write (Elt F) fd ((rV (srow c k) inb').view.read (Elt F) (Rf m c)) Finset.univ i = Rf m (tgt c k) i := by
  obtain ⟨h1, h2⟩ := mem_rows2.mp hi
  rw [rV_write _ _ _ _ _ h1 h2]
  have hs := sK_lt k
  have hr : srow c k = (fp c + tS k) % 4 * 2048 + 256 * sK k := rfl
  have hq : (i 0).val / 2048 = (fp c + tS k) % 4 := by omega
  have hs' : (i 0).val % 2048 / 256 = sK k := by omega
  have hz := zOf_tgt_r c k hk
  show Rf m c ((Rect.unit (s := S8192x1024) (offR (srow c k)) S256x1024.size inb').emb _) = _
  rw [rows256_emb (srow c k) inb' ⟨(i 0).val - srow c k, by omega⟩ (i 1) (i 0) (by show (i 0).val = srow c k + ((i 0).val - srow c k); omega)]
  unfold Rf
  show X m (srcDev c ((i 0).val / 2048) ((i 0).val % 2048 / 256)) (xix (i 0) (colZ (zOf c) (i 1))) = _
  rw [hq, hs', srcDev_tgt_r c k hk, hz]

omit [FloatOps F] in
/-- A chunk of the argument fills its slot. -/
theorem land_a (n : Fin 8) (inb inbx) (fd : S2x1024x1024.Idx → Elt F .f32) (i : S2x1024x1024.Idx) (hi : i ∈ slot3 (slotC n).val) :
    (aV (slotC n).val inb).view.write (Elt F) fd ((xW (rowC c n) (zOf c * 1024) inbx).view.read (Elt F) (X m c)) Finset.univ i = aBuf m c n i := by
  rw [aV_write _ _ _ _ _ (mem_slot3.mp hi)]
  show X m c ((xW (rowC c n) (zOf c * 1024) inbx).view.emb _) = _
  rw [xW_emb (rowC c n) (zOf c * 1024) inbx (i 1) (i 2) (rowIx c n (i 1)) (colZ (zOf c) (i 2)) rfl
    (by have hz : zOf c < 2 := Nat.mod_lt _ (by decide)
        show zOf c % 2 * 1024 + (i 2).val = _; rw [Nat.mod_eq_of_lt hz])]
  rfl

/-- A slot of the result fills its chunk. -/
theorem land_o (n : Fin 8) (inb inbo) (fd : S8192x1024.Idx → Elt F .f32) (i : S8192x1024.Idx) (hi : i ∈ rows2 (rowC c n) 1024) :
    (yV (rowC c n) inb).view.write (Elt F) fd ((oV (slotC n).val inbo).view.read (Elt F) (oBuf m c n)) Finset.univ i = outF m c i := by
  obtain ⟨h1, h2⟩ := mem_rows2.mp hi
  rw [yV_write _ _ _ _ _ h1 h2]
  show oBuf m c n ((oV (slotC n).val inbo).view.emb _) = _
  rw [oV_emb (slotC n).val inbo ⟨(i 0).val - rowC c n, by omega⟩ (i 1) (slotC n) rfl]
  show outF m c (ix2 (rowIx c n ⟨(i 0).val - rowC c n, by omega⟩) (i 1)) = _
  rw [show rowIx c n ⟨(i 0).val - rowC c n, by omega⟩ = i 0 from Fin.ext (by show rowC c n + ((i 0).val - rowC c n) = _; omega)]
  exact congrArg _ (eq_ix2 i).symm

/-- What the three loads of a chunk read. -/
def vA (n : Fin 8) : S1x1024x1024.Idx → Elt F .f32 := fun j => X m c (xix (rowIx c n (j 1)) (colZ (zOf c) (j 2)))
def vR (n : Fin 8) : S1024x1024.Idx → Elt F .f32 := fun j => Rf m c (ix2 (rowIx c n (j 0)) (j 1))

omit [FloatOps F] in
theorem read_a (n : Fin 8) (inb) : aM.view.readAt (Elt F) (Rect.unit (s := S2x1024x1024) ![(slotC n).val, 0, 0] S1x1024x1024.size inb).toLoadRect (aBuf m c n) = vA m c n := by
  funext j
  show aBuf m c n ((Rect.unit (s := S2x1024x1024) ![(slotC n).val, 0, 0] S1x1024x1024.size inb).emb j) = _
  have e : (Rect.unit (s := S2x1024x1024) ![(slotC n).val, 0, 0] S1x1024x1024.size inb).emb j = ix3 (slotC n) (j 1) (j 2) :=
    (congrArg _ (eq_ix3 j)).trans (slot_emb _ inb (j 0) (j 1) (j 2) (slotC n) rfl)
  rw [e]; rfl

omit [FloatOps F] in
theorem read_r (n : Fin 8) (inb) : rM.view.readAt (Elt F) (Rect.unit (s := S8192x1024) (offR (rowC c n)) S1024x1024.size inb).toLoadRect (Rf m c) = vR m c n := by
  funext j
  show Rf m c ((Rect.unit (s := S8192x1024) (offR (rowC c n)) S1024x1024.size inb).emb j) = _
  have e : (Rect.unit (s := S8192x1024) (offR (rowC c n)) S1024x1024.size inb).emb j = ix2 (rowIx c n (j 0)) (j 1) :=
    (congrArg _ (eq_ix2 j)).trans (rows1024_emb _ inb (j 0) (j 1) (rowIx c n (j 0)) rfl)
  rw [e]; rfl

/-- The sum the kernel stores for a chunk. -/
theorem store_o (n : Fin 8) (inb) (f : S2x1024x1024.Idx → Elt F .f32) (i : S2x1024x1024.Idx) (hi : i ∈ slot3 (slotC n).val) :
    (oM.access (Rect.unit (s := S2x1024x1024) ![(slotC n).val, 0, 0] S1x1024x1024.size inb)).write (Elt F) f (k0_pay1 (vA m c n) (vR m c n)) Finset.univ i = oBuf m c n i := by
  rw [oM_store _ _ _ _ _ (mem_slot3.mp hi)]
  have e : ∀ a b : Fin 1024, k0_pay1 (vA m c n) (vR m c n) (ix3 0 a b) = FloatOps.addf (φ := .f32) (vA m c n (ix3 0 a b)) (vR m c n (ix2 a b)) := fun a b =>
    (ValueIdx.shapeCast_ab_1ab_apply (addf (shapeCast S1024x1024 (vA m c n) shapeCasts_S1x1024x1024_S1024x1024) (vR m c n)) _ 0 a b).trans
      (congrArg (FloatOps.addf (φ := .f32) · (vR m c n (ix2 a b))) (ValueIdx.shapeCast_1ab_ab_apply (vA m c n) shapeCasts_S1x1024x1024_S1024x1024 a b))
  exact e (i 1) (i 2)

end Cert.KProof
-- ==== Proof.K.Send.lean ====
/-
The steps that start something: a transfer to the `z`-peer, a forward, a copy of a chunk in or out.
-/
module

public import proofs.«01_k».proof.Proof.K.State
public import Idealize.ShloMosaic.Lib.Tactic

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (K : Dev nD × Option (DmaSem sig) → ℕ)
variable {c : Dev nD} {α : Type} {Q : α → sProp (MT nD τ sig Unit (Elt F) ℕ UU ℕ)}

/-- The weakest precondition of a program of device `c`'s core. -/
abbrev WP (c : Dev nD) {α : Type} (p : Prog (TpuEff nD τ sig (Elt F) Λ₀ .tc) α) (Q : α → sProp (MT nD τ sig Unit (Elt F) ℕ UU ℕ)) : sProp (MT nD τ sig Unit (Elt F) ℕ UU ℕ) :=
  wp frame (wpE (defs₀ (F := F)) 𝒱₀ (c : Thread nD τ) none) Set.univ p Q

/-- A transfer `k` from `src`, which makes what the sender's semaphore hands back and fills piece `k` of the target. -/
theorem wp_send_k (k : Fin 32) {n : Dev nD} (hn : n = tgt c k) {sp : Space} {src : Memref sig .tc sp S256x1024 .f32}
    {inb} {hsc : (rV (srow c k) inb : Memref sig (Dev.tc n : Thread nD τ).2.kind .vmem S256x1024 .f32).view.ref.isScScratch = false}
    {hsrc : src.view.WordExact} {hdst : (rV (srow c k) inb).view.WordExact}
    {hsem : DmaTarget.Typed sp (.dma (rSem k)) (.remote (Dev.tc n : Thread nD τ) (rV (srow c k) inb) (.dma (sSem k)) hsc)}
    {kont : PUnit → Prog (TpuEff nD τ sig (Elt F) Λ₀ .tc) α}
    {q : PosShare TreeShare} {fs : Buf (Elt F) (src.view.loc (c : Thread nD τ))}
    (hs : (src.view.loc (c : Thread nD τ) ↦[src.view.set]{q} fs : sProp 𝕄) ⊢ sPay m c k)
    (hd : ∀ (fd : S8192x1024.Idx → Elt F .f32) i, i ∈ rows2 (srow c k) 256 → (rV (srow c k) inb).view.write (Elt F) fd (src.view.read (Elt F) fs) Finset.univ i = Rf m (tgt c k) i) :
    iprop(Env m K ∗ (src.view.loc (c : Thread nD τ) ↦[src.view.set]{q} fs) ∗ (∃ f, pieceP (F := F) (tgt c k) k fullShare f)
        ∗ (∃ W, owes (c : Thread nD τ) (Ow c k.val) W) ∗ dutyTok ER (sendCell c k) 0 0 ∗ dutyTok ER (recvCell (tgt c k) k) 0 0)
      ⊢ iprop(((cred (tallyAt (sendCell c k) () Nr) ∗ ∃ W, owes (c : Thread nD τ) (Ow c (k.val + 1)) W) -∗ WP c (kont ⟨⟩) Q)
          -∗ WP c (.op (.enqueueDma src (.remote (Dev.tc n : Thread nD τ) (rV (srow c k) inb) (.dma (sSem k)) hsc) (.dma (rSem k)) hsrc hdst hsem) kont) Q) := by
  subst hn
  iintro ⟨#HE, Hs, ⟨%fd, Hd⟩, ⟨%W, HO⟩, Ht1, Ht2⟩
  iintro Hk
  have hp : (pieceP (F := F) (tgt c k) k fullShare fd : sProp 𝕄)
      = ((rV (srow c k) inb).view.loc (tgt c k : Thread nD τ) ↦[(rV (srow c k) inb).view.set]{fullShare} fd) := by
    unfold pieceP; rw [rV_set, row_tgt]
  ihave Hd' := (Entails.of_eq hp) $$ Hd
  ihave HI1 := (Env_inv m K (c, some (sSem k))) $$ HE
  ihave HI2 := (Env_inv m K (tgt c k, some (rSem k))) $$ HE
  ihave HR1 := (Env_reached m K (c, some (sSem k))) $$ HE
  ihave HR2 := (Env_reached m K (tgt c k, some (rSem k))) $$ HE
  have hN : (rV (srow c k) inb).view.amount (.dma (rSem k)) = Nr := rV_credit _ _
  have hp2 : ((rV (srow c k) inb).view.loc (tgt c k : Thread nD τ) ↦[(rV (srow c k) inb).view.set]{fullShare}
      (rV (srow c k) inb).view.write (Elt F) fd (src.view.read (Elt F) fs) Finset.univ : sProp 𝕄) ⊢ (Rd m).payload (recvCell (tgt c k) k) 0 0 := by
    rw [payload_r]; unfold rPay pieceP
    rw [rV_set, row_tgt]
    exact Entails.of_eq (pointsTo_congr (hd fd))
  have hp1 : (src.view.loc (c : Thread nD τ) ↦[src.view.set]{q} fs : sProp 𝕄) ⊢ (Rd m).payload (sendCell c k) 0 0 := by
    rw [payload_s]; exact hs
  have hd1 : (0 : DD) ∈ (Rd m).duties (sendCell c k) 0 := by rw [duties_dma m c (by rw [nR_s]; exact Nat.one_pos)]; exact Finset.mem_singleton_self _
  have hd2 : (0 : DD) ∈ (Rd m).duties (recvCell (tgt c k) k) 0 := by
    rw [duties_dma m (tgt c k) (by rw [nR_r]; exact Nat.one_pos)]; exact Finset.mem_singleton_self _
  iapply (Rounds.wp_send_pointsTo 𝒱₀ ER (Rd m) (c : Thread nD τ) none (κ₁ := K (c, some (sSem k))) (κ₂ := K (tgt c k, some (rSem k)))
    (r₁ := 0) (r₂ := 0) (d₁ := 0) (d₂ := 0) (fd := fd) (q := q) (fs := fs)
    hd1 hd2 () () Nr hN (amount_s m c k 0 0) (amount_r m (tgt c k) k 0 0) (Ow c (k.val + 1)) (Ow_step c k) (W := W) hp1 hp2) $$ [Hs Hd' HO Ht1 Ht2]
  · isplitr; · iexact HI1
    isplitr; · iexact HI2
    isplitl [Hs]; · iexact Hs
    isplitl [Hd']; · iexact Hd'
    isplitl [HO]; · iexact HO
    isplitl [Ht1]; · iexact Ht1
    isplitr; · iexact HR1
    isplitl [Ht2]; · iexact Ht2
    iexact HR2
  iintro ⟨Hc, HO⟩
  iapply Hk
  isplitl [Hc]; · iexact Hc
  iexists W; iexact HO

variable {ks kr ac aw ot oc ow : ℕ} {R R' : sProp (MT nD τ sig Unit (Elt F) ℕ UU ℕ)}

/-- Transfer `k < 11`: half the columns of 256 rows of the argument, to the `z`-peer. -/
theorem step_z (k : Fin 32) (hk : k.val < 11) (hks : ks = k.val) {n : Dev nD} (hn : n = tgt c k) {offd : Fin 2 → ℕ} {offs : Fin 3 → ℕ}
    (hod : offd = offR (srow c k)) (hos : offs = offX (srow c k) ((1 - zOf c) * 1024)) {inbd inbs}
    {sS sR : DmaSem sig} (hsS : sS = sSem k) (hsR : sR = rSem k)
    {hsc : (rM.slice (Rect.unit (s := S8192x1024) offd S256x1024.size inbd) (fun _ => rfl) : Memref sig (Dev.tc n : Thread nD τ).2.kind .vmem S256x1024 .f32).view.ref.isScScratch = false}
    {hsrc hdst hsem} {kont : PUnit → Prog (TpuEff nD τ sig (Elt F) Λ₀ .tc) α}
    (h : St m K c (ks + 1) kr ac aw ot oc ow R ⊢ WP c (kont ⟨⟩) Q) :
    St m K c ks kr ac aw ot oc ow R
      ⊢ WP c (.op (.enqueueDma ((xM.slice (Rect.unit (s := S1x8192x2048) offs S1x256x1024.size inbs) (fun _ => rfl)).squeeze S256x1024 squeezes_S1x256x1024_S256x1024)
          (.remote (Dev.tc n : Thread nD τ) (rM.slice (Rect.unit (s := S8192x1024) offd S256x1024.size inbd) (fun _ => rfl)) (.dma sS) hsc) (.dma sR) hsrc hdst hsem) kont) Q := by
  subst hks hod hos hsS hsR
  unfold St at h ⊢
  rw [Suf_pop k, Pre_push k] at *
  unfold sndP
  rw [if_pos hk]
  iintro ⟨#HE, HO, ⟨⟨Ht1, Ht2, Hat, Hd, Hx⟩, HS⟩, HP, Hrest⟩
  have hx : (xP m c (xLeaf k.val) : sProp 𝕄) ⊢ ((xV (srow c k) ((1 - zOf c) * 1024) inbs).view.loc (c : Thread nD τ)
      ↦[(xV (srow c k) ((1 - zOf c) * 1024) inbs).view.set]{xLeaf k.val} X m c) := by
    unfold xP
    iintro H
    ihave H2 := (pointsTo_split_subset (Finset.subset_univ (xV (srow c k) ((1 - zOf c) * 1024) inbs).view.set)).1 $$ H
    icases H2 with ⟨H2, -⟩
    iexact H2
  ihave Hs := hx $$ Hx
  iapply (wp_send_k m K k hn (fs := X m c) (q := xLeaf k.val)
    (by unfold sPay; rw [if_pos hk]; iintro -; iempintro) (fun fd i hi => land_x m c k hk inbd inbs fd i hi)) $$ [HO Ht1 Ht2 Hd Hs]
  · isplitr; · iexact HE
    isplitl [Hs]; · iexact Hs
    isplitl [Hd]; · iexact Hd
    isplitl [HO]; · iexact HO
    isplitl [Ht1] <;> iassumption
  iintro ⟨Hc, HO⟩
  iapply h
  unfold pendP
  isplitr; · iexact HE
  isplitl [HO]; · iexact HO
  isplitl [HS]; · iexact HS
  isplitl [Hc Hat HP]
  · isplitl [Hc Hat]
    · isplitl [Hc] <;> iassumption
    iexact HP
  iexact Hrest

/-- Transfer `k ≥ 11`: a received piece, forwarded. -/
theorem step_r (k : Fin 32) (hk : 11 ≤ k.val) (hks : ks = k.val) {n : Dev nD} (hn : n = tgt c k) {off : Fin 2 → ℕ}
    (hod : off = offR (srow c k)) {inbd inbs} {sS sR : DmaSem sig} (hsS : sS = sSem k) (hsR : sR = rSem k)
    {hsc : (rM.slice (Rect.unit (s := S8192x1024) off S256x1024.size inbd) (fun _ => rfl) : Memref sig (Dev.tc n : Thread nD τ).2.kind .vmem S256x1024 .f32).view.ref.isScScratch = false}
    {hsrc hdst hsem} {kont : PUnit → Prog (TpuEff nD τ sig (Elt F) Λ₀ .tc) α}
    (hR : R ⊢ iprop(lendP m c k ∗ R'))
    (h : St m K c (ks + 1) kr ac aw ot oc ow R' ⊢ WP c (kont ⟨⟩) Q) :
    St m K c ks kr ac aw ot oc ow R
      ⊢ WP c (.op (.enqueueDma (rM.slice (Rect.unit (s := S8192x1024) off S256x1024.size inbs) (fun _ => rfl))
          (.remote (Dev.tc n : Thread nD τ) (rM.slice (Rect.unit (s := S8192x1024) off S256x1024.size inbd) (fun _ => rfl)) (.dma sS) hsc) (.dma sR) hsrc hdst hsem) kont) Q := by
  subst hks hod hsS hsR
  unfold St at h ⊢
  rw [Suf_pop k, Pre_push k] at *
  unfold sndP
  rw [if_neg (by omega)]
  iintro ⟨#HE, HO, ⟨⟨Ht1, Ht2, Hat, Hd, -⟩, HS⟩, HP, H1, H2, H3, H4, H5, H6, H7, HR⟩
  ihave HR2 := hR $$ HR
  icases HR2 with ⟨Hl, HR⟩
  have hx : (lendP m c k : sProp 𝕄) = ((rV (srow c k) inbs).view.loc (c : Thread nD τ) ↦[(rV (srow c k) inbs).view.set]{qsh k} Rf m c) := by
    unfold lendP pieceP
    rw [if_neg (by omega), rV_set, row_srcK c k hk]
  ihave Hs := (Entails.of_eq hx) $$ Hl
  iapply (wp_send_k m K k hn (fs := Rf m c) (q := qsh k)
    (by rw [← hx]; unfold sPay lendP; rw [if_neg (by omega), if_neg (by omega)])
    (fun fd i hi => land_r m c k hk inbd inbs fd i hi)) $$ [HO Ht1 Ht2 Hd Hs]
  · isplitr; · iexact HE
    isplitl [Hs]; · iexact Hs
    isplitl [Hd]; · iexact Hd
    isplitl [HO]; · iexact HO
    isplitl [Ht1] <;> iassumption
  iintro ⟨Hc, HO⟩
  iapply h
  unfold pendP
  isplitr; · iexact HE
  isplitl [HO]; · iexact HO
  isplitl [HS]; · iexact HS
  isplitl [Hc Hat HP]
  · isplitl [Hc Hat]
    · isplitl [Hc] <;> iassumption
    iexact HP
  isplitl [H1]; · iexact H1
  isplitl [H2]; · iexact H2
  isplitl [H3]; · iexact H3
  isplitl [H4]; · iexact H4
  isplitl [H5]; · iexact H5
  isplitl [H6]; · iexact H6
  isplitl [H7] <;> iassumption

end Cert.KProof
-- ==== Proof.K.Wait.lean ====
/-
The waits: the barrier with its three signals, the arrival of a piece, the end of a transfer, the end of a local copy.
-/
module

public import proofs.«01_k».proof.Proof.K.Send

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (K : Dev nD × Option (DmaSem sig) → ℕ)
variable {c : Dev nD} {α : Type} {Q : α → sProp (MT nD τ sig Unit (Elt F) ℕ UU ℕ)}
variable {ks kr kw ac aw ot oc ow : ℕ} {R R' : sProp (MT nD τ sig Unit (Elt F) ℕ UU ℕ)}

/-- A wait for round `r` of a transfer semaphore hands over the round's payload. -/
theorem wp_wait_k (i : DmaSem sig) (r : ℕ) {N : ℕ} {P : sProp (MT nD τ sig Unit (Elt F) ℕ UU ℕ)} (hr : r < nR (.dma i)) (hl : ∀ k : Fin 32, ks ≤ k.val → lvS (.dma i) < lvK k)
    (ha : (Rd (F := F) m).amount (dCell c i) r 0 = N) (hP : (Rd (F := F) m).payload (dCell c i) r 0 = P)
    {sp sp' : Space} {s s' : Shape} {e e' : EltTy} {src : Memref sig .tc sp' s' e'} {dst : Memref sig .tc sp s e} {hsrc : src.view.WordExact} {hdst : dst.view.WordExact}
    (hN : dst.view.dmaCredit = N) {kont : PUnit → Prog (TpuEff nD τ sig (Elt F) Λ₀ .tc) α} :
    iprop(Env m K ∗ cred (tallyAt (dCell c i) () N) ∗ (∃ W, owes (c : Thread nD τ) (Ow c ks) W) ∗ atPos ER (dCell c i) r ∅ 0)
      ⊢ iprop((((∃ W, owes (c : Thread nD τ) (Ow c ks) W) ∗ atPos ER (dCell c i) (r + 1) ∅ 0 ∗ reached ER (dCell c i) (r + 1) ∗ P) -∗ WP c (kont ⟨⟩) Q)
        -∗ WP c (.op (.waitDma2 i src dst hsrc hdst) kont) Q) := by
  subst hN
  iintro ⟨#HE, Hc, ⟨%W, HO⟩, Hat⟩
  iintro Hk
  ihave HI := (Env_inv m K (c, some i)) $$ HE
  have hM : Env m K ⊢ MayWait (c : Thread nD τ) (.dma i) () (Ow c ks) := (Env_lev m K).trans (mayWait c (.dma i) ks hl)
  ihave HM := hM $$ HE
  iapply (Rounds.wp_wait_rest_token 𝒱₀ ER (Rd m) (c : Thread nD τ) none (κ := K (c, some i))
      (wpE_waitDma2_eq 𝒱₀ (c : Thread nD τ) none Set.univ) (Set.mem_univ _) () (O := Ow c ks) (W := W) (R := r) (m := 0) (T := ∅)
      (by rw [Nat.zero_add, expect_dma m c hr ha])) $$ [Hc HO HM Hat]
  · isplitr; · iexact HI
    isplitl [Hc]; · iexact Hc
    isplitl [HO]; · iexact HO
    isplitl [HM] <;> iassumption
  iintro ⟨HO, Hat, Hr, HP⟩
  ihave HP' := (Entails.of_eq (rest_dma m c hr hP)) $$ HP
  iapply Hk
  isplitl [HO]; · iexists _; iexact HO
  isplitl [Hat]; · iexact Hat
  isplitl [Hr] <;> iassumption

/-- A semaphore past its last round closes at zero. -/
theorem close_k (i : DmaSem sig) (r : ℕ) (hr : nR (.dma i) ≤ r) : iprop(Env m K ∗ atPos ER (dCell c i) r ∅ 0) ⊢ iprop(|={Set.univ}=> semVal (dCell c i) 0) := by
  iintro ⟨#HE, Hat⟩
  ihave HI := (Env_inv m K (c, some i)) $$ HE
  iapply (Rounds.cell_close ER (Rd m) (Set.mem_univ (K (c, some i))) (fun h => h) (R := r) (duties_late m (dCell c i) r hr))
  isplitl [HI] <;> iassumption

/-! ## A piece arrives -/

/-- What is kept of a received piece. -/
def keepP (c : Dev nD) (k : Fin 32) : sProp 𝕄 := iprop(pieceP c k qL (Rf m c) ∗ if lent k then iprop(emp) else pieceP c k qR (Rf m c))

omit [FloatOps F] in
theorem piece_halves (k : Fin 32) (q : PosShare TreeShare) (f : S8192x1024.Idx → Elt F .f32) :
    (pieceP c k q f : sProp 𝕄) ⊣⊢ iprop(pieceP c k q.left f ∗ pieceP c k q.right f) := by
  unfold pieceP; exact pointsTo_share (PosShare.mem_left_op_right q)

omit [FloatOps F] in
/-- A piece that is not forwarded is kept. -/
theorem keep_all (k : Fin 32) (hk : ¬ lent k) : iprop(rPay m c k ∗ R) ⊢ iprop(keepP m c k ∗ R) := by
  unfold rPay keepP
  rw [if_neg hk]
  iintro ⟨H, HR⟩
  ihave H2 := (piece_halves k fullShare (Rf m c)).1 $$ H
  isplitl [H2] <;> iassumption
omit [FloatOps F] in
/-- A piece from the `z`-peer is lent to two transfers. -/
theorem keep_z (k k₁ k₂ : Fin 32) (hk : k.val < 8) (h₁ : k₁.val = 11 + 2 * k.val) (h₂ : k₂.val = 12 + 2 * k.val) (hs₁ : srcK k₁ = k) (hs₂ : srcK k₂ = k) :
    iprop(rPay m c k ∗ R) ⊢ iprop(keepP m c k ∗ (lendP m c k₁ ∗ lendP m c k₂ ∗ R)) := by
  have e₁ : lendP m c k₁ = pieceP c k qR.left (Rf m c) := by
    unfold lendP qsh; rw [if_neg (by omega), if_pos (by omega), if_pos (by omega), hs₁]
  have e₂ : lendP m c k₂ = pieceP c k qR.right (Rf m c) := by
    unfold lendP qsh; rw [if_neg (by omega), if_pos (by omega), if_neg (by omega), hs₂]
  rw [e₁, e₂]
  unfold rPay keepP
  rw [if_pos (Or.inl hk)]
  iintro ⟨H, HR⟩
  ihave H2 := (piece_halves k fullShare (Rf m c)).1 $$ H
  icases H2 with ⟨HL, HQ⟩
  ihave H3 := (piece_halves k qR (Rf m c)).1 $$ HQ
  icases H3 with ⟨H3, H4⟩
  isplitl [HL]
  · isplitl [HL]; · iexact HL
    iempintro
  isplitl [H3]; · iexact H3
  isplitl [H4] <;> iassumption
omit [FloatOps F] in
/-- A forwarded piece that is forwarded again is lent once. -/
theorem keep_b (k k₁ : Fin 32) (hk : lent k) (h₁ : 27 ≤ k₁.val) (hs₁ : srcK k₁ = k) :
    iprop(rPay m c k ∗ R) ⊢ iprop(keepP m c k ∗ (lendP m c k₁ ∗ R)) := by
  have e₁ : lendP m c k₁ = pieceP c k qR (Rf m c) := by
    unfold lendP qsh; rw [if_neg (by omega), if_neg (by omega), hs₁]
  rw [e₁]
  unfold rPay keepP
  rw [if_pos hk]
  iintro ⟨H, HR⟩
  ihave H2 := (piece_halves k fullShare (Rf m c)).1 $$ H
  icases H2 with ⟨HL, HQ⟩
  isplitl [HL]
  · isplitl [HL]; · iexact HL
    iempintro
  isplitl [HQ] <;> iassumption

/-- The wait for the piece at place `p`. -/
theorem step_recv (p : Fin 32) (hkr : kr = p.val) {sR : DmaSem sig} (hsR : sR = rSem (rOrd p)) (hl : ∀ k : Fin 32, ks ≤ k.val → lvK (rOrd p) < lvK k)
    {sp sp' : Space} {s s' : Shape} {e e' : EltTy} {src : Memref sig .tc sp' s' e'} {dst : Memref sig .tc sp s e} {hsrc : src.view.WordExact} {hdst : dst.view.WordExact}
    (hN : dst.view.dmaCredit = Nr) {kont : PUnit → Prog (TpuEff nD τ sig (Elt F) Λ₀ .tc) α}
    (hR : iprop(rPay m c (rOrd p) ∗ R) ⊢ iprop(keepP m c (rOrd p) ∗ R'))
    (h : St m K c ks (kr + 1) ac aw ot oc ow R' ⊢ WP c (kont ⟨⟩) Q) :
    St m K c ks kr ac aw ot oc ow R ⊢ WP c (.op (.waitDma2 sR src dst hsrc hdst) kont) Q := by
  subst hkr hsR
  unfold St at h ⊢
  rw [Suf_pop p, Pre_push p] at *
  unfold rcvP heldP at *
  iintro ⟨#HE, HO, H1, H2, ⟨⟨Hc, Hat⟩, HS⟩, HP, H3, H4, H5, H6, H7, HR⟩
  iapply (wp_wait_k m K (rSem (rOrd p)) 0 (ks := ks) (P := rPay m c (rOrd p)) (by rw [nR_r]; exact Nat.one_pos) (by rw [lvS_r]; exact hl)
    (amount_r m c (rOrd p) 0 0) (payload_r m c (rOrd p) 0) hN) $$ [Hc HO Hat]
  · isplitr; · iexact HE
    isplitl [Hc]; · iexact Hc
    isplitl [HO] <;> iassumption
  iintro ⟨HO, Hat, -, HPay⟩
  imod (close_k m K (rSem (rOrd p)) (0 + 1) (by rw [nR_r])) $$ [Hat] with Hz
  · isplitr; · iexact HE
    iexact Hat
  ihave HR2 := hR $$ [HPay HR]
  · isplitl [HPay] <;> iassumption
  unfold keepP
  icases HR2 with ⟨⟨Hk1, Hk2⟩, HR⟩
  iapply h
  isplitr; · iexact HE
  isplitl [HO]; · iexact HO
  isplitl [H1]; · iexact H1
  isplitl [H2]; · iexact H2
  isplitl [HS]; · iexact HS
  isplitl [Hk1 Hk2 Hz HP]
  · isplitl [Hk1 Hk2 Hz]
    · isplitl [Hk1]; · iexact Hk1
      isplitl [Hk2] <;> iassumption
    iexact HP
  isplitl [H3]; · iexact H3
  isplitl [H4]; · iexact H4
  isplitl [H5]; · iexact H5
  isplitl [H6]; · iexact H6
  isplitl [H7] <;> iassumption

/-- The wait for the end of the transfer at place `p`. -/
theorem step_swait (p : Fin 32) (hkw : kw = p.val) {sS : DmaSem sig} (hsS : sS = sSem (wOrd p))
    {sp sp' : Space} {s s' : Shape} {e e' : EltTy} {src : Memref sig .tc sp' s' e'} {dst : Memref sig .tc sp s e} {hsrc : src.view.WordExact} {hdst : dst.view.WordExact}
    (hN : dst.view.dmaCredit = Nr) {kont : PUnit → Prog (TpuEff nD τ sig (Elt F) Λ₀ .tc) α}
    (h : StW m K c (kw + 1) ow R ⊢ WP c (kont ⟨⟩) Q) :
    StW m K c kw ow R ⊢ WP c (.op (.waitDma2 sS src dst hsrc hdst) kont) Q := by
  subst hkw hsS
  unfold StW at h ⊢
  rw [Suf_pop p, Pre_push p] at *
  unfold pendP at *
  iintro ⟨#HE, HO, ⟨⟨Hc, Hat⟩, HS⟩, HP, H3, H4, HR⟩
  iapply (wp_wait_k m K (sSem (wOrd p)) 0 (ks := 32) (P := sPay m c (wOrd p)) (by rw [nR_s]; exact Nat.one_pos)
    (fun k hk => absurd k.isLt (by omega)) (amount_s m c (wOrd p) 0 0) (payload_s m c (wOrd p) 0) hN) $$ [Hc HO Hat]
  · isplitr; · iexact HE
    isplitl [Hc]; · iexact Hc
    isplitl [HO] <;> iassumption
  iintro ⟨HO, Hat, -, HPay⟩
  imod (close_k m K (sSem (wOrd p)) (0 + 1) (by rw [nR_s])) $$ [Hat] with Hz
  · isplitr; · iexact HE
    iexact Hat
  iapply h
  isplitr; · iexact HE
  isplitl [HO]; · iexact HO
  isplitl [HS]; · iexact HS
  isplitl [HPay Hz HP]
  · isplitl [HPay Hz]
    · isplitl [HPay] <;> iassumption
    iexact HP
  isplitl [H3]; · iexact H3
  isplitl [H4] <;> iassumption

/-! ## The local copies -/

theorem cnt_self : ∀ n : Fin 8, cnt n.val (slotC n) = n.val / 2 := by decide +kernel
theorem cnt_succ : ∀ n : Fin 8, cnt (n.val + 1) (slotC n) = n.val / 2 + 1 := by decide +kernel
theorem cnt_other : ∀ (n : Fin 8) (j : Fin 2), j ≠ slotC n → cnt (n.val + 1) j = cnt n.val j := by decide +kernel
theorem chunk_half : ∀ n : Fin 8, chunkOf (slotC n) (n.val / 2) = n := chunkOf_eq
theorem half_lt : ∀ n : Fin 8, n.val / 2 < 4 := by decide

/-- The wait for the copy of chunk `n` of the argument into its slot. -/
theorem step_await (n : Fin 8) (haw : aw = n.val) (hac : cnt ac (slotC n) = n.val / 2 + 1) {sA : DmaSem sig} (hsA : sA = aSem (slotC n))
    {sp sp' : Space} {s s' : Shape} {e e' : EltTy} {src : Memref sig .tc sp' s' e'} {dst : Memref sig .tc sp s e} {hsrc : src.view.WordExact} {hdst : dst.view.WordExact}
    (hN : dst.view.dmaCredit = Na) {kont : PUnit → Prog (TpuEff nD τ sig (Elt F) Λ₀ .tc) α}
    (h : St m K c ks kr ac (aw + 1) ot oc ow R ⊢ WP c (kont ⟨⟩) Q) :
    St m K c ks kr ac aw ot oc ow R ⊢ WP c (.op (.waitDma2 sA src dst hsrc hdst) kont) Q := by
  subst haw hsA
  unfold St at h ⊢
  have hu := slots_upd (F := F) (slotC n) (fun i => aSt m c i (cnt ac i) (cnt n.val i)) (fun i => aSt m c i (cnt ac i) (cnt (n.val + 1) i))
    (fun j hj => by rw [cnt_other n j hj])
  rw [cnt_self, cnt_succ, hac] at hu
  have e1 : aSt m c (slotC n) (n.val / 2 + 1) (n.val / 2)
      = iprop(cred (tallyAt (dCell c (aSem (slotC n))) () Na) ∗ atPos ER (dCell c (aSem (slotC n))) (n.val / 2) ∅ 0) := if_neg (by omega)
  have e2 : aSt m c (slotC n) (n.val / 2 + 1) (n.val / 2 + 1)
      = iprop(aSlot c (slotC n) (aBuf m c n) ∗ atPos ER (dCell c (aSem (slotC n))) (n.val / 2 + 1) ∅ 0 ∗ reached ER (dCell c (aSem (slotC n))) (n.val / 2 + 1)) := by
    unfold aSt aMem
    rw [if_pos rfl, if_neg (by omega), Nat.add_sub_cancel, chunk_half]
  rw [e1, e2] at hu
  iintro ⟨#HE, HO, H1, H2, H3, H4, H5, H6, H7, H8, H9, HR⟩
  ihave H6' := hu $$ H6
  icases H6' with ⟨⟨Hc, Hat⟩, Hupd⟩
  iapply (wp_wait_k m K (aSem (slotC n)) (n.val / 2) (ks := ks) (P := aPay m c n) (by rw [nR_a]; exact half_lt n)
    (fun k _ => by rw [lvS_a]; have := lvK_pos k; omega) (amount_a m c (slotC n) _ 0) (payload_a m c n 0) hN) $$ [Hc HO Hat]
  · isplitr; · iexact HE
    isplitl [Hc]; · iexact Hc
    isplitl [HO] <;> iassumption
  iintro ⟨HO, Hat, Hr, HPay⟩
  ihave H6 := Hupd $$ [Hat Hr HPay]
  · unfold aPay
    isplitl [HPay]; · iexact HPay
    isplitl [Hat] <;> iassumption
  iapply h
  isplitr; · iexact HE
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- The wait for the copy of chunk `n` of the result out of its slot, from the parts of the state it concerns. -/
theorem wp_owait (n : Fin 8) (how : ow = n.val) (hoc : cnt oc (slotC n) = n.val / 2 + 1) (hot : cnt ot (slotC n) = n.val / 2 + 1) {sO : DmaSem sig} (hsO : sO = oSem (slotC n))
    {sp sp' : Space} {s s' : Shape} {e e' : EltTy} {src : Memref sig .tc sp' s' e'} {dst : Memref sig .tc sp s e} {hsrc : src.view.WordExact} {hdst : dst.view.WordExact}
    (hN : dst.view.dmaCredit = No) {kont : PUnit → Prog (TpuEff nD τ sig (Elt F) Λ₀ .tc) α} :
    iprop(Env m K ∗ (∃ W, owes (c : Thread nD τ) (Ow c ks) W) ∗ (bigSep Finset.univ fun i => oSt m c i (cnt ot i) (cnt oc i) (cnt ow i)) ∗ Pre ow (fun n => outP c n (outF m c)))
      ⊢ iprop((((∃ W, owes (c : Thread nD τ) (Ow c ks) W) ∗ (bigSep Finset.univ fun i => oSt m c i (cnt ot i) (cnt oc i) (cnt (ow + 1) i))
          ∗ Pre (ow + 1) (fun n => outP c n (outF m c))) -∗ WP c (kont ⟨⟩) Q) -∗ WP c (.op (.waitDma2 sO src dst hsrc hdst) kont) Q) := by
  subst how hsO
  have hu := slots_upd (F := F) (slotC n) (fun i => oSt m c i (cnt ot i) (cnt oc i) (cnt n.val i)) (fun i => oSt m c i (cnt ot i) (cnt oc i) (cnt (n.val + 1) i))
    (fun j hj => by rw [cnt_other n j hj])
  rw [cnt_self, cnt_succ, hoc, hot] at hu
  have e1 : oSt m c (slotC n) (n.val / 2 + 1) (n.val / 2 + 1) (n.val / 2)
      = iprop(cred (tallyAt (dCell c (oSem (slotC n))) () No) ∗ atPos ER (dCell c (oSem (slotC n))) (n.val / 2) ∅ 0) := if_neg (by omega)
  have e2 : oSt m c (slotC n) (n.val / 2 + 1) (n.val / 2 + 1) (n.val / 2 + 1)
      = iprop((∃ f, oSlot (F := F) c (slotC n) f) ∗ atPos ER (dCell c (oSem (slotC n))) (n.val / 2 + 1) ∅ 0 ∗ reached ER (dCell c (oSem (slotC n))) (n.val / 2 + 1)) := by
    unfold oSt
    rw [if_pos rfl, if_pos rfl]
  rw [e1, e2] at hu
  rw [Pre_push n]
  iintro ⟨#HE, HO, H6, HP⟩
  iintro Hk
  ihave H6' := hu $$ H6
  icases H6' with ⟨⟨Hc, Hat⟩, Hupd⟩
  iapply (wp_wait_k m K (oSem (slotC n)) (n.val / 2) (ks := ks) (P := oPay m c n) (by rw [nR_o]; exact half_lt n)
    (fun k _ => by rw [lvS_o]; have := lvK_pos k; omega) (amount_o m c (slotC n) _ 0) (payload_o m c n 0) hN) $$ [Hc HO Hat]
  · isplitr; · iexact HE
    isplitl [Hc]; · iexact Hc
    isplitl [HO] <;> iassumption
  iintro ⟨HO, Hat, Hr, HPay⟩
  unfold oPay
  icases HPay with ⟨Hout, Hsl⟩
  ihave H6 := Hupd $$ [Hat Hr Hsl]
  · isplitl [Hsl]; · iexact Hsl
    isplitl [Hat] <;> iassumption
  iapply Hk
  isplitl [HO]; · iexact HO
  isplitl [H6]; · iexact H6
  isplitl [Hout] <;> iassumption

theorem step_owait (n : Fin 8) (how : ow = n.val) (hoc : cnt oc (slotC n) = n.val / 2 + 1) (hot : cnt ot (slotC n) = n.val / 2 + 1) {sO : DmaSem sig} (hsO : sO = oSem (slotC n))
    {sp sp' : Space} {s s' : Shape} {e e' : EltTy} {src : Memref sig .tc sp' s' e'} {dst : Memref sig .tc sp s e} {hsrc : src.view.WordExact} {hdst : dst.view.WordExact}
    (hN : dst.view.dmaCredit = No) {kont : PUnit → Prog (TpuEff nD τ sig (Elt F) Λ₀ .tc) α}
    (h : St m K c ks kr ac aw ot oc (ow + 1) R ⊢ WP c (kont ⟨⟩) Q) :
    St m K c ks kr ac aw ot oc ow R ⊢ WP c (.op (.waitDma2 sO src dst hsrc hdst) kont) Q := by
  unfold St at h ⊢
  iintro ⟨#HE, HO, H1, H2, H3, H4, H5, H6, H7, H8, H9, HR⟩
  iapply (wp_owait m K n how hoc hot hsO hN) $$ [HO H8 H9]
  · isplitr; · iexact HE
    isplitl [HO]; · iexact HO
    isplitl [H8] <;> iassumption
  iintro ⟨HO, H8, H9⟩
  iapply h
  isplitr; · iexact HE
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

theorem step_owaitW (n : Fin 8) (how : ow = n.val) (hoc : cnt 8 (slotC n) = n.val / 2 + 1) {sO : DmaSem sig} (hsO : sO = oSem (slotC n))
    {sp sp' : Space} {s s' : Shape} {e e' : EltTy} {src : Memref sig .tc sp' s' e'} {dst : Memref sig .tc sp s e} {hsrc : src.view.WordExact} {hdst : dst.view.WordExact}
    (hN : dst.view.dmaCredit = No) {kont : PUnit → Prog (TpuEff nD τ sig (Elt F) Λ₀ .tc) α}
    (h : StW m K c kw (ow + 1) R ⊢ WP c (kont ⟨⟩) Q) :
    StW m K c kw ow R ⊢ WP c (.op (.waitDma2 sO src dst hsrc hdst) kont) Q := by
  unfold StW at h ⊢
  iintro ⟨#HE, HO, H1, H2, H8, H9, HR⟩
  iapply (wp_owait m K n how hoc hoc hsO hN) $$ [HO H8 H9]
  · isplitr; · iexact HE
    isplitl [HO]; · iexact HO
    isplitl [H8] <;> iassumption
  iintro ⟨HO, H8, H9⟩
  iapply h
  isplitr; · iexact HE
  isplitl [HO]; · iexact HO
  isplitl [H1]; · iexact H1
  isplitl [H2]; · iexact H2
  isplitl [H8]; · iexact H8
  isplitl [H9] <;> iassumption

end Cert.KProof
-- ==== Proof.K.Local.lean ====
/-
The steps on one device: the copies of a chunk into and out of its slot, the loads of its two summands, the store of its sum.
-/
module

public import proofs.«01_k».proof.Proof.K.Wait

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (K : Dev nD × Option (DmaSem sig) → ℕ)
variable {c : Dev nD} {α : Type} {Q : α → sProp (MT nD τ sig Unit (Elt F) ℕ UU ℕ)}
variable {ks kr kw ac aw ot oc ow : ℕ} {R R' : sProp (MT nD τ sig Unit (Elt F) ℕ UU ℕ)}

theorem aV_amount (s inb i) : (aV s inb).view.amount (.dma i) = Na := rfl
theorem yV_amount (r inb i) : (yV r inb).view.amount (.dma i) = No := rfl

/-- A slot whose copies were all awaited, and one with a copy under way. -/
theorem aSt_idle (n : Fin 8) : aSt m c (slotC n) (n.val / 2 + 1) (n.val / 2 + 1)
    = iprop(aSlot c (slotC n) (aBuf m c n) ∗ atPos ER (dCell c (aSem (slotC n))) (n.val / 2 + 1) ∅ 0 ∗ reached ER (dCell c (aSem (slotC n))) (n.val / 2 + 1)) := by
  unfold aSt aMem
  rw [if_pos rfl, if_neg (by omega), Nat.add_sub_cancel, chunk_half]
theorem aSt_busy (i : Fin 2) (r : ℕ) : aSt m c i (r + 1) r
    = iprop(cred (tallyAt (dCell c (aSem i)) () Na) ∗ atPos ER (dCell c (aSem i)) r ∅ 0) := if_neg (by omega)
theorem aSt_free (i : Fin 2) (r : ℕ) : aSt m c i r r
    ⊢ iprop((∃ f, aSlot (F := F) c i f) ∗ atPos ER (dCell c (aSem i)) r ∅ 0 ∗ reached ER (dCell c (aSem i)) r) := by
  unfold aSt aMem
  rw [if_pos rfl]
  split_ifs
  · exact Entails.of_eq rfl
  · iintro ⟨H, H2⟩
    isplitl [H]; · iexists _; iexact H
    iexact H2
theorem oSt_free (i : Fin 2) (r : ℕ) : oSt m c i r r r
    = iprop((∃ f, oSlot (F := F) c i f) ∗ atPos ER (dCell c (oSem i)) r ∅ 0 ∗ reached ER (dCell c (oSem i)) r) := by
  unfold oSt
  rw [if_pos rfl, if_pos rfl]
theorem oSt_full (n : Fin 8) : oSt m c (slotC n) (n.val / 2 + 1) (n.val / 2) (n.val / 2)
    = iprop(oSlot c (slotC n) (oBuf m c n) ∗ atPos ER (dCell c (oSem (slotC n))) (n.val / 2) ∅ 0 ∗ reached ER (dCell c (oSem (slotC n))) (n.val / 2)) := by
  unfold oSt
  rw [if_pos rfl, if_neg (by omega), chunk_half]
theorem oSt_busy (i : Fin 2) (t r : ℕ) : oSt m c i t (r + 1) r
    = iprop(cred (tallyAt (dCell c (oSem i)) () No) ∗ atPos ER (dCell c (oSem i)) r ∅ 0) := if_neg (by omega)

/-- A copy on the device itself, in round `r` of its semaphore. -/
theorem wp_copy_k (i : DmaSem sig) (r : ℕ) {N : ℕ} {P : sProp (MT nD τ sig Unit (Elt F) ℕ UU ℕ)} (hr : r < nR (.dma i))
    (ha : (Rd (F := F) m).amount (dCell c i) r 0 = N) (hP : (Rd (F := F) m).payload (dCell c i) r 0 = P)
    {sp sp' : Space} {s : Shape} {e : EltTy} {src : Memref sig .tc sp s e} {dst : Memref sig .tc sp' s e} {hsrc : src.view.WordExact} {hdst : dst.view.WordExact}
    {hsem} (hN : dst.view.amount (.dma i) = N)
    {q : PosShare TreeShare} {fs : Buf (Elt F) (src.view.loc (c : Thread nD τ))} {fd : Buf (Elt F) (dst.view.loc (c : Thread nD τ))}
    (hpay : iprop((dst.view.loc (c : Thread nD τ) ↦[dst.view.set]{fullShare} dst.view.write (Elt F) fd (src.view.read (Elt F) fs) Finset.univ)
      ∗ (src.view.loc (c : Thread nD τ) ↦[src.view.set]{q} fs)) ⊢ P)
    {kont : PUnit → Prog (TpuEff nD τ sig (Elt F) Λ₀ .tc) α} :
    iprop(Env m K ∗ (src.view.loc (c : Thread nD τ) ↦[src.view.set]{q} fs) ∗ (dst.view.loc (c : Thread nD τ) ↦[dst.view.set]{fullShare} fd)
        ∗ dutyTok ER (dCell c i) r 0 ∗ reached ER (dCell c i) r)
      ⊢ iprop((cred (tallyAt (dCell c i) () N) -∗ WP c (kont ⟨⟩) Q) -∗ WP c (.op (.enqueueDma src (.here dst) (.dma i) hsrc hdst hsem) kont) Q) := by
  subst hP
  have hd : (0 : DD) ∈ (Rd m).duties (dCell c i) r := by
    rw [duties_dma m c hr]; exact Finset.mem_singleton_self _
  iintro ⟨#HE, Hs, Hd, Ht, Hre⟩
  iintro Hk
  ihave HI := (Env_inv m K (c, some i)) $$ HE
  iapply (Rounds.wp_copy_pointsTo 𝒱₀ ER (Rd m) (c : Thread nD τ) none (κ := K (c, some i)) (r := r) (d := 0) (fd := fd)
    (q := q) (fs := fs) hd () N hN ha hpay) $$ [Hs Hd Ht Hre]
  · isplitr; · iexact HI
    isplitl [Hs]; · iexact Hs
    isplitl [Hd]; · iexact Hd
    isplitl [Ht] <;> iassumption
  iexact Hk

/-- The copy of chunk `n` of the argument into its slot starts. -/
theorem step_acopy (n : Fin 8) (hac : ac = n.val) (haw : cnt aw (slotC n) = n.val / 2) {sA : DmaSem sig} (hsA : sA = aSem (slotC n))
    {offa offx : Fin 3 → ℕ} (hoa : offa = ![(slotC n).val, 0, 0]) (hox : offx = offX (rowC c n) (zOf c * 1024)) {inba inbx}
    {hsrc hdst hsem} {kont : PUnit → Prog (TpuEff nD τ sig (Elt F) Λ₀ .tc) α}
    (h : St m K c ks kr (ac + 1) aw ot oc ow R ⊢ WP c (kont ⟨⟩) Q) :
    St m K c ks kr ac aw ot oc ow R
      ⊢ WP c (.op (.enqueueDma ((xM.slice (Rect.unit (s := S1x8192x2048) offx S1x1024x1024.size inbx) (fun _ => rfl)).squeeze S1024x1024 squeezes_S1x1024x1024_S1024x1024)
          (.here ((aM.slice (Rect.unit (s := S2x1024x1024) offa S1x1024x1024.size inba) (fun _ => rfl)).squeeze S1024x1024 squeezes_S1x1024x1024_S1024x1024))
          (.dma sA) hsrc hdst hsem) kont) Q := by
  subst hac hsA hoa hox
  unfold St at h ⊢
  have hu := slots_upd (F := F) (slotC n) (fun i => aSt m c i (cnt n.val i) (cnt aw i)) (fun i => aSt m c i (cnt (n.val + 1) i) (cnt aw i))
    (fun j hj => by rw [cnt_other n j hj])
  rw [cnt_self, cnt_succ, haw, aSt_busy] at hu
  rw [Suf_pop n] at *
  unfold aRP
  iintro ⟨#HE, HO, H1, H2, H3, H4, ⟨⟨Ht, Hx⟩, H5⟩, H6, H7, H8, H9, HR⟩
  ihave H6' := hu $$ H6
  icases H6' with ⟨Hst, Hupd⟩
  ihave Hst' := (aSt_free m (slotC n) (n.val / 2)) $$ Hst
  icases Hst' with ⟨⟨%fd, Hd⟩, Hat, Hre⟩
  have hx : (xP m c (xLeaf (11 + n.val)) : sProp 𝕄) ⊢ ((xW (rowC c n) (zOf c * 1024) inbx).view.loc (c : Thread nD τ)
      ↦[(xW (rowC c n) (zOf c * 1024) inbx).view.set]{xLeaf (11 + n.val)} X m c) := by
    unfold xP
    iintro H
    ihave H2 := (pointsTo_split_subset (Finset.subset_univ (xW (rowC c n) (zOf c * 1024) inbx).view.set)).1 $$ H
    icases H2 with ⟨H2, -⟩
    iexact H2
  ihave Hs := hx $$ Hx
  have hp : (aSlot c (slotC n) fd : sProp 𝕄)
      = ((aV (slotC n).val inba).view.loc (c : Thread nD τ) ↦[(aV (slotC n).val inba).view.set]{fullShare} fd) := by
    unfold aSlot; rw [aV_set]
  ihave Hd' := (Entails.of_eq hp) $$ Hd
  have hN : (aV (slotC n).val inba).view.amount (.dma (aSem (slotC n))) = Na := aV_amount _ _ _
  have hpay : iprop(((aV (slotC n).val inba).view.loc (c : Thread nD τ) ↦[(aV (slotC n).val inba).view.set]{fullShare}
        (aV (slotC n).val inba).view.write (Elt F) fd ((xW (rowC c n) (zOf c * 1024) inbx).view.read (Elt F) (X m c)) Finset.univ)
      ∗ ((xW (rowC c n) (zOf c * 1024) inbx).view.loc (c : Thread nD τ) ↦[(xW (rowC c n) (zOf c * 1024) inbx).view.set]{xLeaf (11 + n.val)} X m c))
      ⊢ (aPay m c n : sProp 𝕄) := by
    unfold aPay aSlot
    rw [aV_set, pointsTo_congr (land_a m c n inba inbx fd)]
    iintro ⟨H, -⟩
    iexact H
  have hcore := (wp_copy_k m K (aSem (slotC n)) (n.val / 2) (by rw [nR_a]; exact half_lt n) (amount_a m c (slotC n) _ 0) (payload_a m c n 0)
    (src := xW (rowC c n) (zOf c * 1024) inbx) (dst := aV (slotC n).val inba) (hsrc := hsrc) (hdst := hdst) (hsem := hsem) hN (fd := fd) (q := xLeaf (11 + n.val)) (fs := X m c) hpay (kont := kont) (Q := Q))
  iapply hcore $$ [Hs Hd' Ht Hre]
  · isplitr; · iexact HE
    isplitl [Hs]; · iexact Hs
    isplitl [Hd']; · iexact Hd'
    isplitl [Ht] <;> iassumption
  iintro Hc
  ihave H6 := Hupd $$ [Hc Hat]
  · isplitl [Hc] <;> iassumption
  iapply h
  isplitr; · iexact HE
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- The copy of chunk `n` of the result out of its slot starts. -/
theorem step_ocopy (n : Fin 8) (hoc : oc = n.val) (hot : cnt ot (slotC n) = n.val / 2 + 1) (how : cnt ow (slotC n) = n.val / 2) {sO : DmaSem sig} (hsO : sO = oSem (slotC n))
    {offo : Fin 3 → ℕ} {offy : Fin 2 → ℕ} (hoo : offo = ![(slotC n).val, 0, 0]) (hoy : offy = offR (rowC c n)) {inbo inby}
    {hsrc hdst hsem} {kont : PUnit → Prog (TpuEff nD τ sig (Elt F) Λ₀ .tc) α}
    (h : St m K c ks kr ac aw ot (oc + 1) ow R ⊢ WP c (kont ⟨⟩) Q) :
    St m K c ks kr ac aw ot oc ow R
      ⊢ WP c (.op (.enqueueDma ((oM.slice (Rect.unit (s := S2x1024x1024) offo S1x1024x1024.size inbo) (fun _ => rfl)).squeeze S1024x1024 squeezes_S1x1024x1024_S1024x1024)
          (.here (yM.slice (Rect.unit (s := S8192x1024) offy S1024x1024.size inby) (fun _ => rfl)))
          (.dma sO) hsrc hdst hsem) kont) Q := by
  subst hoc hsO hoo hoy
  unfold St at h ⊢
  have hu := slots_upd (F := F) (slotC n) (fun i => oSt m c i (cnt ot i) (cnt n.val i) (cnt ow i)) (fun i => oSt m c i (cnt ot i) (cnt (n.val + 1) i) (cnt ow i))
    (fun j hj => by rw [cnt_other n j hj])
  rw [cnt_self, cnt_succ, how, hot, oSt_busy, oSt_full] at hu
  rw [Suf_pop n] at *
  unfold oRP
  iintro ⟨#HE, HO, H1, H2, H3, H4, H5, H6, ⟨⟨Ht, ⟨%fd, Hd⟩⟩, H7⟩, H8, H9, HR⟩
  ihave H8' := hu $$ H8
  icases H8' with ⟨⟨Hs, Hat, Hre⟩, Hupd⟩
  have hs : (oSlot c (slotC n) (oBuf m c n) : sProp 𝕄)
      = ((oV (slotC n).val inbo).view.loc (c : Thread nD τ) ↦[(oV (slotC n).val inbo).view.set]{fullShare} oBuf m c n) := by
    unfold oSlot; rw [oV_set]
  have hp : (outP c n fd : sProp 𝕄)
      = ((yV (rowC c n) inby).view.loc (c : Thread nD τ) ↦[(yV (rowC c n) inby).view.set]{fullShare} fd) := by
    unfold outP; rw [yV_set]
  ihave Hs' := (Entails.of_eq hs) $$ Hs
  ihave Hd' := (Entails.of_eq hp) $$ Hd
  have hN : (yV (rowC c n) inby).view.amount (.dma (oSem (slotC n))) = No := yV_amount _ _ _
  have hpay : iprop(((yV (rowC c n) inby).view.loc (c : Thread nD τ) ↦[(yV (rowC c n) inby).view.set]{fullShare}
        (yV (rowC c n) inby).view.write (Elt F) fd ((oV (slotC n).val inbo).view.read (Elt F) (oBuf m c n)) Finset.univ)
      ∗ ((oV (slotC n).val inbo).view.loc (c : Thread nD τ) ↦[(oV (slotC n).val inbo).view.set]{fullShare} oBuf m c n))
      ⊢ (oPay m c n : sProp 𝕄) := by
    rw [← hs]; unfold oPay outP
    rw [yV_set, pointsTo_congr (land_o m c n inby inbo fd)]
    iintro ⟨H, H2⟩
    isplitl [H]; · iexact H
    iexists _; iexact H2
  have hcore := (wp_copy_k m K (oSem (slotC n)) (n.val / 2) (by rw [nR_o]; exact half_lt n) (amount_o m c (slotC n) _ 0) (payload_o m c n 0)
    (src := oV (slotC n).val inbo) (dst := yV (rowC c n) inby) (hsrc := hsrc) (hdst := hdst) (hsem := hsem) hN (fd := fd) (q := fullShare) (fs := oBuf m c n) hpay (kont := kont) (Q := Q))
  iapply hcore $$ [Hs' Hd' Ht Hre]
  · isplitr; · iexact HE
    isplitl [Hs']; · iexact Hs'
    isplitl [Hd']; · iexact Hd'
    isplitl [Ht] <;> iassumption
  iintro Hc
  ihave H8 := Hupd $$ [Hc Hat]
  · isplitl [Hc] <;> iassumption
  iapply h
  isplitr; · iexact HE
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-! ## Loads and the store -/

theorem setOn_r (I : Finset S8192x1024.Idx) : rM.view.setOn I = I := by
  ext x; exact ⟨fun h => by obtain ⟨y, hy, rfl⟩ := Finset.mem_map.mp h; exact hy, fun h => Finset.mem_map.mpr ⟨x, h, rfl⟩⟩
theorem setOn_a (I : Finset S2x1024x1024.Idx) : aM.view.setOn I = I := by
  ext x; exact ⟨fun h => by obtain ⟨y, hy, rfl⟩ := Finset.mem_map.mp h; exact hy, fun h => Finset.mem_map.mpr ⟨x, h, rfl⟩⟩
theorem setOn_o (I : Finset S2x1024x1024.Idx) : oM.view.setOn I = I := by
  ext x; exact ⟨fun h => by obtain ⟨y, hy, rfl⟩ := Finset.mem_map.mp h; exact hy, fun h => Finset.mem_map.mpr ⟨x, h, rfl⟩⟩
theorem slot_access (s : ℕ) (inb) :
    (oM.access (Rect.unit (s := S2x1024x1024) ![s, 0, 0] S1x1024x1024.size inb)).set = slot3 s := (View.set_slice_whole _ _).trans slot_set

/-- The load of chunk `n` of the argument from its slot. -/
theorem step_load_a (n : Fin 8) (hac : cnt ac (slotC n) = n.val / 2 + 1) (haw : cnt aw (slotC n) = n.val / 2 + 1)
    {off : Fin 3 → ℕ} (ho : off = ![(slotC n).val, 0, 0]) {inb}
    {hl} {kont : (S1x1024x1024.Idx → Elt F .f32) → Prog (TpuEff nD τ sig (Elt F) Λ₀ .tc) α}
    (h : St m K c ks kr ac aw ot oc ow R ⊢ WP c (kont (vA m c n)) Q) :
    St m K c ks kr ac aw ot oc ow R
      ⊢ WP c (.op (.load aM (Rect.unit (s := S2x1024x1024) off S1x1024x1024.size inb).toLoadRect hl) kont) Q := by
  subst ho
  unfold St at h ⊢
  have hu := slots_upd (F := F) (slotC n) (fun i => aSt m c i (cnt ac i) (cnt aw i)) (fun i => aSt m c i (cnt ac i) (cnt aw i)) (fun j hj => rfl)
  rw [hac, haw, aSt_idle] at hu
  iintro ⟨#HE, HO, H1, H2, H3, H4, H5, H6, H7, H8, H9, HR⟩
  ihave H6' := hu $$ H6
  icases H6' with ⟨⟨Hs, Hat, Hre⟩, Hupd⟩
  unfold aSlot at *
  iapply (wp_load 𝒱₀ (c : Thread nD τ) none Set.univ (m := aM) (S := slot3 (slotC n).val) (q := fullShare) (f := aBuf m c n)
    (by show aM.view.setOn (Rect.unit (s := S2x1024x1024) ![(slotC n).val, 0, 0] S1x1024x1024.size inb).set ⊆ _
        rw [setOn_a, slot_set])) $$ Hs
  iintro Hs
  rw [read_a]
  ihave H6 := Hupd $$ [Hs Hat Hre]
  · isplitl [Hs]; · iexact Hs
    isplitl [Hat] <;> iassumption
  iapply h
  isplitr; · iexact HE
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- The load of a slot of the result; what it reads is not used. -/
theorem step_load_o (n : Fin 8) (hot : cnt ot (slotC n) = n.val / 2) (hoc : cnt oc (slotC n) = n.val / 2) (how : cnt ow (slotC n) = n.val / 2)
    {off : Fin 3 → ℕ} (ho : off = ![(slotC n).val, 0, 0]) {inb}
    {hl} {kont : (S1x1024x1024.Idx → Elt F .f32) → Prog (TpuEff nD τ sig (Elt F) Λ₀ .tc) α}
    (h : ∀ v, St m K c ks kr ac aw ot oc ow R ⊢ WP c (kont v) Q) :
    St m K c ks kr ac aw ot oc ow R
      ⊢ WP c (.op (.load oM (Rect.unit (s := S2x1024x1024) off S1x1024x1024.size inb).toLoadRect hl) kont) Q := by
  subst ho
  unfold St at h ⊢
  have hu := slots_upd (F := F) (slotC n) (fun i => oSt m c i (cnt ot i) (cnt oc i) (cnt ow i)) (fun i => oSt m c i (cnt ot i) (cnt oc i) (cnt ow i)) (fun j hj => rfl)
  rw [hot, hoc, how, oSt_free] at hu
  iintro ⟨#HE, HO, H1, H2, H3, H4, H5, H6, H7, H8, H9, HR⟩
  ihave H8' := hu $$ H8
  icases H8' with ⟨⟨⟨%f, Hs⟩, Hat, Hre⟩, Hupd⟩
  unfold oSlot at *
  iapply (wp_load 𝒱₀ (c : Thread nD τ) none Set.univ (m := oM) (S := slot3 (slotC n).val) (q := fullShare) (f := f)
    (by show oM.view.setOn (Rect.unit (s := S2x1024x1024) ![(slotC n).val, 0, 0] S1x1024x1024.size inb).set ⊆ _
        rw [setOn_o, slot_set])) $$ Hs
  iintro Hs
  ihave H8 := Hupd $$ [Hs Hat Hre]
  · isplitl [Hs]; · iexists f; iexact Hs
    isplitl [Hat] <;> iassumption
  iapply (h _)
  isplitr; · iexact HE
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- The store of the sum for chunk `n`. -/
theorem step_store (n : Fin 8) (hot' : ot = n.val) (hoc : cnt oc (slotC n) = n.val / 2) (how : cnt ow (slotC n) = n.val / 2)
    {off : Fin 3 → ℕ} (ho : off = ![(slotC n).val, 0, 0]) {inb} {w : S1x1024x1024.Idx → Elt F .f32} (hw : w = k0_pay1 (vA m c n) (vR m c n))
    {hx hm} {kont : PUnit → Prog (TpuEff nD τ sig (Elt F) Λ₀ .tc) α}
    (h : St m K c ks kr ac aw (ot + 1) oc ow R ⊢ WP c (kont ⟨⟩) Q) :
    St m K c ks kr ac aw ot oc ow R
      ⊢ WP c (.op (.store oM (Rect.unit (s := S2x1024x1024) off S1x1024x1024.size inb) w Finset.univ hx hm) kont) Q := by
  subst ho hw hot'
  unfold St at h ⊢
  have hu := slots_upd (F := F) (slotC n) (fun i => oSt m c i (cnt n.val i) (cnt oc i) (cnt ow i)) (fun i => oSt m c i (cnt (n.val + 1) i) (cnt oc i) (cnt ow i))
    (fun j hj => by rw [cnt_other n j hj])
  rw [cnt_self, cnt_succ, hoc, how, oSt_free, oSt_full] at hu
  iintro ⟨#HE, HO, H1, H2, H3, H4, H5, H6, H7, H8, H9, HR⟩
  ihave H8' := hu $$ H8
  icases H8' with ⟨⟨⟨%f, Hs⟩, Hat, Hre⟩, Hupd⟩
  unfold oSlot at *
  iapply (wp_store 𝒱₀ (c : Thread nD τ) none Set.univ (m := oM) (r := Rect.unit (s := S2x1024x1024) ![(slotC n).val, 0, 0] S1x1024x1024.size inb)
    (Mk := Finset.univ) (S := slot3 (slotC n).val) (f := f)
    (by show (oM.access (Rect.unit (s := S2x1024x1024) ![(slotC n).val, 0, 0] S1x1024x1024.size inb)).set ⊆ _
        exact (slot_access _ _).subset)) $$ Hs
  iintro Hs
  have e : ((oM.access (Rect.unit (s := S2x1024x1024) ![(slotC n).val, 0, 0] S1x1024x1024.size inb)).loc (c : Thread nD τ) ↦[slot3 (slotC n).val]{fullShare}
      (oM.access (Rect.unit (s := S2x1024x1024) ![(slotC n).val, 0, 0] S1x1024x1024.size inb)).write (Elt F) f (k0_pay1 (vA m c n) (vR m c n)) Finset.univ : sProp 𝕄)
      = ((c : Thread nD τ).loc cc0_scratch2 ↦[slot3 (slotC n).val]{fullShare} oBuf m c n) := pointsTo_congr (store_o m c n inb f)
  ihave Hs' := (Entails.of_eq e) $$ Hs
  ihave H8 := Hupd $$ [Hs' Hat Hre]
  · isplitl [Hs']; · iexact Hs'
    isplitl [Hat] <;> iassumption
  iapply h
  isplitr; · iexact HE
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9] <;> iassumption

/-- The four pieces of a chunk cover it. -/
theorem chunk_rows (n : Fin 8) (j : S8192x1024.Idx) : (∃ i : Fin 4, j ∈ rows2 (row c (rOrd (posC n i))) 256) ↔ j ∈ rows2 (rowC c n) 1024 := by
  simp only [mem_rows2, row_posC]
  constructor
  · rintro ⟨i, h1, h2⟩
    have := i.isLt
    omega
  · rintro ⟨h1, h2⟩
    exact ⟨⟨((j 0).val - rowC c n) / 256, by omega⟩, by simp only; omega, by simp only; omega⟩
theorem chunk_disj (n : Fin 8) (i j : Fin 4) (h : i ≠ j) : Disjoint (rows2 (row c (rOrd (posC n i))) 256) (rows2 (row c (rOrd (posC n j))) 256) := by
  rw [Finset.disjoint_left]
  intro x h1 h2
  rw [mem_rows2, row_posC] at h1 h2
  exact h (Fin.ext (by omega))

omit [FloatOps F] in
theorem sep_assoc_eq (A B C : sProp 𝕄) : iprop((A ∗ B) ∗ C) = iprop(A ∗ (B ∗ C)) := by
  have h1 : iprop((A ∗ B) ∗ C) ⊢ iprop(A ∗ (B ∗ C)) := Laws.sep_assoc.1
  have h2 : iprop(A ∗ (B ∗ C)) ⊢ iprop((A ∗ B) ∗ C) := Laws.sep_assoc.2
  exact BI.equiv_iff.mp ⟨h1, h2⟩

/-- The rows of a chunk whose pieces have arrived, and the rest of what is held. -/
theorem held_chunk (n : Fin 8) (hkr : ∀ i, (posC n i).val < kr) :
    ∃ T : sProp 𝕄, Pre kr (fun p => heldP m c (rOrd p)) = iprop(((c : Thread nD τ).loc cc0_scratch0 ↦[rows2 (rowC c n) 1024]{qL} Rf m c) ∗ T) := by
  have hsub : Finset.univ.map ⟨posC n, posC_inj n⟩ ⊆ Finset.univ.filter fun p : Fin 32 => p.val < kr := by
    intro p hp
    obtain ⟨i, -, rfl⟩ := Finset.mem_map.mp hp
    exact Finset.mem_filter.mpr ⟨Finset.mem_univ _, hkr i⟩
  refine ⟨iprop((bigSep Finset.univ fun i : Fin 4 => iprop((if lent (rOrd (posC n i)) then iprop(emp) else pieceP c (rOrd (posC n i)) qR (Rf m c)) ∗ semVal (recvCell c (rOrd (posC n i))) 0))
    ∗ bigSep ((Finset.univ.filter fun p : Fin 32 => p.val < kr) \ Finset.univ.map ⟨posC n, posC_inj n⟩) fun p => heldP m c (rOrd p)), ?_⟩
  have e1 : (((c : Thread nD τ).loc cc0_scratch0 ↦[rows2 (rowC c n) 1024]{qL} Rf m c) : sProp 𝕄) = bigSep Finset.univ fun i : Fin 4 => pieceP c (rOrd (posC n i)) qL (Rf m c) := by
    have hb := pointsTo_biUnion (ℓ := (c : Thread nD τ).loc cc0_scratch0) (q := qL) (f := Rf m c) (Ix := Unit) (Name := ℕ) (U := UU) (Lvl := ℕ) Finset.univ
      (fun i : Fin 4 => rows2 (row c (rOrd (posC n i))) 256) (fun i _ j _ hij => chunk_disj n i j hij)
    refine Eq.trans (congrArg (fun S => ((c : Thread nD τ).loc cc0_scratch0 ↦[S]{qL} Rf m c : sProp 𝕄)) (Finset.ext fun x => ?_)) hb
    rw [Finset.mem_biUnion, ← chunk_rows n x]
    exact ⟨fun ⟨i, hi⟩ => ⟨i, Finset.mem_univ _, hi⟩, fun ⟨i, _, hi⟩ => ⟨i, hi⟩⟩
  have e2 : (bigSep (Finset.univ.map ⟨posC n, posC_inj n⟩) fun p => heldP m c (rOrd p))
      = iprop((bigSep Finset.univ fun i : Fin 4 => pieceP c (rOrd (posC n i)) qL (Rf m c))
        ∗ bigSep Finset.univ fun i : Fin 4 => iprop((if lent (rOrd (posC n i)) then iprop(emp) else pieceP c (rOrd (posC n i)) qR (Rf m c)) ∗ semVal (recvCell c (rOrd (posC n i))) 0)) :=
    (BI.bigSep_map _).trans (bigSep_sep' _ _ _)
  have e3 : Pre kr (fun p => heldP m c (rOrd p)) = iprop((bigSep (Finset.univ.map ⟨posC n, posC_inj n⟩) fun p => heldP m c (rOrd p))
      ∗ bigSep ((Finset.univ.filter fun p : Fin 32 => p.val < kr) \ Finset.univ.map ⟨posC n, posC_inj n⟩) fun p => heldP m c (rOrd p)) :=
    BI.bigSep_sdiff_split hsub
  rw [e3, e2, e1]
  exact sep_assoc_eq _ _ _

/-- The load of the landed rows of chunk `n`. -/
theorem step_load_r (n : Fin 8) (hkr : ∀ i, (posC n i).val < kr)
    {off : Fin 2 → ℕ} (ho : off = offR (rowC c n)) {inb}
    {hl} {kont : (S1024x1024.Idx → Elt F .f32) → Prog (TpuEff nD τ sig (Elt F) Λ₀ .tc) α}
    (h : St m K c ks kr ac aw ot oc ow R ⊢ WP c (kont (vR m c n)) Q) :
    St m K c ks kr ac aw ot oc ow R
      ⊢ WP c (.op (.load rM (Rect.unit (s := S8192x1024) off S1024x1024.size inb).toLoadRect hl) kont) Q := by
  subst ho
  obtain ⟨T, hT⟩ := held_chunk (F := F) (c := c) (kr := kr) m n hkr
  unfold St at h ⊢
  rw [hT] at h ⊢
  iintro ⟨#HE, HO, H1, H2, H3, ⟨H4, HT⟩, H5, H6, H7, H8, H9, HR⟩
  iapply (wp_load 𝒱₀ (c : Thread nD τ) none Set.univ (m := rM) (S := rows2 (rowC c n) 1024) (q := qL) (f := Rf m c)
    (by show rM.view.setOn (Rect.unit (s := S8192x1024) (offR (rowC c n)) S1024x1024.size inb).set ⊆ _
        rw [setOn_r, rect1024_set])) $$ H4
  iintro H4
  rw [read_r]
  iapply h
  isplitr; · iexact HE
  isplitl [HO]; · iexact HO
  isplitl [H1]; · iexact H1
  isplitl [H2]; · iexact H2
  isplitl [H3]; · iexact H3
  isplitl [H4 HT]
  · isplitl [H4] <;> iassumption
  isplitl [H5]; · iexact H5
  isplitl [H6]; · iexact H6
  isplitl [H7]; · iexact H7
  isplitl [H8]; · iexact H8
  isplitl [H9] <;> iassumption

end Cert.KProof
-- ==== Proof.K.Bar.lean ====
/-
The barrier: each device tells its three neighbours that its landing buffer may be filled, handing each the pieces it
will fill, and waits for the three signals to itself.
-/
module

public import proofs.«01_k».proof.Proof.K.Local

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (K : Dev nD × Option (DmaSem sig) → ℕ)
variable {c : Dev nD} {α : Type} {Q : α → sProp (MT nD τ sig Unit (Elt F) ℕ UU ℕ)}
variable {R : sProp (MT nD τ sig Unit (Elt F) ℕ UU ℕ)}

/-- A transfer still to be sent, without the rows it will fill. -/
def sndN (c : Dev nD) (k : Fin 32) : sProp 𝕄 :=
  iprop(dutyTok ER (sendCell c k) 0 0 ∗ dutyTok ER (recvCell (tgt c k) k) 0 0 ∗ atPos ER (sendCell c k) 0 ∅ 0
    ∗ if k.val < 11 then xP m c (xLeaf k.val) else iprop(emp))

/-- The state before the barrier. -/
def StB (c : Dev nD) (R : sProp (MT nD τ sig Unit (Elt F) ℕ UU ℕ)) : sProp (MT nD τ sig Unit (Elt F) ℕ UU ℕ) :=
  iprop(Env m K ∗ (∃ W, owes (c : Thread nD τ) (O₀ c) W)
    ∗ (bigSep Finset.univ fun δ : Fin 3 => dutyTok ER (barCell (nb δ c)) 0 (opp δ)) ∗ (bigSep Finset.univ fun k : Fin 32 => iprop(∃ f, pieceP (F := F) c k fullShare f))
    ∗ cred (tallyAt (barCell c) () 3) ∗ atPos ER (barCell c) 0 ∅ 0 ∗ (bigSep Finset.univ (sndN m c))
    ∗ (bigSep Finset.univ fun p => rcvP (F := F) c (rOrd p)) ∗ (bigSep Finset.univ (aRP m c))
    ∗ (bigSep Finset.univ fun i => aSt m c i (cnt 0 i) (cnt 0 i))
    ∗ (bigSep Finset.univ (oRP (F := F) c)) ∗ (bigSep Finset.univ fun i => oSt m c i (cnt 0 i) (cnt 0 i) (cnt 0 i)) ∗ R)

omit [FloatOps F] in
theorem sndP_eq : bigSep Finset.univ (sndP m c) = iprop(bigSep Finset.univ (sndN m c) ∗ bigSep Finset.univ fun k => iprop(∃ f, pieceP (F := F) (tgt c k) k fullShare f)) := by
  have h : ∀ k, sndP m c k = iprop(sndN m c k ∗ ∃ f, pieceP (F := F) (tgt c k) k fullShare f) := fun k => by
    have h1 : sndP m c k ⊢ iprop(sndN m c k ∗ ∃ f, pieceP (F := F) (tgt c k) k fullShare f) := by
      unfold sndP sndN
      iintro ⟨H1, H2, H3, H4, H5⟩
      isplitr [H4]
      · isplitl [H1]; · iexact H1
        isplitl [H2]; · iexact H2
        isplitl [H3] <;> iassumption
      iexact H4
    have h2 : iprop(sndN m c k ∗ ∃ f, pieceP (F := F) (tgt c k) k fullShare f) ⊢ sndP m c k := by
      unfold sndP sndN
      iintro ⟨⟨H1, H2, H3, H5⟩, H4⟩
      isplitl [H1]; · iexact H1
      isplitl [H2]; · iexact H2
      isplitl [H3]; · iexact H3
      isplitl [H4] <;> iassumption
    exact BI.equiv_iff.mp ⟨h1, h2⟩
  exact (bigSep_congr fun k _ => h k).trans (bigSep_sep' _ _ _)

/-- A signal in direction `δ`. -/
theorem wp_sig (δ : Fin 3) {n : Dev nD} (hn : n = nb δ c) {sem : Sem sig} (hs : sem = barS) {k' : ℕ} (hk : k' = 1) {O O' : CellTallies nD τ sig Unit}
    (hO : O = O' + tallyAt (barCell (nb δ c)) () 1) {kont : PUnit → Prog (TpuEff nD τ sig (Elt F) Λ₀ .tc) α} :
    iprop(Env m K ∗ (∃ W, owes (c : Thread nD τ) O W) ∗ dutyTok ER (barCell (nb δ c)) 0 (opp δ)
        ∗ bigSep (Finset.univ.filter fun k => dirK k = opp δ) fun k => iprop(∃ f, pieceP (F := F) c k fullShare f))
      ⊢ iprop(((∃ W, owes (c : Thread nD τ) O' W) -∗ WP c (kont ⟨⟩) Q) -∗ WP c (.op (.semSignal (n : Thread nD τ) sem k') kont) Q) := by
  subst hn hs hk
  iintro ⟨#HE, ⟨%W, HO⟩, Ht, Hp⟩
  iintro Hk
  ihave HI := (Env_inv m K (nb δ c, none)) $$ HE
  ihave HR := (Env_reached m K (nb δ c, none)) $$ HE
  have hd : opp δ ∈ (Rd m).duties (barCell (nb δ c)) 0 := by rw [duties_bar]; exact Finset.mem_univ _
  have hp : (bigSep (Finset.univ.filter fun k => dirK k = opp δ) fun k => iprop(∃ f, pieceP (F := F) c k fullShare f))
      = (Rd (F := F) m).payload (barCell (nb δ c)) 0 (opp δ) := by
    show _ = barPay (nb δ c) (opp δ)
    unfold barPay; rw [nb_opp_nb]
  ihave Hp' := (Entails.of_eq hp) $$ Hp
  iapply (Rounds.wp_signal 𝒱₀ ER (Rd m) (c : Thread nD τ) none (dst := (nb δ c : Thread nD τ)) (κ := K (nb δ c, none))
      (d := opp δ) hd rfl () O' hO) $$ [HO Ht Hp']
  · isplitr; · iexact HI
    isplitl [HO]; · iexact HO
    isplitl [Ht]; · iexact Ht
    isplitl [Hp'] <;> iassumption
  iintro HO
  iapply Hk
  iexists W; iexact HO

/-- The wait at the barrier. -/
theorem wp_barwait {sem : Sem sig} (hs : sem = barS) {k' : ℕ} (hk : k' = 3) {kont : PUnit → Prog (TpuEff nD τ sig (Elt F) Λ₀ .tc) α} :
    iprop(Env m K ∗ (∃ W, owes (c : Thread nD τ) (Ow c 0) W) ∗ cred (tallyAt (barCell c) () 3) ∗ atPos ER (barCell c) 0 ∅ 0)
      ⊢ iprop((((∃ W, owes (c : Thread nD τ) (Ow c 0) W) ∗ semVal (barCell c) 0 ∗ (bigSep Finset.univ fun k => iprop(∃ f, pieceP (F := F) (tgt c k) k fullShare f)))
          -∗ WP c (kont ⟨⟩) Q) -∗ WP c (.op (.semWait sem k') kont) Q) := by
  subst hs hk
  iintro ⟨#HE, ⟨%W, HO⟩, Hc, Hat⟩
  iintro Hk
  ihave HI := (Env_inv m K (c, none)) $$ HE
  have hM : Env m K ⊢ MayWait (c : Thread nD τ) (.reg barS) () (Ow c 0) :=
    (Env_lev m K).trans (mayWait c (.reg barS) 0 fun k _ => lt_of_lt_of_le (by decide) (lvK_pos k))
  ihave HM := hM $$ HE
  iapply (Rounds.wp_wait_rest_token 𝒱₀ ER (Rd m) (c : Thread nD τ) none (κ := K (c, none))
      (wpE_semWait_eq 𝒱₀ (c : Thread nD τ) none Set.univ) (Set.mem_univ _) () (O := Ow c 0) (W := W) (R := 0) (m := 0) (T := ∅)
      (by rw [expect_bar])) $$ [Hc HO HM Hat]
  · isplitr; · iexact HI
    isplitl [Hc]; · iexact Hc
    isplitl [HO]; · iexact HO
    isplitl [HM] <;> iassumption
  iintro ⟨HO, Hat, -, HP⟩
  ihave HP' := (Entails.of_eq (rest_bar m c)) $$ HP
  imod (Rounds.cell_close ER (Rd m) (Set.mem_univ (K (c, none))) (fun h => h) (R := 0 + 1) (duties_late m (barCell c) (0 + 1) le_rfl)) $$ [Hat] with Hz
  · isplitr; · iexact HI
    iexact Hat
  iapply Hk
  isplitl [HO]; · iexists _; iexact HO
  isplitl [Hz] <;> iassumption

/-- The three signals, the wait, and what follows. -/
theorem step_bar {n₀ n₁ n₂ : Dev nD} (hn₀ : n₀ = nb 0 c) (hn₂ : n₂ = nb 2 c) (hn₁ : n₁ = nb 1 c) {s₀ s₁ s₂ s₃ : Sem sig} (hs₀ : s₀ = barS) (hs₂ : s₂ = barS) (hs₁ : s₁ = barS)
    (hs₃ : s₃ = barS) {k₀ k₁ k₂ k₃ : ℕ} (hk₀ : k₀ = 1) (hk₂ : k₂ = 1) (hk₁ : k₁ = 1) (hk₃ : k₃ = 3) {kont : PUnit → Prog (TpuEff nD τ sig (Elt F) Λ₀ .tc) α}
    (h : St m K c 0 0 0 0 0 0 0 iprop(semVal (barCell c) 0 ∗ R) ⊢ WP c (kont ⟨⟩) Q) :
    StB m K c R ⊢ WP c (.op (.semSignal (n₀ : Thread nD τ) s₀ k₀) fun _ => .op (.semSignal (n₂ : Thread nD τ) s₂ k₂) fun _ => .op (.semSignal (n₁ : Thread nD τ) s₁ k₁) fun _ =>
      .op (.semWait s₃ k₃) kont) Q := by
  unfold StB
  unfold St at h
  rw [Suf_zero, Suf_zero, Suf_zero, Suf_zero, Pre_zero, Pre_zero, Pre_zero, sndP_eq] at h
  have e3 : ∀ Φ : Fin 3 → sProp 𝕄, bigSep Finset.univ Φ = iprop(Φ 0 ∗ Φ 1 ∗ Φ 2) := fun Φ => by
    rw [bigSep_univ_eq_bigSepL [0, 1, 2] (by decide) (by decide)]
    rfl
  rw [e3, ← bigSep_dir, e3]
  iintro ⟨#HE, HO, ⟨Ht0, Ht1, Ht2⟩, ⟨Hp0, Hp1, Hp2⟩, Hc, Hat, HS, H3, H5, H6, H7, H8, HR⟩
  iapply (wp_sig m K 0 hn₀ hs₀ hk₀ (O := O₀ c) (O' := O₂ c) rfl) $$ [HO Ht0 Hp0]
  · isplitr; · iexact HE
    isplitl [HO]; · iexact HO
    isplitl [Ht0]; · iexact Ht0
    iexact Hp0
  iintro HO
  iapply (wp_sig m K 2 hn₂ hs₂ hk₂ (O := O₂ c) (O' := O₁ c) rfl) $$ [HO Ht2 Hp1]
  · isplitr; · iexact HE
    isplitl [HO]; · iexact HO
    isplitl [Ht2]; · iexact Ht2
    iexact Hp1
  iintro HO
  iapply (wp_sig m K 1 hn₁ hs₁ hk₁ (O := O₁ c) (O' := Ow c 0) rfl) $$ [HO Ht1 Hp2]
  · isplitr; · iexact HE
    isplitl [HO]; · iexact HO
    isplitl [Ht1]; · iexact Ht1
    iexact Hp2
  iintro HO
  iapply (wp_barwait m K hs₃ hk₃) $$ [HO Hc Hat]
  · isplitr; · iexact HE
    isplitl [HO]; · iexact HO
    isplitl [Hc] <;> iassumption
  iintro ⟨HO, Hz, HP⟩
  iapply h
  isplitr; · iexact HE
  isplitl [HO]; · iexact HO
  isplitl [HS HP]
  · isplitl [HS] <;> iassumption
  isplitr; · iempintro
  isplitl [H3]; · iexact H3
  isplitr; · iempintro
  isplitl [H5]; · iexact H5
  isplitl [H6]; · iexact H6
  isplitl [H7]; · iexact H7
  isplitl [H8]; · iexact H8
  isplitr; · iempintro
  isplitl [Hz] <;> iassumption

end Cert.KProof
-- ==== Proof.K.Prog.lean ====
/-
The program's integer chains once more, named by transfer and by chunk.
-/
module

public import proofs.«01_k».proof.Proof.K.Geom

@[expose] public section

namespace Cert.KProof

open Cert.KernelIdeal Cert.KernelIdeal.Gen Idealize.ShloMosaic Idealize.SL.Sem

/-- Rows a transfer moves, by the chain the program computes them with. -/
theorem off1_k : ∀ c : Dev nD, ∀ k : Fin 32, (k.val < 8 ∨ 11 ≤ k.val ∧ k.val < 27) → k0_off1 c (BitVec.ofNat 32 (256 * sK k)) = offR (srow c k) := by decide +kernel
theorem off2_k : ∀ c : Dev nD, ∀ k : Fin 32, k.val < 8 → k0_off2 c (BitVec.ofNat 32 (256 * sK k)) = offX (srow c k) ((1 - zOf c) * 1024) := by decide +kernel
theorem off3_k : ∀ c : Dev nD, ∀ k : Fin 32, (8 ≤ k.val ∧ k.val < 11) → k0_off3 c 2#32 (BitVec.ofNat 32 (256 * sK k)) = offR (srow c k) := by decide +kernel
theorem off4_k : ∀ c : Dev nD, ∀ k : Fin 32, (8 ≤ k.val ∧ k.val < 11) → k0_off4 c (BitVec.ofNat 32 (256 * sK k)) = offX (srow c k) ((1 - zOf c) * 1024) := by decide +kernel
theorem off3_l : ∀ c : Dev nD, ∀ k : Fin 32, (27 ≤ k.val ∧ k.val % 2 = 0) → k0_off3 c 1#32 (BitVec.ofNat 32 (256 * sK k)) = offR (srow c k) := by decide +kernel
theorem off6_r : ∀ c : Dev nD, ∀ k : Fin 32, (27 ≤ k.val ∧ k.val % 2 = 1) → k0_off6 c (BitVec.ofNat 32 (256 * sK k)) = offR (srow c k) := by decide +kernel

/-- Rows of a chunk: where a copy in reads, a load of the landed rows, and where a copy out writes. -/
theorem off5_n : ∀ c : Dev nD, ∀ n : Fin 8, tC n = 0 → k0_off5 c (BitVec.ofNat 32 (1024 * jC n)) = offX (rowC c n) (zOf c * 1024) := by decide +kernel
theorem off9_n : ∀ c : Dev nD, ∀ n : Fin 8, tC n = 3 → k0_off9 c (BitVec.ofNat 32 (1024 * jC n)) = offX (rowC c n) (zOf c * 1024) := by decide +kernel
theorem off10_n : ∀ c : Dev nD, ∀ n : Fin 8, (tC n = 1 ∨ tC n = 2) → k0_off10 c (BitVec.ofNat 32 (tC n)) (BitVec.ofNat 32 (1024 * jC n)) = offX (rowC c n) (zOf c * 1024) := by decide +kernel
theorem off7_n : ∀ c : Dev nD, ∀ n : Fin 8, tC n = 0 → k0_off7 c (BitVec.ofNat 32 (1024 * jC n)) = offR (rowC c n) := by decide +kernel
theorem off8_n : ∀ c : Dev nD, ∀ n : Fin 8, tC n = 0 → k0_off8 c (BitVec.ofNat 32 (1024 * jC n)) = offR (rowC c n) := by decide +kernel
theorem off11_n : ∀ c : Dev nD, ∀ n : Fin 8, tC n = 3 → k0_off11 c (BitVec.ofNat 32 (1024 * jC n)) = offR (rowC c n) := by decide +kernel
theorem off12_n : ∀ c : Dev nD, ∀ n : Fin 8, tC n = 3 → k0_off12 c (BitVec.ofNat 32 (1024 * jC n)) = offR (rowC c n) := by decide +kernel
theorem off13_n : ∀ c : Dev nD, ∀ n : Fin 8, (tC n = 1 ∨ tC n = 2) → k0_off13 c (BitVec.ofNat 32 (tC n)) (BitVec.ofNat 32 (1024 * jC n)) = offR (rowC c n) := by decide +kernel
theorem off14_n : ∀ c : Dev nD, ∀ n : Fin 8, (tC n = 1 ∨ tC n = 2) → k0_off14 c (BitVec.ofNat 32 (tC n)) (BitVec.ofNat 32 (1024 * jC n)) = offR (rowC c n) := by decide +kernel

end Cert.KProof
-- ==== Proof.K.Parts1.lean ====
/-
Parts 5 to 19 of the kernel: the transfers to the z-peer, and the forwarding of what the z-peer sends.
-/
module

public import proofs.«01_k».proof.Proof.K.Local
public import proofs.«01_k».proof.Proof.K.Prog

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (K : Dev nD × Option (DmaSem sig) → ℕ)
variable {c : Dev nD} {α : Type} {Q : α → sProp (MT nD τ sig Unit (Elt F) ℕ UU ℕ)} {R : sProp (MT nD τ sig Unit (Elt F) ℕ UU ℕ)}

/-- A piece of the kernel, with result in `α`. -/
abbrev Pk (F : FTy → Type) (α : Type) := Prog (TpuEff nD τ sig (Elt F) Λ₀ .tc) α

/-! ## Waits for a piece, by what becomes of it -/

section
variable {ks kr ac aw ot oc ow : ℕ} {sR : DmaSem sig} {sp sp' : Space} {s s' : Shape} {e e' : EltTy} {src : Memref sig .tc sp' s' e'} {dst : Memref sig .tc sp s e}
variable {hsrc : src.view.WordExact} {hdst : dst.view.WordExact} {kont : PUnit.{1} → Pk F α}

/-- The piece is the `z`-peer's and is forwarded by transfers `k₁` and `k₂`. -/
theorem recv_z (p k₁ k₂ : Fin 32)
    (hp : (rOrd p).val < 8 ∧ k₁.val = 11 + 2 * (rOrd p).val ∧ k₂.val = 12 + 2 * (rOrd p).val ∧ srcK k₁ = rOrd p ∧ srcK k₂ = rOrd p)
    (hkr : kr = p.val) (hl : ∀ k : Fin 32, ks ≤ k.val → lvK (rOrd p) < lvK k) (hsR : sR = rSem (rOrd p)) (hN : dst.view.dmaCredit = Nr)
    (h : St m K c ks (kr + 1) ac aw ot oc ow iprop(lendP m c k₁ ∗ lendP m c k₂ ∗ R) ⊢ WP c (kont ⟨⟩) Q) :
    St m K c ks kr ac aw ot oc ow R ⊢ WP c (.op (.waitDma2 sR src dst hsrc hdst) kont) Q :=
  step_recv m K p hkr hsR hl hN (keep_z m _ k₁ k₂ hp.1 hp.2.1 hp.2.2.1 hp.2.2.2.1 hp.2.2.2.2) h

/-- The piece is forwarded once, by transfer `k₁`. -/
theorem recv_b (p k₁ : Fin 32) (hp : lent (rOrd p) ∧ 27 ≤ k₁.val ∧ srcK k₁ = rOrd p)
    (hkr : kr = p.val) (hl : ∀ k : Fin 32, ks ≤ k.val → lvK (rOrd p) < lvK k) (hsR : sR = rSem (rOrd p)) (hN : dst.view.dmaCredit = Nr)
    (h : St m K c ks (kr + 1) ac aw ot oc ow iprop(lendP m c k₁ ∗ R) ⊢ WP c (kont ⟨⟩) Q) :
    St m K c ks kr ac aw ot oc ow R ⊢ WP c (.op (.waitDma2 sR src dst hsrc hdst) kont) Q :=
  step_recv m K p hkr hsR hl hN (keep_b m _ k₁ hp.1 hp.2.1 hp.2.2) h

/-- The piece is not forwarded. -/
theorem recv_all (p : Fin 32) (hp : ¬ lent (rOrd p))
    (hkr : kr = p.val) (hl : ∀ k : Fin 32, ks ≤ k.val → lvK (rOrd p) < lvK k) (hsR : sR = rSem (rOrd p)) (hN : dst.view.dmaCredit = Nr)
    (h : St m K c ks (kr + 1) ac aw ot oc ow R ⊢ WP c (kont ⟨⟩) Q) :
    St m K c ks kr ac aw ot oc ow R ⊢ WP c (.op (.waitDma2 sR src dst hsrc hdst) kont) Q :=
  step_recv m K p hkr hsR hl hN (keep_all m _ hp) h
end

variable {h0 : xM.IsWhole} {h1 : yM.IsWhole} {h2 : rM.IsWhole} {h3 : aM.IsWhole} {h4 : oM.IsWhole}
variable {c4_i32_177 c4_i32_255 c1_i32_389 c4_i32_443 v2 v5 v8 v11 v12 v40 v44 v72 v76 v109 v207 v300 v301 v516 : BitVec 32}

theorem part5 {k : PUnit.{1} → Pk F α} (h : ∀ x, St m K c 2 0 0 0 0 0 0 R ⊢ WP c (k x) Q) :
    St m K c 0 0 0 0 0 0 0 R ⊢ WP c (k0_part5 xM h0 yM h1 rM h2 aM h3 oM h4 cc0_scratch3 cc0_scratch4 cc0_scratch5 cc0_scratch6 cc0_scratch7 cc0_scratch8 c v2 v5 v11 v12 >>= k) Q := by
  rw [k0_part5_eq_skeleton]; unfold k0_part5_skel
  simp only [Prog.lift, Prog.bind_op, Prog.bind_ret, Prog.pure_eq_ret]
  refine step_z m K 0 (by decide) rfl (Fin.ext (dev_z c).1) (off1_k c 0 (by decide)) (off2_k c 0 (by decide)) rfl rfl ?_
  refine step_z m K 1 (by decide) rfl (Fin.ext (dev_z c).2.1) (off1_k c 1 (by decide)) (off2_k c 1 (by decide)) rfl rfl ?_
  exact h _

theorem part6 {k : (BitVec 32) → Pk F α} (h : ∀ x, St m K c 5 0 0 0 0 0 0 R ⊢ WP c (k x) Q) :
    St m K c 2 0 0 0 0 0 0 R ⊢ WP c (k0_part6 xM h0 yM h1 rM h2 aM h3 oM h4 cc0_scratch3 cc0_scratch4 cc0_scratch5 cc0_scratch6 cc0_scratch7 cc0_scratch8 c v2 v5 v11 v12 >>= k) Q := by
  rw [k0_part6_eq_skeleton]; unfold k0_part6_skel
  simp only [Prog.lift, Prog.bind_op, Prog.bind_ret, Prog.pure_eq_ret]
  refine step_z m K 2 (by decide) rfl (Fin.ext (dev_z c).2.2.1) (off1_k c 2 (by decide)) (off2_k c 2 (by decide)) rfl rfl ?_
  refine step_z m K 3 (by decide) rfl (Fin.ext (dev_z c).2.2.2.1) (off1_k c 3 (by decide)) (off2_k c 3 (by decide)) rfl rfl ?_
  refine step_z m K 4 (by decide) rfl (Fin.ext (dev_z c).2.2.2.2.1) (off1_k c 4 (by decide)) (off2_k c 4 (by decide)) rfl rfl ?_
  exact h _

theorem part7 {k : PUnit.{1} → Pk F α} (h : ∀ x, St m K c 7 0 0 0 0 0 0 R ⊢ WP c (k x) Q) :
    St m K c 5 0 0 0 0 0 0 R ⊢ WP c (k0_part7 xM h0 yM h1 rM h2 aM h3 oM h4 cc0_scratch3 cc0_scratch4 cc0_scratch5 cc0_scratch6 cc0_scratch7 cc0_scratch8 c v2 v5 v11 v12 v207 >>= k) Q := by
  rw [k0_part7_eq_skeleton]; unfold k0_part7_skel
  simp only [Prog.lift, Prog.bind_op, Prog.bind_ret, Prog.pure_eq_ret]
  refine step_z m K 5 (by decide) rfl (Fin.ext (dev_z c).2.2.2.2.2.1) (off1_k c 5 (by decide)) (off2_k c 5 (by decide)) rfl rfl ?_
  refine step_z m K 6 (by decide) rfl (Fin.ext (dev_z c).2.2.2.2.2.2.1) (off1_k c 6 (by decide)) (off2_k c 6 (by decide)) rfl rfl ?_
  exact h _

theorem part8 {k : (BitVec 32) → Pk F α} (h : ∀ x, St m K c 9 0 0 0 0 0 0 R ⊢ WP c (k x) Q) :
    St m K c 7 0 0 0 0 0 0 R ⊢ WP c (k0_part8 xM h0 yM h1 rM h2 aM h3 oM h4 cc0_scratch3 cc0_scratch4 cc0_scratch5 cc0_scratch6 cc0_scratch7 cc0_scratch8 c v2 v5 v12 v109 >>= k) Q := by
  rw [k0_part8_eq_skeleton]; unfold k0_part8_skel
  simp only [Prog.lift, Prog.bind_op, Prog.bind_ret, Prog.pure_eq_ret]
  refine step_z m K 7 (by decide) rfl (Fin.ext (dev_z c).2.2.2.2.2.2.2.1) (off1_k c 7 (by decide)) (off2_k c 7 (by decide)) rfl rfl ?_
  refine step_z m K 8 (by decide) rfl (Fin.ext (dev_z c).2.2.2.2.2.2.2.2.1) (off3_k c 8 (by decide)) (off4_k c 8 (by decide)) rfl rfl ?_
  exact h _

theorem part9 {k : (Σ' (v300 : BitVec 32), BitVec 32) → Pk F α} (h : ∀ x, St m K c 11 0 0 0 0 0 0 R ⊢ WP c (k x) Q) :
    St m K c 9 0 0 0 0 0 0 R ⊢ WP c (k0_part9 xM h0 yM h1 rM h2 aM h3 oM h4 cc0_scratch3 cc0_scratch4 cc0_scratch5 cc0_scratch6 cc0_scratch7 cc0_scratch8 c v2 v5 v12 v109 c4_i32_177 >>= k) Q := by
  rw [k0_part9_eq_skeleton]; unfold k0_part9_skel
  simp only [Prog.lift, Prog.bind_op, Prog.bind_ret, Prog.pure_eq_ret]
  refine step_z m K 9 (by decide) rfl (Fin.ext (dev_z c).2.2.2.2.2.2.2.2.2.1) (off3_k c 9 (by decide)) (off4_k c 9 (by decide)) rfl rfl ?_
  refine step_z m K 10 (by decide) rfl (Fin.ext (dev_z c).2.2.2.2.2.2.2.2.2.2) (off3_k c 10 (by decide)) (off4_k c 10 (by decide)) rfl rfl ?_
  exact h _

theorem part10 {k : PUnit.{1} → Pk F α} (h : ∀ x, St m K c 12 1 0 0 0 0 0 iprop(lendP m c 12 ∗ R) ⊢ WP c (k x) Q) :
    St m K c 11 0 0 0 0 0 0 R ⊢ WP c (k0_part10 xM h0 yM h1 rM h2 aM h3 oM h4 cc0_scratch3 cc0_scratch4 cc0_scratch5 cc0_scratch6 cc0_scratch7 cc0_scratch8 c v8 v11 v40 v44 v72 v76 v300 v301 >>= k) Q := by
  rw [k0_part10_eq_skeleton]; unfold k0_part10_skel
  simp only [Prog.lift, Prog.bind_op, Prog.bind_ret, Prog.pure_eq_ret]
  refine recv_z m K 0 11 12 (by decide) rfl (by decide) rfl rfl ?_
  refine step_r m K 11 (by decide) rfl (Fin.ext (dev_r c).1) (off1_k c 11 (by decide)) rfl rfl (Entails.of_eq rfl) ?_
  exact h _

theorem part11 {k : (BitVec 32) → Pk F α} (h : ∀ x, St m K c 14 2 0 0 0 0 0 iprop(lendP m c 14 ∗ R) ⊢ WP c (k x) Q) :
    St m K c 12 1 0 0 0 0 0 iprop(lendP m c 12 ∗ R) ⊢ WP c (k0_part11 xM h0 yM h1 rM h2 aM h3 oM h4 cc0_scratch3 cc0_scratch4 cc0_scratch5 cc0_scratch6 cc0_scratch7 cc0_scratch8 c v2 v5 v8 v11 v12 v40 v44 >>= k) Q := by
  rw [k0_part11_eq_skeleton]; unfold k0_part11_skel
  simp only [Prog.lift, Prog.bind_op, Prog.bind_ret, Prog.pure_eq_ret]
  refine step_r m K 12 (by decide) rfl (Fin.ext (dev_l c).1) (off1_k c 12 (by decide)) rfl rfl (Entails.of_eq rfl) ?_
  refine recv_z m K 1 13 14 (by decide) rfl (by decide) rfl rfl ?_
  refine step_r m K 13 (by decide) rfl (Fin.ext (dev_r c).2.1) (off1_k c 13 (by decide)) rfl rfl (Entails.of_eq rfl) ?_
  exact h _

theorem part12 {k : PUnit.{1} → Pk F α} (h : ∀ x, St m K c 15 3 0 0 0 0 0 iprop(lendP m c 15 ∗ lendP m c 16 ∗ R) ⊢ WP c (k x) Q) :
    St m K c 14 2 0 0 0 0 0 iprop(lendP m c 14 ∗ R) ⊢ WP c (k0_part12 xM h0 yM h1 rM h2 aM h3 oM h4 cc0_scratch3 cc0_scratch4 cc0_scratch5 cc0_scratch6 cc0_scratch7 cc0_scratch8 c v2 v5 v8 v11 v12 v40 v44 v72 v76 c4_i32_255 >>= k) Q := by
  rw [k0_part12_eq_skeleton]; unfold k0_part12_skel
  simp only [Prog.lift, Prog.bind_op, Prog.bind_ret, Prog.pure_eq_ret]
  refine step_r m K 14 (by decide) rfl (Fin.ext (dev_l c).2.1) (off1_k c 14 (by decide)) rfl rfl (Entails.of_eq rfl) ?_
  refine recv_z m K 2 15 16 (by decide) rfl (by decide) rfl rfl ?_
  exact h _

theorem part13 {k : PUnit.{1} → Pk F α} (h : ∀ x, St m K c 17 4 0 0 0 0 0 iprop(lendP m c 17 ∗ lendP m c 18 ∗ R) ⊢ WP c (k x) Q) :
    St m K c 15 3 0 0 0 0 0 iprop(lendP m c 15 ∗ lendP m c 16 ∗ R) ⊢ WP c (k0_part13 xM h0 yM h1 rM h2 aM h3 oM h4 cc0_scratch3 cc0_scratch4 cc0_scratch5 cc0_scratch6 cc0_scratch7 cc0_scratch8 c v2 v5 v8 v11 v12 v72 v76 >>= k) Q := by
  rw [k0_part13_eq_skeleton]; unfold k0_part13_skel
  simp only [Prog.lift, Prog.bind_op, Prog.bind_ret, Prog.pure_eq_ret]
  refine step_r m K 15 (by decide) rfl (Fin.ext (dev_r c).2.2.1) (off1_k c 15 (by decide)) rfl rfl (Entails.of_eq rfl) ?_
  refine step_r m K 16 (by decide) rfl (Fin.ext (dev_l c).2.2.1) (off1_k c 16 (by decide)) rfl rfl (Entails.of_eq rfl) ?_
  refine recv_z m K 3 17 18 (by decide) rfl (by decide) rfl rfl ?_
  exact h _

theorem part14 {k : (BitVec 32) → Pk F α} (h : ∀ x, St m K c 19 4 0 0 0 0 0 R ⊢ WP c (k x) Q) :
    St m K c 17 4 0 0 0 0 0 iprop(lendP m c 17 ∗ lendP m c 18 ∗ R) ⊢ WP c (k0_part14 xM h0 yM h1 rM h2 aM h3 oM h4 cc0_scratch3 cc0_scratch4 cc0_scratch5 cc0_scratch6 cc0_scratch7 cc0_scratch8 c v8 v11 v40 v44 v72 v76 >>= k) Q := by
  rw [k0_part14_eq_skeleton]; unfold k0_part14_skel
  simp only [Prog.lift, Prog.bind_op, Prog.bind_ret, Prog.pure_eq_ret]
  refine step_r m K 17 (by decide) rfl (Fin.ext (dev_r c).2.2.2.1) (off1_k c 17 (by decide)) rfl rfl (Entails.of_eq rfl) ?_
  refine step_r m K 18 (by decide) rfl (Fin.ext (dev_l c).2.2.2.1) (off1_k c 18 (by decide)) rfl rfl (Entails.of_eq rfl) ?_
  exact h _

theorem part15 {k : PUnit.{1} → Pk F α} (h : ∀ x, St m K c 20 5 1 0 0 0 0 iprop(lendP m c 20 ∗ R) ⊢ WP c (k x) Q) :
    St m K c 19 4 0 0 0 0 0 R ⊢ WP c (k0_part15 xM h0 yM h1 rM h2 aM h3 oM h4 cc0_scratch3 cc0_scratch4 cc0_scratch5 cc0_scratch6 cc0_scratch7 cc0_scratch8 c v2 v5 v8 v11 v12 v40 v44 >>= k) Q := by
  rw [k0_part15_eq_skeleton]; unfold k0_part15_skel
  simp only [Prog.lift, Prog.bind_op, Prog.bind_ret, Prog.pure_eq_ret]
  refine step_acopy m K 0 rfl rfl rfl rfl (off5_n c 0 (by decide)) ?_
  refine recv_z m K 4 19 20 (by decide) rfl (by decide) rfl rfl ?_
  refine step_r m K 19 (by decide) rfl (Fin.ext (dev_r c).2.2.2.2.1) (off1_k c 19 (by decide)) rfl rfl (Entails.of_eq rfl) ?_
  exact h _

theorem part16 {k : (Σ' (v516 : BitVec 32), BitVec 32) → Pk F α} (h : ∀ x, St m K c 21 6 1 0 0 0 0 iprop(lendP m c 21 ∗ lendP m c 22 ∗ R) ⊢ WP c (k x) Q) :
    St m K c 20 5 1 0 0 0 0 iprop(lendP m c 20 ∗ R) ⊢ WP c (k0_part16 xM h0 yM h1 rM h2 aM h3 oM h4 cc0_scratch3 cc0_scratch4 cc0_scratch5 cc0_scratch6 cc0_scratch7 cc0_scratch8 c v2 v5 v8 v11 v12 v40 v44 v72 v76 >>= k) Q := by
  rw [k0_part16_eq_skeleton]; unfold k0_part16_skel
  simp only [Prog.lift, Prog.bind_op, Prog.bind_ret, Prog.pure_eq_ret]
  refine step_r m K 20 (by decide) rfl (Fin.ext (dev_l c).2.2.2.2.1) (off1_k c 20 (by decide)) rfl rfl (Entails.of_eq rfl) ?_
  refine recv_z m K 5 21 22 (by decide) rfl (by decide) rfl rfl ?_
  exact h _

theorem part17 {k : PUnit.{1} → Pk F α} (h : ∀ x, St m K c 23 7 1 0 0 0 0 iprop(lendP m c 23 ∗ lendP m c 24 ∗ R) ⊢ WP c (k x) Q) :
    St m K c 21 6 1 0 0 0 0 iprop(lendP m c 21 ∗ lendP m c 22 ∗ R) ⊢ WP c (k0_part17 xM h0 yM h1 rM h2 aM h3 oM h4 cc0_scratch3 cc0_scratch4 cc0_scratch5 cc0_scratch6 cc0_scratch7 cc0_scratch8 c v2 v5 v8 v11 v12 v72 v76 v516 c1_i32_389 >>= k) Q := by
  rw [k0_part17_eq_skeleton]; unfold k0_part17_skel
  simp only [Prog.lift, Prog.bind_op, Prog.bind_ret, Prog.pure_eq_ret]
  refine step_r m K 21 (by decide) rfl (Fin.ext (dev_r c).2.2.2.2.2.1) (off1_k c 21 (by decide)) rfl rfl (Entails.of_eq rfl) ?_
  refine step_r m K 22 (by decide) rfl (Fin.ext (dev_l c).2.2.2.2.2.1) (off1_k c 22 (by decide)) rfl rfl (Entails.of_eq rfl) ?_
  refine recv_z m K 6 23 24 (by decide) rfl (by decide) rfl rfl ?_
  exact h _

theorem part18 {k : (BitVec 32) → Pk F α} (h : ∀ x, St m K c 25 7 1 0 0 0 0 R ⊢ WP c (k x) Q) :
    St m K c 23 7 1 0 0 0 0 iprop(lendP m c 23 ∗ lendP m c 24 ∗ R) ⊢ WP c (k0_part18 xM h0 yM h1 rM h2 aM h3 oM h4 cc0_scratch3 cc0_scratch4 cc0_scratch5 cc0_scratch6 cc0_scratch7 cc0_scratch8 c v8 v11 v40 v44 v72 v76 >>= k) Q := by
  rw [k0_part18_eq_skeleton]; unfold k0_part18_skel
  simp only [Prog.lift, Prog.bind_op, Prog.bind_ret, Prog.pure_eq_ret]
  refine step_r m K 23 (by decide) rfl (Fin.ext (dev_r c).2.2.2.2.2.2.1) (off1_k c 23 (by decide)) rfl rfl (Entails.of_eq rfl) ?_
  refine step_r m K 24 (by decide) rfl (Fin.ext (dev_l c).2.2.2.2.2.2.1) (off1_k c 24 (by decide)) rfl rfl (Entails.of_eq rfl) ?_
  exact h _

theorem part19 {k : (Σ' (v608 : BitVec 32), BitVec 32) → Pk F α} (h : ∀ x, St m K c 26 8 1 0 0 0 0 iprop(lendP m c 26 ∗ R) ⊢ WP c (k x) Q) :
    St m K c 25 7 1 0 0 0 0 R ⊢ WP c (k0_part19 xM h0 yM h1 rM h2 aM h3 oM h4 cc0_scratch3 cc0_scratch4 cc0_scratch5 cc0_scratch6 cc0_scratch7 cc0_scratch8 c v2 v5 v8 v11 v12 v40 v44 v72 v76 c4_i32_443 >>= k) Q := by
  rw [k0_part19_eq_skeleton]; unfold k0_part19_skel
  simp only [Prog.lift, Prog.bind_op, Prog.bind_ret, Prog.pure_eq_ret]
  refine recv_z m K 7 25 26 (by decide) rfl (by decide) rfl rfl ?_
  refine step_r m K 25 (by decide) rfl (Fin.ext (dev_r c).2.2.2.2.2.2.2.1) (off1_k c 25 (by decide)) rfl rfl (Entails.of_eq rfl) ?_
  exact h _

end Cert.KProof
-- ==== Proof.K.Parts2.lean ====
/-
Parts 20 to 30 of the kernel: the pieces of the other two neighbours, their forwarding, and the first two chunks of the result.
-/
module

public import proofs.«01_k».proof.Proof.K.Parts1

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (K : Dev nD × Option (DmaSem sig) → ℕ)
variable {c : Dev nD} {α : Type} {Q : α → sProp (MT nD τ sig Unit (Elt F) ℕ UU ℕ)} {R : sProp (MT nD τ sig Unit (Elt F) ℕ UU ℕ)}
variable {h0 : xM.IsWhole} {h1 : yM.IsWhole} {h2 : rM.IsWhole} {h3 : aM.IsWhole} {h4 : oM.IsWhole}
variable {c4_i32_497 c2_i32_689 v2 v5 v8 v11 v12 v40 v44 v72 v76 v87 v98 v454 v608 v609 v618 v699 v727 v844 : BitVec 32}

theorem part20 {k : (Σ' (v618 : BitVec 32), BitVec 32) → Pk F α} (h : ∀ x, St m K c 27 9 2 0 0 0 0 R ⊢ WP c (k x) Q) :
    St m K c 26 8 1 0 0 0 0 iprop(lendP m c 26 ∗ R) ⊢ WP c (k0_part20 xM h0 yM h1 rM h2 aM h3 oM h4 cc0_scratch3 cc0_scratch4 cc0_scratch5 cc0_scratch6 cc0_scratch7 cc0_scratch8 c v2 v5 v11 v12 v87 v98 v608 v609 >>= k) Q := by
  rw [k0_part20_eq_skeleton]; unfold k0_part20_skel
  simp only [Prog.lift, Prog.bind_op, Prog.bind_ret, Prog.pure_eq_ret]
  refine step_r m K 26 (by decide) rfl (Fin.ext (dev_l c).2.2.2.2.2.2.2.1) (off1_k c 26 (by decide)) rfl rfl (Entails.of_eq rfl) ?_
  refine step_acopy m K 1 (by rfl) (by rfl) (by rfl) (by rfl) (off5_n c 1 (by decide)) ?_
  refine recv_all m K 8 (by decide) rfl (by decide) rfl rfl ?_
  exact h _

theorem part21 {k : PUnit.{1} → Pk F α} (h : ∀ x, St m K c 27 11 2 0 0 0 0 iprop(lendP m c 27 ∗ R) ⊢ WP c (k x) Q) :
    St m K c 27 9 2 0 0 0 0 R ⊢ WP c (k0_part21 xM h0 yM h1 rM h2 aM h3 oM h4 cc0_scratch3 cc0_scratch4 cc0_scratch5 cc0_scratch6 cc0_scratch7 cc0_scratch8 c v2 v5 v12 v87 v98 c4_i32_497 >>= k) Q := by
  rw [k0_part21_eq_skeleton]; unfold k0_part21_skel
  simp only [Prog.lift, Prog.bind_op, Prog.bind_ret, Prog.pure_eq_ret]
  refine recv_all m K 9 (by decide) rfl (by decide) rfl rfl ?_
  refine recv_b m K 10 27 (by decide) rfl (by decide) rfl rfl ?_
  exact h _

theorem part22 {k : (BitVec 32) → Pk F α} (h : ∀ x, St m K c 28 13 2 0 0 0 0 R ⊢ WP c (k x) Q) :
    St m K c 27 11 2 0 0 0 0 iprop(lendP m c 27 ∗ R) ⊢ WP c (k0_part22 xM h0 yM h1 rM h2 aM h3 oM h4 cc0_scratch3 cc0_scratch4 cc0_scratch5 cc0_scratch6 cc0_scratch7 cc0_scratch8 c v2 v5 v8 v12 v40 v44 v87 v98 >>= k) Q := by
  rw [k0_part22_eq_skeleton]; unfold k0_part22_skel
  simp only [Prog.lift, Prog.bind_op, Prog.bind_ret, Prog.pure_eq_ret]
  refine recv_all m K 11 (by decide) rfl (by decide) rfl rfl ?_
  refine step_r m K 27 (by decide) rfl (Fin.ext (dev_r c).2.2.2.2.2.2.2.2.1) (off6_r c 27 (by decide)) rfl rfl (Entails.of_eq rfl) ?_
  refine recv_all m K 12 (by decide) rfl (by decide) rfl rfl ?_
  exact h _

theorem part23 {k : (BitVec 32) → Pk F α} (h : ∀ x, St m K c 29 14 2 0 0 0 0 R ⊢ WP c (k x) Q) :
    St m K c 28 13 2 0 0 0 0 R ⊢ WP c (k0_part23 xM h0 yM h1 rM h2 aM h3 oM h4 cc0_scratch3 cc0_scratch4 cc0_scratch5 cc0_scratch6 cc0_scratch7 cc0_scratch8 c v2 v5 v8 v12 v72 v76 v87 v98 v699 >>= k) Q := by
  rw [k0_part23_eq_skeleton]; unfold k0_part23_skel
  simp only [Prog.lift, Prog.bind_op, Prog.bind_ret, Prog.pure_eq_ret]
  refine recv_b m K 13 28 (by decide) rfl (by decide) rfl rfl ?_
  refine step_r m K 28 (by decide) rfl (Fin.ext (dev_l c).2.2.2.2.2.2.2.2.1) (off3_l c 28 (by decide)) rfl rfl (Entails.of_eq rfl) ?_
  exact h _

theorem part24 {k : (Σ' (v750 : BitVec 32), Vec F S1x1024x1024 .f32) → Pk F α} (h : ∀ x, St m K c 29 16 2 1 0 0 0 R ⊢ WP c (k ⟨x, vA m c 0⟩) Q) :
    St m K c 29 14 2 0 0 0 0 R ⊢ WP c (k0_part24 xM h0 yM h1 rM h2 aM h3 oM h4 cc0_scratch3 cc0_scratch4 cc0_scratch5 cc0_scratch6 cc0_scratch7 cc0_scratch8 c v2 v5 v12 v87 v98 v727 >>= k) Q := by
  rw [k0_part24_eq_skeleton]; unfold k0_part24_skel
  simp only [Prog.lift, Prog.bind_op, Prog.bind_ret, Prog.pure_eq_ret]
  refine recv_all m K 14 (by decide) rfl (by decide) rfl rfl ?_
  refine recv_all m K 15 (by decide) rfl (by decide) rfl rfl ?_
  refine step_await m K 0 (by rfl) (by rfl) (by rfl) (by rfl) ?_
  refine step_load_a m K 0 (by rfl) (by rfl) (by rfl) ?_
  exact h _

theorem part25 {k : (Σ' (v777 : BitVec 32), FVec F S1024x1024 .f32) → Pk F α} (h : ∀ x, St m K c 29 16 3 2 1 1 0 R ⊢ WP c (k ⟨x, k0_pay2 (vA m c 1) (vR m c 1)⟩) Q) :
    St m K c 29 16 2 1 0 0 0 R ⊢ WP c (k0_part25 xM h0 yM h1 rM h2 aM h3 oM h4 cc0_scratch3 cc0_scratch4 cc0_scratch5 cc0_scratch6 cc0_scratch7 cc0_scratch8 c v98 v454 v618 (vA m c 0) >>= k) Q := by
  rw [k0_part25_eq_skeleton]; unfold k0_part25_skel
  simp only [Prog.lift, Prog.bind_op, Prog.bind_ret, Prog.pure_eq_ret]
  refine step_load_r m K 0 (by decide) (off7_n c 0 (by decide)) ?_
  refine step_load_o m K 0 (by rfl) (by rfl) (by rfl) (by rfl) fun _ => ?_
  refine step_store m K 0 (by rfl) (by rfl) (by rfl) (by rfl) (by rfl) ?_
  refine step_ocopy m K 0 (by rfl) (by rfl) (by rfl) (by rfl) (by rfl) (off8_n c 0 (by decide)) ?_
  refine step_acopy m K 2 (by rfl) (by rfl) (by rfl) (by rfl) (off9_n c 2 (by decide)) ?_
  refine step_await m K 1 (by rfl) (by rfl) (by rfl) (by rfl) ?_
  refine step_load_a m K 1 (by rfl) (by rfl) (by rfl) ?_
  refine step_load_r m K 1 (by decide) (off7_n c 1 (by decide)) ?_
  exact h _

theorem part26 {k : PUnit.{1} → Pk F α} (h : ∀ x, St m K c 29 17 4 2 2 2 0 iprop(lendP m c 29 ∗ R) ⊢ WP c (k x) Q) :
    St m K c 29 16 3 2 1 1 0 R ⊢ WP c (k0_part26 xM h0 yM h1 rM h2 aM h3 oM h4 cc0_scratch3 cc0_scratch4 cc0_scratch5 cc0_scratch6 cc0_scratch7 cc0_scratch8 c v2 v5 v12 v87 v98 (k0_pay2 (vA m c 1) (vR m c 1)) >>= k) Q := by
  rw [k0_part26_eq_skeleton]; unfold k0_part26_skel
  simp only [Prog.lift, Prog.bind_op, Prog.bind_ret, Prog.pure_eq_ret]
  refine step_load_o m K 1 (by rfl) (by rfl) (by rfl) (by rfl) fun _ => ?_
  refine step_store m K 1 (by rfl) (by rfl) (by rfl) (by rfl) (by rfl) ?_
  refine step_ocopy m K 1 (by rfl) (by rfl) (by rfl) (by rfl) (by rfl) (off8_n c 1 (by decide)) ?_
  refine step_acopy m K 3 (by rfl) (by rfl) (by rfl) (by rfl) (off10_n c 3 (by decide)) ?_
  refine recv_b m K 16 29 (by decide) rfl (by decide) rfl rfl ?_
  exact h _

theorem part27 {k : (Σ' (v844 : BitVec 32), BitVec 32) → Pk F α} (h : ∀ x, St m K c 30 18 4 2 2 2 0 R ⊢ WP c (k x) Q) :
    St m K c 29 17 4 2 2 2 0 iprop(lendP m c 29 ∗ R) ⊢ WP c (k0_part27 xM h0 yM h1 rM h2 aM h3 oM h4 cc0_scratch3 cc0_scratch4 cc0_scratch5 cc0_scratch6 cc0_scratch7 cc0_scratch8 c v2 v5 v8 v12 v40 v44 v87 >>= k) Q := by
  rw [k0_part27_eq_skeleton]; unfold k0_part27_skel
  simp only [Prog.lift, Prog.bind_op, Prog.bind_ret, Prog.pure_eq_ret]
  refine recv_all m K 17 (by decide) rfl (by decide) rfl rfl ?_
  refine step_r m K 29 (by decide) rfl (Fin.ext (dev_r c).2.2.2.2.2.2.2.2.2.1) (off6_r c 29 (by decide)) rfl rfl (Entails.of_eq rfl) ?_
  exact h _

theorem part28 {k : PUnit.{1} → Pk F α} (h : ∀ x, St m K c 30 20 4 2 2 2 0 iprop(lendP m c 30 ∗ R) ⊢ WP c (k x) Q) :
    St m K c 30 18 4 2 2 2 0 R ⊢ WP c (k0_part28 xM h0 yM h1 rM h2 aM h3 oM h4 cc0_scratch3 cc0_scratch4 cc0_scratch5 cc0_scratch6 cc0_scratch7 cc0_scratch8 c v2 v5 v8 v12 v72 v76 v98 v844 c2_i32_689 >>= k) Q := by
  rw [k0_part28_eq_skeleton]; unfold k0_part28_skel
  simp only [Prog.lift, Prog.bind_op, Prog.bind_ret, Prog.pure_eq_ret]
  refine recv_all m K 18 (by decide) rfl (by decide) rfl rfl ?_
  refine recv_b m K 19 30 (by decide) rfl (by decide) rfl rfl ?_
  exact h _

theorem part29 {k : PUnit.{1} → Pk F α} (h : ∀ x, St m K c 31 22 4 2 2 2 0 R ⊢ WP c (k x) Q) :
    St m K c 30 20 4 2 2 2 0 iprop(lendP m c 30 ∗ R) ⊢ WP c (k0_part29 xM h0 yM h1 rM h2 aM h3 oM h4 cc0_scratch3 cc0_scratch4 cc0_scratch5 cc0_scratch6 cc0_scratch7 cc0_scratch8 c v2 v5 v12 v87 v98 >>= k) Q := by
  rw [k0_part29_eq_skeleton]; unfold k0_part29_skel
  simp only [Prog.lift, Prog.bind_op, Prog.bind_ret, Prog.pure_eq_ret]
  refine step_r m K 30 (by decide) rfl (Fin.ext (dev_l c).2.2.2.2.2.2.2.2.2) (off3_l c 30 (by decide)) rfl rfl (Entails.of_eq rfl) ?_
  refine recv_all m K 20 (by decide) rfl (by decide) rfl rfl ?_
  refine recv_all m K 21 (by decide) rfl (by decide) rfl rfl ?_
  exact h _

theorem part30 {k : (Σ' (v932 : BitVec 32), BitVec 32) → Pk F α} (h : ∀ x, St m K c 31 24 4 2 2 2 0 iprop(lendP m c 31 ∗ R) ⊢ WP c (k x) Q) :
    St m K c 31 22 4 2 2 2 0 R ⊢ WP c (k0_part30 xM h0 yM h1 rM h2 aM h3 oM h4 cc0_scratch3 cc0_scratch4 cc0_scratch5 cc0_scratch6 cc0_scratch7 cc0_scratch8 c v2 v5 v12 v40 v44 v87 v98 >>= k) Q := by
  rw [k0_part30_eq_skeleton]; unfold k0_part30_skel
  simp only [Prog.lift, Prog.bind_op, Prog.bind_ret, Prog.pure_eq_ret]
  refine recv_b m K 22 31 (by decide) rfl (by decide) rfl rfl ?_
  refine recv_all m K 23 (by decide) rfl (by decide) rfl rfl ?_
  exact h _

end Cert.KProof
-- ==== Proof.K.Parts3.lean ====
/-
Parts 31 to 40 of the kernel: the remaining pieces and chunks, and the first waits for the own transfers.
-/
module

public import proofs.«01_k».proof.Proof.K.Parts1

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (K : Dev nD × Option (DmaSem sig) → ℕ)
variable {c : Dev nD} {α : Type} {Q : α → sProp (MT nD τ sig Unit (Elt F) ℕ UU ℕ)} {R : sProp (MT nD τ sig Unit (Elt F) ℕ UU ℕ)}

/-- What is held when all was sent and received: the pieces, and the slots of the argument. -/
def doneP (c : Dev nD) (R : sProp (MT nD τ sig Unit (Elt F) ℕ UU ℕ)) : sProp (MT nD τ sig Unit (Elt F) ℕ UU ℕ) :=
  iprop((bigSep Finset.univ fun p => heldP m c (rOrd p)) ∗ (bigSep Finset.univ fun i => aSt m c i (cnt 8 i) (cnt 8 i)) ∗ R)

/-- When all was sent and received, only the waits for the own transfers remain. -/
theorem to_w {ow : ℕ} {p : Pk F α} (h : StW m K c 0 ow (doneP m c R) ⊢ WP c p Q) : St m K c 32 32 8 8 8 8 ow R ⊢ WP c p Q := by
  refine BIBase.Entails.trans ?_ h
  have e : (Pre 32 (pendP (F := F) c) : sProp 𝕄) = Suf 0 fun p => pendP (F := F) c (wOrd p) := by
    rw [Pre_all, Suf_zero]
    exact bigSep_univ_equiv wOrdE _
  have e0 : ∀ Φ : Fin 32 → sProp 𝕄, Pre 0 Φ = iprop(emp) := fun Φ => Pre_zero Φ
  have e1 : (Pre 32 (fun p => heldP m c (rOrd p)) : sProp 𝕄) = bigSep Finset.univ fun p => heldP m c (rOrd p) := Pre_all _
  unfold St StW doneP
  rw [e, e0, e1]
  iintro ⟨HE, HO, -, HP, -, HH, -, HA, -, HB, HC, HR⟩
  isplitl [HE]; · iexact HE
  isplitl [HO]; · iexact HO
  isplitl [HP]; · iexact HP
  isplitr; · iempintro
  isplitl [HB]; · iexact HB
  isplitl [HC]; · iexact HC
  isplitl [HH]; · iexact HH
  isplitl [HA] <;> iassumption

variable {h0 : xM.IsWhole} {h1 : yM.IsWhole} {h2 : rM.IsWhole} {h3 : aM.IsWhole} {h4 : oM.IsWhole}
variable {c1_i32_774 c0_i32_880 v2 v5 v8 v12 v87 v98 v109 v750 v777 v932 v942 v974 v1021 v1051 v1052 v1107 v1131 : BitVec 32}

theorem part31 {k : (BitVec 32) → Pk F α} (h : ∀ x, St m K c 32 24 4 3 3 2 1 R ⊢ WP c (k x) Q) :
    St m K c 31 24 4 2 2 2 0 iprop(lendP m c 31 ∗ R) ⊢ WP c (k0_part31 xM h0 yM h1 rM h2 aM h3 oM h4 cc0_scratch3 cc0_scratch4 cc0_scratch5 cc0_scratch6 cc0_scratch7 cc0_scratch8 c v8 v87 v750 v932 c1_i32_774 >>= k) Q := by
  rw [k0_part31_eq_skeleton]; unfold k0_part31_skel
  simp only [Prog.lift, Prog.bind_op, Prog.bind_ret, Prog.pure_eq_ret]
  refine step_r m K 31 (by decide) rfl (Fin.ext (dev_r c).2.2.2.2.2.2.2.2.2.2) (off6_r c 31 (by decide)) rfl rfl (Entails.of_eq rfl) ?_
  refine step_await m K 2 (by rfl) (by rfl) (by rfl) (by rfl) ?_
  refine step_owait m K 0 (by rfl) (by rfl) (by rfl) (by rfl) (by rfl) ?_
  refine step_load_a m K 2 (by rfl) (by rfl) (by rfl) ?_
  refine step_load_r m K 2 (by decide) (off11_n c 2 (by decide)) ?_
  refine step_load_o m K 2 (by rfl) (by rfl) (by rfl) (by rfl) fun _ => ?_
  refine step_store m K 2 (by rfl) (by rfl) (by rfl) (by rfl) (by rfl) ?_
  exact h _

theorem part32 {k : (BitVec 32) → Pk F α} (h : ∀ x, St m K c 32 24 5 4 4 3 2 R ⊢ WP c (k x) Q) :
    St m K c 32 24 4 3 3 2 1 R ⊢ WP c (k0_part32 xM h0 yM h1 rM h2 aM h3 oM h4 cc0_scratch3 cc0_scratch4 cc0_scratch5 cc0_scratch6 cc0_scratch7 cc0_scratch8 c v98 v777 >>= k) Q := by
  rw [k0_part32_eq_skeleton]; unfold k0_part32_skel
  simp only [Prog.lift, Prog.bind_op, Prog.bind_ret, Prog.pure_eq_ret]
  refine step_ocopy m K 2 (by rfl) (by rfl) (by rfl) (by rfl) (by rfl) (off12_n c 2 (by decide)) ?_
  refine step_acopy m K 4 (by rfl) (by rfl) (by rfl) (by rfl) (off9_n c 4 (by decide)) ?_
  refine step_await m K 3 (by rfl) (by rfl) (by rfl) (by rfl) ?_
  refine step_owait m K 1 (by rfl) (by rfl) (by rfl) (by rfl) (by rfl) ?_
  refine step_load_a m K 3 (by rfl) (by rfl) (by rfl) ?_
  refine step_load_r m K 3 (by decide) (off13_n c 3 (by decide)) ?_
  refine step_load_o m K 3 (by rfl) (by rfl) (by rfl) (by rfl) fun _ => ?_
  refine step_store m K 3 (by rfl) (by rfl) (by rfl) (by rfl) (by rfl) ?_
  exact h _

theorem part33 {k : (BitVec 32) → Pk F α} (h : ∀ x, St m K c 32 25 6 4 4 4 2 R ⊢ WP c (k x) Q) :
    St m K c 32 24 5 4 4 3 2 R ⊢ WP c (k0_part33 xM h0 yM h1 rM h2 aM h3 oM h4 cc0_scratch3 cc0_scratch4 cc0_scratch5 cc0_scratch6 cc0_scratch7 cc0_scratch8 c v2 v5 v12 v109 >>= k) Q := by
  rw [k0_part33_eq_skeleton]; unfold k0_part33_skel
  simp only [Prog.lift, Prog.bind_op, Prog.bind_ret, Prog.pure_eq_ret]
  refine step_ocopy m K 3 (by rfl) (by rfl) (by rfl) (by rfl) (by rfl) (off14_n c 3 (by decide)) ?_
  refine step_acopy m K 5 (by rfl) (by rfl) (by rfl) (by rfl) (off10_n c 5 (by decide)) ?_
  refine recv_all m K 24 (by decide) rfl (by decide) rfl rfl ?_
  exact h _

theorem part34 {k : (Σ' (v1051 : BitVec 32), BitVec 32) → Pk F α} (h : ∀ x, St m K c 32 28 6 4 4 4 2 R ⊢ WP c (k x) Q) :
    St m K c 32 25 6 4 4 4 2 R ⊢ WP c (k0_part34 xM h0 yM h1 rM h2 aM h3 oM h4 cc0_scratch3 cc0_scratch4 cc0_scratch5 cc0_scratch6 cc0_scratch7 cc0_scratch8 c v2 v5 v12 v109 v1021 >>= k) Q := by
  rw [k0_part34_eq_skeleton]; unfold k0_part34_skel
  simp only [Prog.lift, Prog.bind_op, Prog.bind_ret, Prog.pure_eq_ret]
  refine recv_all m K 25 (by decide) rfl (by decide) rfl rfl ?_
  refine recv_all m K 26 (by decide) rfl (by decide) rfl rfl ?_
  refine recv_all m K 27 (by decide) rfl (by decide) rfl rfl ?_
  exact h _

theorem part35 {k : (BitVec 32) → Pk F α} (h : ∀ x, St m K c 32 28 6 5 5 5 3 R ⊢ WP c (k x) Q) :
    St m K c 32 28 6 4 4 4 2 R ⊢ WP c (k0_part35 xM h0 yM h1 rM h2 aM h3 oM h4 cc0_scratch3 cc0_scratch4 cc0_scratch5 cc0_scratch6 cc0_scratch7 cc0_scratch8 c v942 v1051 c0_i32_880 >>= k) Q := by
  rw [k0_part35_eq_skeleton]; unfold k0_part35_skel
  simp only [Prog.lift, Prog.bind_op, Prog.bind_ret, Prog.pure_eq_ret]
  refine step_await m K 4 (by rfl) (by rfl) (by rfl) (by rfl) ?_
  refine step_owait m K 2 (by rfl) (by rfl) (by rfl) (by rfl) (by rfl) ?_
  refine step_load_a m K 4 (by rfl) (by rfl) (by rfl) ?_
  refine step_load_r m K 4 (by decide) (off11_n c 4 (by decide)) ?_
  refine step_load_o m K 4 (by rfl) (by rfl) (by rfl) (by rfl) fun _ => ?_
  refine step_store m K 4 (by rfl) (by rfl) (by rfl) (by rfl) (by rfl) ?_
  refine step_ocopy m K 4 (by rfl) (by rfl) (by rfl) (by rfl) (by rfl) (off12_n c 4 (by decide)) ?_
  exact h _

theorem part36 {k : (BitVec 32) → Pk F α} (h : ∀ x, St m K c 32 30 7 5 5 5 3 R ⊢ WP c (k x) Q) :
    St m K c 32 28 6 5 5 5 3 R ⊢ WP c (k0_part36 xM h0 yM h1 rM h2 aM h3 oM h4 cc0_scratch3 cc0_scratch4 cc0_scratch5 cc0_scratch6 cc0_scratch7 cc0_scratch8 c v2 v5 v12 v109 >>= k) Q := by
  rw [k0_part36_eq_skeleton]; unfold k0_part36_skel
  simp only [Prog.lift, Prog.bind_op, Prog.bind_ret, Prog.pure_eq_ret]
  refine step_acopy m K 6 (by rfl) (by rfl) (by rfl) (by rfl) (off10_n c 6 (by decide)) ?_
  refine recv_all m K 28 (by decide) rfl (by decide) rfl rfl ?_
  refine recv_all m K 29 (by decide) rfl (by decide) rfl rfl ?_
  exact h _

theorem part37 {k : (BitVec 32) → Pk F α} (h : ∀ x, St m K c 32 32 7 6 5 5 3 R ⊢ WP c (k x) Q) :
    St m K c 32 30 7 5 5 5 3 R ⊢ WP c (k0_part37 xM h0 yM h1 rM h2 aM h3 oM h4 cc0_scratch3 cc0_scratch4 cc0_scratch5 cc0_scratch6 cc0_scratch7 cc0_scratch8 c v2 v5 v12 v109 v1107 >>= k) Q := by
  rw [k0_part37_eq_skeleton]; unfold k0_part37_skel
  simp only [Prog.lift, Prog.bind_op, Prog.bind_ret, Prog.pure_eq_ret]
  refine recv_all m K 30 (by decide) rfl (by decide) rfl rfl ?_
  refine recv_all m K 31 (by decide) rfl (by decide) rfl rfl ?_
  refine step_await m K 5 (by rfl) (by rfl) (by rfl) (by rfl) ?_
  exact h _

theorem part38 {k : PUnit.{1} → Pk F α} (h : ∀ x, St m K c 32 32 8 7 6 6 4 R ⊢ WP c (k x) Q) :
    St m K c 32 32 7 6 5 5 3 R ⊢ WP c (k0_part38 xM h0 yM h1 rM h2 aM h3 oM h4 cc0_scratch3 cc0_scratch4 cc0_scratch5 cc0_scratch6 cc0_scratch7 cc0_scratch8 c v974 >>= k) Q := by
  rw [k0_part38_eq_skeleton]; unfold k0_part38_skel
  simp only [Prog.lift, Prog.bind_op, Prog.bind_ret, Prog.pure_eq_ret]
  refine step_owait m K 3 (by rfl) (by rfl) (by rfl) (by rfl) (by rfl) ?_
  refine step_load_a m K 5 (by rfl) (by rfl) (by rfl) ?_
  refine step_load_r m K 5 (by decide) (off13_n c 5 (by decide)) ?_
  refine step_load_o m K 5 (by rfl) (by rfl) (by rfl) (by rfl) fun _ => ?_
  refine step_store m K 5 (by rfl) (by rfl) (by rfl) (by rfl) (by rfl) ?_
  refine step_ocopy m K 5 (by rfl) (by rfl) (by rfl) (by rfl) (by rfl) (off14_n c 5 (by decide)) ?_
  refine step_acopy m K 7 (by rfl) (by rfl) (by rfl) (by rfl) (off10_n c 7 (by decide)) ?_
  refine step_await m K 6 (by rfl) (by rfl) (by rfl) (by rfl) ?_
  exact h _

theorem part39 {k : PUnit.{1} → Pk F α} (h : ∀ x, St m K c 32 32 8 8 7 7 6 R ⊢ WP c (k x) Q) :
    St m K c 32 32 8 7 6 6 4 R ⊢ WP c (k0_part39 xM h0 yM h1 rM h2 aM h3 oM h4 cc0_scratch3 cc0_scratch4 cc0_scratch5 cc0_scratch6 cc0_scratch7 cc0_scratch8 c v1052 >>= k) Q := by
  rw [k0_part39_eq_skeleton]; unfold k0_part39_skel
  simp only [Prog.lift, Prog.bind_op, Prog.bind_ret, Prog.pure_eq_ret]
  refine step_owait m K 4 (by rfl) (by rfl) (by rfl) (by rfl) (by rfl) ?_
  refine step_load_a m K 6 (by rfl) (by rfl) (by rfl) ?_
  refine step_load_r m K 6 (by decide) (off13_n c 6 (by decide)) ?_
  refine step_load_o m K 6 (by rfl) (by rfl) (by rfl) (by rfl) fun _ => ?_
  refine step_store m K 6 (by rfl) (by rfl) (by rfl) (by rfl) (by rfl) ?_
  refine step_ocopy m K 6 (by rfl) (by rfl) (by rfl) (by rfl) (by rfl) (off14_n c 6 (by decide)) ?_
  refine step_await m K 7 (by rfl) (by rfl) (by rfl) (by rfl) ?_
  refine step_owait m K 5 (by rfl) (by rfl) (by rfl) (by rfl) (by rfl) ?_
  exact h _

theorem part40 {k : PUnit.{1} → Pk F α} (h : ∀ x, StW m K c 2 6 (doneP m c R) ⊢ WP c (k x) Q) :
    St m K c 32 32 8 8 7 7 6 R ⊢ WP c (k0_part40 xM h0 yM h1 rM h2 aM h3 oM h4 cc0_scratch3 cc0_scratch4 cc0_scratch5 cc0_scratch6 cc0_scratch7 cc0_scratch8 c v1131 >>= k) Q := by
  rw [k0_part40_eq_skeleton]; unfold k0_part40_skel
  simp only [Prog.lift, Prog.bind_op, Prog.bind_ret, Prog.pure_eq_ret]
  refine step_load_a m K 7 (by rfl) (by rfl) (by rfl) ?_
  refine step_load_r m K 7 (by decide) (off13_n c 7 (by decide)) ?_
  refine step_load_o m K 7 (by rfl) (by rfl) (by rfl) (by rfl) fun _ => ?_
  refine step_store m K 7 (by rfl) (by rfl) (by rfl) (by rfl) (by rfl) ?_
  refine step_ocopy m K 7 (by rfl) (by rfl) (by rfl) (by rfl) (by rfl) (off14_n c 7 (by decide)) ?_
  refine to_w m K ?_
  refine step_swait m K 0 rfl rfl (by rfl) ?_
  refine step_swait m K 1 rfl rfl (by rfl) ?_
  exact h _

end Cert.KProof
-- ==== Proof.K.Parts4.lean ====
/-
Parts 41 to 46 of the kernel: the waits for the own transfers.
-/
module

public import proofs.«01_k».proof.Proof.K.Parts3

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (K : Dev nD × Option (DmaSem sig) → ℕ)
variable {c : Dev nD} {α : Type} {Q : α → sProp (MT nD τ sig Unit (Elt F) ℕ UU ℕ)} {R : sProp (MT nD τ sig Unit (Elt F) ℕ UU ℕ)}
variable {h0 : xM.IsWhole} {h1 : yM.IsWhole} {h2 : rM.IsWhole} {h3 : aM.IsWhole} {h4 : oM.IsWhole}

theorem part41 {k : PUnit.{1} → Pk F α} (h : ∀ x, StW m K c 7 6 (doneP m c R) ⊢ WP c (k x) Q) :
    StW m K c 2 6 (doneP m c R) ⊢ WP c (k0_part41 xM h0 yM h1 rM h2 aM h3 oM h4 cc0_scratch3 cc0_scratch4 cc0_scratch5 cc0_scratch6 cc0_scratch7 cc0_scratch8 c >>= k) Q := by
  rw [k0_part41_eq_skeleton]; unfold k0_part41_skel
  simp only [Prog.lift, Prog.bind_op, Prog.bind_ret, Prog.pure_eq_ret]
  refine step_swait m K 2 rfl rfl (by rfl) ?_
  refine step_swait m K 3 rfl rfl (by rfl) ?_
  refine step_swait m K 4 rfl rfl (by rfl) ?_
  refine step_swait m K 5 rfl rfl (by rfl) ?_
  refine step_swait m K 6 rfl rfl (by rfl) ?_
  exact h _

theorem part42 {k : PUnit.{1} → Pk F α} (h : ∀ x, StW m K c 12 6 (doneP m c R) ⊢ WP c (k x) Q) :
    StW m K c 7 6 (doneP m c R) ⊢ WP c (k0_part42 xM h0 yM h1 rM h2 aM h3 oM h4 cc0_scratch3 cc0_scratch4 cc0_scratch5 cc0_scratch6 cc0_scratch7 cc0_scratch8 c >>= k) Q := by
  rw [k0_part42_eq_skeleton]; unfold k0_part42_skel
  simp only [Prog.lift, Prog.bind_op, Prog.bind_ret, Prog.pure_eq_ret]
  refine step_swait m K 7 rfl rfl (by rfl) ?_
  refine step_swait m K 8 rfl rfl (by rfl) ?_
  refine step_swait m K 9 rfl rfl (by rfl) ?_
  refine step_swait m K 10 rfl rfl (by rfl) ?_
  refine step_swait m K 11 rfl rfl (by rfl) ?_
  exact h _

theorem part43 {k : PUnit.{1} → Pk F α} (h : ∀ x, StW m K c 17 6 (doneP m c R) ⊢ WP c (k x) Q) :
    StW m K c 12 6 (doneP m c R) ⊢ WP c (k0_part43 xM h0 yM h1 rM h2 aM h3 oM h4 cc0_scratch3 cc0_scratch4 cc0_scratch5 cc0_scratch6 cc0_scratch7 cc0_scratch8 c >>= k) Q := by
  rw [k0_part43_eq_skeleton]; unfold k0_part43_skel
  simp only [Prog.lift, Prog.bind_op, Prog.bind_ret, Prog.pure_eq_ret]
  refine step_swait m K 12 rfl rfl (by rfl) ?_
  refine step_swait m K 13 rfl rfl (by rfl) ?_
  refine step_swait m K 14 rfl rfl (by rfl) ?_
  refine step_swait m K 15 rfl rfl (by rfl) ?_
  refine step_swait m K 16 rfl rfl (by rfl) ?_
  exact h _

theorem part44 {k : PUnit.{1} → Pk F α} (h : ∀ x, StW m K c 22 6 (doneP m c R) ⊢ WP c (k x) Q) :
    StW m K c 17 6 (doneP m c R) ⊢ WP c (k0_part44 xM h0 yM h1 rM h2 aM h3 oM h4 cc0_scratch3 cc0_scratch4 cc0_scratch5 cc0_scratch6 cc0_scratch7 cc0_scratch8 c >>= k) Q := by
  rw [k0_part44_eq_skeleton]; unfold k0_part44_skel
  simp only [Prog.lift, Prog.bind_op, Prog.bind_ret, Prog.pure_eq_ret]
  refine step_swait m K 17 rfl rfl (by rfl) ?_
  refine step_swait m K 18 rfl rfl (by rfl) ?_
  refine step_swait m K 19 rfl rfl (by rfl) ?_
  refine step_swait m K 20 rfl rfl (by rfl) ?_
  refine step_swait m K 21 rfl rfl (by rfl) ?_
  exact h _

theorem part45 {k : PUnit.{1} → Pk F α} (h : ∀ x, StW m K c 26 6 (doneP m c R) ⊢ WP c (k x) Q) :
    StW m K c 22 6 (doneP m c R) ⊢ WP c (k0_part45 xM h0 yM h1 rM h2 aM h3 oM h4 cc0_scratch3 cc0_scratch4 cc0_scratch5 cc0_scratch6 cc0_scratch7 cc0_scratch8 c >>= k) Q := by
  rw [k0_part45_eq_skeleton]; unfold k0_part45_skel
  simp only [Prog.lift, Prog.bind_op, Prog.bind_ret, Prog.pure_eq_ret]
  refine step_swait m K 22 rfl rfl (by rfl) ?_
  refine step_swait m K 23 rfl rfl (by rfl) ?_
  refine step_swait m K 24 rfl rfl (by rfl) ?_
  refine step_swait m K 25 rfl rfl (by rfl) ?_
  exact h _

theorem part46 {k : PUnit.{1} → Pk F α} (h : ∀ x, StW m K c 31 6 (doneP m c R) ⊢ WP c (k x) Q) :
    StW m K c 26 6 (doneP m c R) ⊢ WP c (k0_part46 xM h0 yM h1 rM h2 aM h3 oM h4 cc0_scratch3 cc0_scratch4 cc0_scratch5 cc0_scratch6 cc0_scratch7 cc0_scratch8 c >>= k) Q := by
  rw [k0_part46_eq_skeleton]; unfold k0_part46_skel
  simp only [Prog.lift, Prog.bind_op, Prog.bind_ret, Prog.pure_eq_ret]
  refine step_swait m K 26 rfl rfl (by rfl) ?_
  refine step_swait m K 27 rfl rfl (by rfl) ?_
  refine step_swait m K 28 rfl rfl (by rfl) ?_
  refine step_swait m K 29 rfl rfl (by rfl) ?_
  refine step_swait m K 30 rfl rfl (by rfl) ?_
  exact h _

end Cert.KProof
-- ==== Proof.K.Body.lean ====
/-
The kernel's body: the barrier, and all parts in order.
-/
module

public import proofs.«01_k».proof.Proof.K.Bar
public import proofs.«01_k».proof.Proof.K.Parts2
public import proofs.«01_k».proof.Proof.K.Parts4

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (K : Dev nD × Option (DmaSem sig) → ℕ)
variable {c : Dev nD} {α : Type} {Q : α → sProp (MT nD τ sig Unit (Elt F) ℕ UU ℕ)} {R : sProp (MT nD τ sig Unit (Elt F) ℕ UU ℕ)}
variable {Q' : PUnit.{1} → sProp (MT nD τ sig Unit (Elt F) ℕ UU ℕ)}
variable {h0 : xM.IsWhole} {h1 : yM.IsWhole} {h2 : rM.IsWhole} {h3 : aM.IsWhole} {h4 : oM.IsWhole}

/-- Parts 1 to 3 compute words only; the first asks which device this is. -/
theorem part1 {S : sProp (MT nD τ sig Unit (Elt F) ℕ UU ℕ)} {k : _ → Pk F α}
    (h : ∀ v2 v5 v8 v11 v12 v23 v24 v35 v37, S ⊢ WP c (k ⟨c, v2, v5, v8, v11, v12, v23, v24, v35, v37⟩) Q) :
    S ⊢ WP c (k0_part1 xM h0 yM h1 rM h2 aM h3 oM h4 cc0_scratch3 cc0_scratch4 cc0_scratch5 cc0_scratch6 cc0_scratch7 cc0_scratch8 >>= k) Q := by
  rw [k0_part1_eq_skeleton]; unfold k0_part1_skel
  simp only [Prog.lift, Prog.bind_op, Prog.bind_ret, Prog.pure_eq_ret]
  unfold WP
  rw [wp_deviceId]
  exact h _ _ _ _ _ _ _ _ _

theorem part2 {S : sProp (MT nD τ sig Unit (Elt F) ℕ UU ℕ)} {v11 v23 v24 : BitVec 32} {v35 v37 : BitVec 1} {k : _ → Pk F α} (h : ∀ x, S ⊢ WP c (k x) Q) :
    S ⊢ WP c (k0_part2 xM h0 yM h1 rM h2 aM h3 oM h4 cc0_scratch3 cc0_scratch4 cc0_scratch5 cc0_scratch6 cc0_scratch7 cc0_scratch8 v11 v23 v24 v35 v37 >>= k) Q := by
  rw [k0_part2_eq_skeleton]; unfold k0_part2_skel
  simp only [Prog.lift, Prog.bind_op, Prog.bind_ret, Prog.pure_eq_ret]
  exact h _

theorem part3 {S : sProp (MT nD τ sig Unit (Elt F) ℕ UU ℕ)} {v2 v5 v11 v77 : BitVec 32} {k : _ → Pk F α}
    (h : ∀ v87 v98 v109 v112 v113, S ⊢ WP c (k ⟨v87, v98, v109, SemArray.scalar (sig.barrier 0 rfl), v112, v113⟩) Q) :
    S ⊢ WP c (k0_part3 xM h0 yM h1 rM h2 aM h3 oM h4 cc0_scratch3 cc0_scratch4 cc0_scratch5 cc0_scratch6 cc0_scratch7 cc0_scratch8 v2 v5 v11 v77 >>= k) Q := by
  rw [k0_part3_eq_skeleton]; unfold k0_part3_skel
  simp only [Prog.lift, Prog.bind_op, Prog.bind_ret, Prog.pure_eq_ret]
  exact h _ _ _ _ _

/-- Part 4: the barrier. -/
theorem part4 {v2 v5 v8 v11 v12 v40 v44 v72 v76 v112 v113 : BitVec 32} {k : PUnit.{1} → Pk F α}
    (h : ∀ x, St m K c 0 0 0 0 0 0 0 iprop(semVal (barCell c) 0 ∗ R) ⊢ WP c (k x) Q) :
    StB m K c R ⊢ WP c (k0_part4 xM h0 yM h1 rM h2 aM h3 oM h4 cc0_scratch3 cc0_scratch4 cc0_scratch5 cc0_scratch6 cc0_scratch7 cc0_scratch8 c v2 v5 v8 v11 v12 v40 v44 v72 v76
      (SemArray.scalar (sig.barrier 0 rfl)) v112 v113 >>= k) Q := by
  rw [k0_part4_eq_skeleton]; unfold k0_part4_skel
  simp only [semSignalWord, semWaitWord, Prog.lift, Prog.bind_op, Prog.bind_ret, Prog.pure_eq_ret]
  refine step_bar m K (Fin.ext (dev_sig c).1) (Fin.ext (dev_sig c).2.1) (Fin.ext (dev_sig c).2.2) rfl rfl rfl rfl rfl rfl rfl rfl ?_
  exact h _

/-- All parts, from the barrier to the last wait but one. -/
theorem part47 {Q : Dev nD → sProp (MT nD τ sig Unit (Elt F) ℕ UU ℕ)} (h : StW m K c 32 7 (doneP m c iprop(semVal (barCell c) 0 ∗ R)) ⊢ Q c) :
    StB m K c R ⊢ WP c (k0_part47 xM h0 yM h1 rM h2 aM h3 oM h4 cc0_scratch3 cc0_scratch4 cc0_scratch5 cc0_scratch6 cc0_scratch7 cc0_scratch8) Q := by
  rw [k0_part47_eq_skeleton]; unfold k0_part47_skel
  refine part1 ?_
  intro v2 v5 v8 v11 v12 v23 v24 v35 v37
  refine part2 ?_
  rintro ⟨v40, v44, v72, v76, v77⟩
  refine part3 ?_
  intro v87 v98 v109 v112 v113
  refine part4 m K fun _ => ?_
  refine part5 m K fun _ => ?_
  refine part6 m K fun v207 => ?_
  refine part7 m K fun _ => ?_
  refine part8 m K fun c4_i32_177 => ?_
  refine part9 m K ?_
  rintro ⟨v300, v301⟩
  refine part10 m K fun _ => ?_
  refine part11 m K fun c4_i32_255 => ?_
  refine part12 m K fun _ => ?_
  refine part13 m K fun _ => ?_
  refine part14 m K fun v454 => ?_
  refine part15 m K fun _ => ?_
  refine part16 m K ?_
  rintro ⟨v516, c1_i32_389⟩
  refine part17 m K fun _ => ?_
  refine part18 m K fun c4_i32_443 => ?_
  refine part19 m K ?_
  rintro ⟨v608, v609⟩
  refine part20 m K ?_
  rintro ⟨v618, c4_i32_497⟩
  refine part21 m K fun _ => ?_
  refine part22 m K fun v699 => ?_
  refine part23 m K fun v727 => ?_
  refine part24 m K ?_
  intro v750
  refine part25 m K ?_
  intro v777
  refine part26 m K fun _ => ?_
  refine part27 m K ?_
  rintro ⟨v844, c2_i32_689⟩
  refine part28 m K fun _ => ?_
  refine part29 m K fun _ => ?_
  refine part30 m K ?_
  rintro ⟨v932, c1_i32_774⟩
  refine part31 m K fun v942 => ?_
  refine part32 m K fun v974 => ?_
  refine part33 m K fun v1021 => ?_
  refine part34 m K ?_
  rintro ⟨v1051, c0_i32_880⟩
  refine part35 m K fun v1052 => ?_
  refine part36 m K fun v1107 => ?_
  refine part37 m K fun v1131 => ?_
  refine part38 m K fun _ => ?_
  refine part39 m K fun _ => ?_
  refine part40 m K fun _ => ?_
  refine part41 m K fun _ => ?_
  refine part42 m K fun _ => ?_
  refine part43 m K fun _ => ?_
  refine part44 m K fun _ => ?_
  refine part45 m K fun _ => ?_
  refine part46 m K fun _ => ?_
  simp only [Prog.lift, Prog.bind_op, Prog.bind_ret, Prog.pure_eq_ret]
  refine step_swait m K 31 rfl rfl (by rfl) ?_
  refine step_owaitW m K 6 rfl rfl (by rfl) (by rfl) ?_
  unfold WP
  rw [wp_ret]
  exact BIBase.Entails.trans h fupd_intro

/-- The whole kernel. -/
theorem kernel_body (h : StW m K c 32 8 (doneP m c iprop(semVal (barCell c) 0 ∗ R)) ⊢ iprop(|={Set.univ}=> Q' ⟨⟩)) :
    StB m K c R ⊢ WP c (cc0_body xM h0 yM h1 rM h2 aM h3 oM h4 cc0_scratch3 cc0_scratch4 cc0_scratch5 cc0_scratch6 cc0_scratch7 cc0_scratch8) Q' := by
  rw [cc0_body_eq_skeleton]; unfold cc0_body_skel
  unfold WP
  rw [wp_bind]
  refine part47 m K ?_
  simp only [Prog.lift, Prog.bind_op, Prog.bind_ret, Prog.pure_eq_ret]
  refine step_owaitW m K 7 rfl rfl (by rfl) (by rfl) ?_
  unfold WP
  rw [wp_ret]
  exact h

end Cert.KProof
-- ==== Proof.K.Whole.lean ====
/-
Buffers and semaphores of one device: each whole one as the family of its parts.
-/
module

public import proofs.«01_k».proof.Proof.K.State

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ

/-! ## The semaphores -/

/-- The six semaphores no transfer uses. -/
def uSem (j : Fin 6) : DmaSem sig := (![58, 61, 64, 66, 69, 72] : Fin 6 → Fin 74) j
theorem nR_u : ∀ j, nR (.dma (uSem j)) = 0 := by decide +kernel

/-- The semaphores by use: copies of the argument, copies of the result, senders, receivers, unused. -/
abbrev SIx : Type := Fin 2 ⊕ Fin 2 ⊕ Fin 32 ⊕ Fin 32 ⊕ Fin 6
def semOf : SIx → DmaSem sig := Sum.elim aSem (Sum.elim oSem (Sum.elim sSem (Sum.elim rSem uSem)))
theorem semOf_inj : Function.Injective semOf := by decide +kernel
def semEquiv : SIx ≃ DmaSem sig := Equiv.ofBijective semOf ((Fintype.bijective_iff_injective_and_card _).mpr ⟨semOf_inj, by decide⟩)

omit [FloatOps F] in
/-- A family over all semaphores, split by use. -/
theorem sems_split (Φ : DmaSem sig → sProp 𝕄) : bigSep Finset.univ Φ
    = iprop((bigSep Finset.univ fun i => Φ (aSem i)) ∗ (bigSep Finset.univ fun i => Φ (oSem i)) ∗ (bigSep Finset.univ fun k => Φ (sSem k))
      ∗ (bigSep Finset.univ fun k => Φ (rSem k)) ∗ bigSep Finset.univ fun j => Φ (uSem j)) := by
  rw [bigSep_univ_equiv semEquiv, bigSep_univ_sum, bigSep_univ_sum, bigSep_univ_sum, bigSep_univ_sum]; rfl

omit [FloatOps F] in
/-- A family over the transfers, split by the piece a transfer reads. -/
theorem bigSep_src (Φ : Fin 32 → sProp 𝕄) : bigSep Finset.univ (fun k' : Fin 32 => bigSep (Finset.univ.filter fun k => srcK k = k') Φ) = bigSep Finset.univ Φ := by
  have h1 : ∀ k' : Fin 32, bigSep (Finset.univ.filter fun k => srcK k = k') Φ = bigSep Finset.univ fun k => if srcK k = k' then Φ k else iprop(emp) :=
    fun k' => bigSep_filter _ _ _
  rw [bigSep_congr fun k' _ => h1 k', bigSep_univ_comm (fun (k' k : Fin 32) => if srcK k = k' then Φ k else iprop(emp))]
  refine bigSep_congr fun k _ => ?_
  refine (bigSep_filter Finset.univ (fun k' => srcK k = k') (fun _ => Φ k)).symm.trans ?_
  rw [show (Finset.univ.filter fun k' => srcK k = k') = {srcK k} by ext k'; simp [eq_comm], bigSep_singleton]

/-! ## The buffers -/

section Buffers

omit [FloatOps F] in
/-- A whole buffer is its parts. -/
theorem whole_parts {T : Type} [Fintype T] [DecidableEq T] {ℓ : Loc nD τ sig} (P : T → Finset (Idx ℓ)) (q : PosShare TreeShare) (f : Buf (Elt F) ℓ)
    (hd : ∀ t t', t ≠ t' → Disjoint (P t) (P t')) (hc : ∀ x, ∃ t, x ∈ P t) : (ℓ ↦{q} f : sProp 𝕄) = bigSep Finset.univ fun t => ℓ ↦[P t]{q} f := by
  have hb := pointsTo_biUnion (ℓ := ℓ) (q := q) (f := f) (Ix := Unit) (Name := ℕ) (U := UU) (Lvl := ℕ) Finset.univ P (fun t _ t' _ h => hd t t' h)
  refine Eq.trans (congrArg (fun S => (ℓ ↦[S]{q} f : sProp 𝕄)) (Finset.ext fun x => ?_)) hb
  rw [Finset.mem_biUnion]
  obtain ⟨t, ht⟩ := hc x
  exact ⟨fun _ => ⟨t, Finset.mem_univ t, ht⟩, fun _ => Finset.mem_univ x⟩

omit [FloatOps F] in
/-- Parts at any contents make a whole buffer at some contents. -/
theorem parts_whole {T : Type} [Fintype T] [DecidableEq T] {ℓ : Loc nD τ sig} (P : T → Finset (Idx ℓ)) (f₀ : Buf (Elt F) ℓ)
    (hd : ∀ t t', t ≠ t' → Disjoint (P t) (P t')) (hc : ∀ x, ∃ t, x ∈ P t) :
    (bigSep Finset.univ fun t => iprop(∃ f, ℓ ↦[P t]{fullShare} f)) ⊢ (iprop(∃ f, ℓ ↦{fullShare} f) : sProp 𝕄) := by
  haveI : Nonempty (Buf (Elt F) ℓ) := ⟨f₀⟩
  have h1 := BI.bigSep_exists_pi (M := 𝕄) (Y := fun _ : T => Buf (Elt F) ℓ) Finset.univ (fun (t : T) (f : Buf (Elt F) ℓ) => (ℓ ↦[P t]{fullShare} f : sProp 𝕄))
  refine BIBase.Entails.trans h1 ?_
  iintro ⟨%fs, H⟩
  have h2 := pointsTo_biUnion_join (ℓ := ℓ) (q := fullShare) (Ix := Unit) (Name := ℕ) (U := UU) (Lvl := ℕ) Finset.univ P fs f₀ (fun t _ t' _ h => hd t t' h)
  ihave H2 := h2 $$ H
  icases H2 with ⟨%g, -, H2⟩
  iexists g
  have e : Finset.univ.biUnion P = Finset.univ := Finset.ext fun x => by
    rw [Finset.mem_biUnion]
    obtain ⟨t, ht⟩ := hc x
    exact ⟨fun _ => Finset.mem_univ x, fun _ => ⟨t, Finset.mem_univ t, ht⟩⟩
  have e2 : (ℓ ↦[Finset.univ.biUnion P]{fullShare} g : sProp 𝕄) ⊢ (ℓ ↦{fullShare} g) := by rw [e]
  iapply e2 $$ H2

variable (c : Dev nD)

theorem piece_disj (k k' : Fin 32) (h : k ≠ k') : Disjoint (rows2 (row c k) 256) (rows2 (row c k') 256) := by
  rw [Finset.disjoint_left]
  intro x h1 h2
  rw [mem_rows2] at h1 h2
  refine h (piece_inj c k k' ?_ ?_)
  all_goals
    have hs := sK_lt k
    have hs' := sK_lt k'
    have hr : row c k = (fp c + tR k) % 4 * 2048 + 256 * sK k := rfl
    have hr' : row c k' = (fp c + tR k') % 4 * 2048 + 256 * sK k' := rfl
    generalize (fp c + tR k) % 4 = q at *
    generalize (fp c + tR k') % 4 = q' at *
    omega
theorem piece_cover (x : S8192x1024.Idx) : ∃ k, x ∈ rows2 (row c k) 256 := by
  have hx : (x 0).val < 8192 := (x 0).isLt
  obtain ⟨k, h1, h2⟩ := piece_at c ((x 0).val / 2048) (by omega) ((x 0).val % 2048 / 256) (by omega)
  refine ⟨k, mem_rows2.mpr ?_⟩
  have hr : row c k = (fp c + tR k) % 4 * 2048 + 256 * sK k := rfl
  rw [h1, h2] at hr
  omega
theorem out_disj (k k' : Fin 8) (h : k ≠ k') : Disjoint (rows2 (rowC c k) 1024) (rows2 (rowC c k') 1024) := by
  rw [Finset.disjoint_left]
  intro x h1 h2
  rw [mem_rows2] at h1 h2
  refine h (chunk_inj c k k' ?_ ?_)
  all_goals
    have hs := jC_lt k
    have hs' := jC_lt k'
    have hr : rowC c k = (fp c + tC k) % 4 * 2048 + 1024 * jC k := rfl
    have hr' : rowC c k' = (fp c + tC k') % 4 * 2048 + 1024 * jC k' := rfl
    generalize (fp c + tC k) % 4 = q at *
    generalize (fp c + tC k') % 4 = q' at *
    omega
theorem out_cover (x : S8192x1024.Idx) : ∃ n, x ∈ rows2 (rowC c n) 1024 := by
  have hx : (x 0).val < 8192 := (x 0).isLt
  obtain ⟨k, h1, h2⟩ := chunk_at c ((x 0).val / 2048) (by omega) ((x 0).val % 2048 / 1024) (by omega)
  refine ⟨k, mem_rows2.mpr ?_⟩
  have hr : rowC c k = (fp c + tC k) % 4 * 2048 + 1024 * jC k := rfl
  rw [h1, h2] at hr
  omega
theorem slot_disj (i j : Fin 2) (h : i ≠ j) : Disjoint (slot3 i.val) (slot3 j.val) := by
  rw [Finset.disjoint_left]
  intro x h1 h2
  rw [mem_slot3] at h1 h2
  exact h (Fin.ext (h1.symm.trans h2))
theorem slot_cover (x : S2x1024x1024.Idx) : ∃ i : Fin 2, x ∈ slot3 i.val := ⟨x 0, mem_slot3.mpr rfl⟩

omit [FloatOps F] in
/-- The landing buffer is its pieces. -/
theorem landing_parts (q : PosShare TreeShare) (f : S8192x1024.Idx → Elt F .f32) :
    ((c : Thread nD τ).loc cc0_scratch0 ↦{q} f : sProp 𝕄) = bigSep Finset.univ fun k => pieceP c k q f :=
  whole_parts (ℓ := (c : Thread nD τ).loc cc0_scratch0) (fun k : Fin 32 => rows2 (row c k) 256) q f (piece_disj c) (piece_cover c)
omit [FloatOps F] in
/-- The result is its chunks. -/
theorem result_parts (f : S8192x1024.Idx → Elt F .f32) :
    ((c : Thread nD τ).loc main_v1 ↦{fullShare} f : sProp 𝕄) = bigSep Finset.univ fun n => outP c n f :=
  whole_parts (ℓ := (c : Thread nD τ).loc main_v1) (fun n : Fin 8 => rows2 (rowC c n) 1024) fullShare f (out_disj c) (out_cover c)
omit [FloatOps F] in
/-- The staging buffers are their slots. -/
theorem aslots_parts (f : S2x1024x1024.Idx → Elt F .f32) :
    ((c : Thread nD τ).loc cc0_scratch1 ↦{fullShare} f : sProp 𝕄) = bigSep Finset.univ fun i => aSlot c i f :=
  whole_parts (ℓ := (c : Thread nD τ).loc cc0_scratch1) (fun i : Fin 2 => slot3 i.val) fullShare f slot_disj slot_cover
omit [FloatOps F] in
theorem oslots_parts (f : S2x1024x1024.Idx → Elt F .f32) :
    ((c : Thread nD τ).loc cc0_scratch2 ↦{fullShare} f : sProp 𝕄) = bigSep Finset.univ fun i => oSlot c i f :=
  whole_parts (ℓ := (c : Thread nD τ).loc cc0_scratch2) (fun i : Fin 2 => slot3 i.val) fullShare f slot_disj slot_cover
omit [FloatOps F] in
theorem aslots_join (f₀ : S2x1024x1024.Idx → Elt F .f32) :
    (bigSep Finset.univ fun i => iprop(∃ f, aSlot (F := F) c i f)) ⊢ (iprop(∃ f : S2x1024x1024.Idx → Elt F .f32, (c : Thread nD τ).loc cc0_scratch1 ↦{fullShare} f) : sProp 𝕄) :=
  parts_whole (ℓ := (c : Thread nD τ).loc cc0_scratch1) (fun i : Fin 2 => slot3 i.val) f₀ slot_disj slot_cover
omit [FloatOps F] in
theorem oslots_join (f₀ : S2x1024x1024.Idx → Elt F .f32) :
    (bigSep Finset.univ fun i => iprop(∃ f, oSlot (F := F) c i f)) ⊢ (iprop(∃ f : S2x1024x1024.Idx → Elt F .f32, (c : Thread nD τ).loc cc0_scratch2 ↦{fullShare} f) : sProp 𝕄) :=
  parts_whole (ℓ := (c : Thread nD τ).loc cc0_scratch2) (fun i : Fin 2 => slot3 i.val) f₀ slot_disj slot_cover

end Buffers

end Cert.KProof
-- ==== Proof.K.Finish.lean ====
/-
The end of the kernel on one device: the lent rows come back, the buffers are whole again, the semaphores are at zero.
-/
module

public import proofs.«01_k».proof.Proof.K.Body
public import proofs.«01_k».proof.Proof.K.Whole

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (K : Dev nD × Option (DmaSem sig) → ℕ)
variable {c : Dev nD}

theorem lent_two : ∀ k : Fin 32, k.val < 8 → ∃ a b : Fin 32, a ≠ b ∧ srcK a = k ∧ srcK b = k ∧ 11 ≤ a.val ∧ 11 ≤ b.val ∧ a.val < 27 ∧ b.val < 27
    ∧ a.val % 2 = 1 ∧ b.val % 2 = 0 := by decide +kernel
theorem lent_one : ∀ k : Fin 32, lent k → ¬ k.val < 8 → ∃ a : Fin 32, srcK a = k ∧ 27 ≤ a.val := by decide +kernel

/-- What the transfers that read piece `k` hand back is the share of it that was lent. -/
theorem lend_back (k : Fin 32) : bigSep (Finset.univ.filter fun j => srcK j = k) (sPay m c)
    ⊢ (if lent k then pieceP c k qR (Rf m c) else iprop(emp) : sProp 𝕄) := by
  by_cases hk : lent k
  · rw [if_pos hk]
    by_cases h8 : k.val < 8
    · obtain ⟨a, b, hab, ha, hb, ha1, hb1, ha2, hb2, ha3, hb3⟩ := lent_two k h8
      have hsub : ({a, b} : Finset (Fin 32)) ⊆ Finset.univ.filter fun j => srcK j = k := by
        intro x hx
        rcases Finset.mem_insert.mp hx with rfl | hx
        · exact Finset.mem_filter.mpr ⟨Finset.mem_univ _, ha⟩
        · rw [Finset.mem_singleton.mp hx]; exact Finset.mem_filter.mpr ⟨Finset.mem_univ _, hb⟩
      have ea : sPay m c a = pieceP c k qR.left (Rf m c) := by
        unfold sPay qsh
        rw [if_neg (by omega), ha, if_pos ha2, if_pos ha3]
      have eb : sPay m c b = pieceP c k qR.right (Rf m c) := by
        unfold sPay qsh
        rw [if_neg (by omega), hb, if_pos hb2, if_neg (by omega)]
      have e : bigSep ({a, b} : Finset (Fin 32)) (sPay m c) = iprop(pieceP c k qR.left (Rf m c) ∗ pieceP c k qR.right (Rf m c)) := by
        rw [bigSep_insert (by rwa [Finset.mem_singleton]), bigSep_singleton, ea, eb]; rfl
      refine BIBase.Entails.trans (bigSep_subset hsub) ?_
      rw [e]
      exact (piece_halves k qR (Rf m c)).2
    · obtain ⟨a, ha, ha1⟩ := lent_one k hk h8
      have e : sPay m c a = pieceP c k qR (Rf m c) := by
        unfold sPay qsh
        rw [if_neg (by omega), ha, if_neg (by omega)]
      rw [← e]
      have hm : a ∈ Finset.univ.filter fun j => srcK j = k := Finset.mem_filter.mpr ⟨Finset.mem_univ a, ha⟩
      exact bigSep_elim hm
  · rw [if_neg hk]
    iintro -
    iempintro

/-- The landing buffer, whole. -/
theorem landing_whole : iprop((bigSep Finset.univ fun p => heldP m c (rOrd p)) ∗ bigSep Finset.univ fun p => sPay m c (wOrd p))
    ⊢ iprop(((c : Thread nD τ).loc cc0_scratch0 ↦{fullShare} Rf m c) ∗ bigSep Finset.univ fun k => semVal (recvCell c k) 0 : sProp 𝕄) := by
  have e1 : (bigSep Finset.univ fun p => heldP m c (rOrd p)) = bigSep Finset.univ (heldP m c) := (bigSep_univ_equiv rOrdE (heldP m c)).symm
  have e2 : (bigSep Finset.univ fun p => sPay m c (wOrd p)) = bigSep Finset.univ (sPay m c) := (bigSep_univ_equiv wOrdE (sPay m c)).symm
  have e3 : bigSep Finset.univ (sPay m c) ⊢ bigSep Finset.univ fun k : Fin 32 => (if lent k then pieceP c k qR (Rf m c) else iprop(emp) : sProp 𝕄) := by
    rw [← bigSep_src (sPay m c)]
    exact bigSep_mono fun k _ => lend_back m k
  have e4 : iprop(bigSep Finset.univ (heldP m c) ∗ bigSep Finset.univ fun k : Fin 32 => (if lent k then pieceP c k qR (Rf m c) else iprop(emp) : sProp 𝕄))
      = bigSep Finset.univ fun k : Fin 32 => iprop(heldP m c k ∗ if lent k then pieceP c k qR (Rf m c) else iprop(emp)) := (bigSep_sep' _ _ _).symm
  have e5 : ∀ k : Fin 32, iprop(heldP m c k ∗ if lent k then pieceP c k qR (Rf m c) else iprop(emp)) ⊢ iprop(pieceP c k fullShare (Rf m c) ∗ semVal (recvCell c k) 0 : sProp 𝕄) := by
    intro k
    unfold heldP
    by_cases hk : lent k
    · rw [if_pos hk, if_pos hk]
      iintro ⟨⟨HL, -, Hs⟩, HR⟩
      isplitr [Hs]
      · iapply (piece_halves k fullShare (Rf m c)).2
        isplitl [HL] <;> iassumption
      iexact Hs
    · rw [if_neg hk, if_neg hk]
      iintro ⟨⟨HL, HR, Hs⟩, -⟩
      isplitr [Hs]
      · iapply (piece_halves k fullShare (Rf m c)).2
        isplitl [HL] <;> iassumption
      iexact Hs
  have e6 : (bigSep Finset.univ fun k : Fin 32 => iprop(pieceP c k fullShare (Rf m c) ∗ semVal (recvCell c k) 0 : sProp 𝕄))
      = iprop(((c : Thread nD τ).loc cc0_scratch0 ↦{fullShare} Rf m c) ∗ bigSep Finset.univ fun k => semVal (recvCell c k) 0) := by
    rw [landing_parts c]; exact bigSep_sep' _ _ _
  rw [e1, e2]
  refine BIBase.Entails.trans (sep_mono_right e3) ?_
  refine BIBase.Entails.trans (BIBase.Entails.of_eq e4) ?_
  refine BIBase.Entails.trans (bigSep_mono fun k _ => e5 k) ?_
  rw [e6]

/-- What else a device holds all along: half of its argument, its positions on the unused semaphores. -/
def restP (c : Dev nD) : sProp 𝕄 := iprop(xP m c qL ∗ bigSep Finset.univ fun j : Fin 6 => atPos ER (dCell c (uSem j)) 0 ∅ 0)

/-- After the kernel: the argument as it was, the result, the other buffers at some contents, every semaphore at zero. -/
def Post (c : Dev nD) : sProp 𝕄 :=
  iprop(xP m c qL ∗ ((c : Thread nD τ).loc main_v1 ↦{fullShare} outF m c)
    ∗ (∃ f : S8192x1024.Idx → Elt F .f32, (c : Thread nD τ).loc cc0_scratch0 ↦{fullShare} f)
    ∗ (∃ f : S2x1024x1024.Idx → Elt F .f32, (c : Thread nD τ).loc cc0_scratch1 ↦{fullShare} f)
    ∗ (∃ f : S2x1024x1024.Idx → Elt F .f32, (c : Thread nD τ).loc cc0_scratch2 ↦{fullShare} f)
    ∗ (bigSep Finset.univ fun i : DmaSem sig => semVal (dCell c i) 0) ∗ semVal (barCell c) 0)

theorem aSt_end (i : Fin 2) : iprop(Env m K ∗ aSt m c i (cnt 8 i) (cnt 8 i)) ⊢ iprop(|={Set.univ}=> ((∃ f, aSlot (F := F) c i f) ∗ semVal (dCell c (aSem i)) 0)) := by
  have hc : cnt 8 i = 4 := by unfold cnt; have := i.isLt; omega
  rw [hc]
  unfold aSt aMem
  rw [if_pos rfl, if_neg (by decide)]
  iintro ⟨#HE, Hm, Hat, -⟩
  imod (close_k m K (c := c) (aSem i) 4 (le_of_eq (nR_a i))) $$ [Hat] with Hs
  · isplitr; · iexact HE
    iexact Hat
  imodintro
  isplitl [Hm]; · iexists _; iexact Hm
  iexact Hs
theorem oSt_end (i : Fin 2) : iprop(Env m K ∗ oSt m c i (cnt 8 i) (cnt 8 i) (cnt 8 i)) ⊢ iprop(|={Set.univ}=> ((∃ f, oSlot (F := F) c i f) ∗ semVal (dCell c (oSem i)) 0)) := by
  have hc : cnt 8 i = 4 := by unfold cnt; have := i.isLt; omega
  rw [hc]
  unfold oSt
  rw [if_pos rfl, if_pos rfl]
  iintro ⟨#HE, Hm, Hat, -⟩
  imod (close_k m K (c := c) (oSem i) 4 (le_of_eq (nR_o i))) $$ [Hat] with Hs
  · isplitr; · iexact HE
    iexact Hat
  imodintro
  isplitl [Hm]; · iexact Hm
  iexact Hs

omit [FloatOps F] in
/-- A family, each member updated with what every device knows. -/
theorem bigSep_upd {I : Type} [DecidableEq I] {S : Finset I} {P : sProp 𝕄} [BI.Persistent P] {Φ Ψ : I → sProp 𝕄}
    (h : ∀ i, iprop(P ∗ Φ i) ⊢ iprop(|={Set.univ}=> Ψ i)) : iprop(P ∗ bigSep S Φ) ⊢ iprop(|={Set.univ}=> bigSep S Ψ) := by
  have e : iprop(bigSep S (fun _ => P) ∗ bigSep S Φ) = bigSep S fun i => iprop(P ∗ Φ i) := (bigSep_sep' _ _ _).symm
  refine BIBase.Entails.trans (sep_mono_left (BI.bigSep_of_persistent S P)) ?_
  refine BIBase.Entails.trans (BIBase.Entails.of_eq e) ?_
  exact BIBase.Entails.trans (bigSep_mono fun i _ => h i) (bigSep_fupd _ _)

theorem finish : StW m K c 32 8 (doneP m c iprop(semVal (barCell c) 0 ∗ restP m c))
    ⊢ iprop(|={Set.univ}=> (Post m c ∗ ∃ W, owes (c : Thread nD τ) 0 W)) := by
  have ep : Pre 32 (fun p => iprop(sPay m c (wOrd p) ∗ semVal (sendCell c (wOrd p)) 0))
      = iprop((bigSep Finset.univ fun p => sPay m c (wOrd p)) ∗ bigSep Finset.univ fun k => semVal (sendCell c k) 0) := by
    rw [Pre_all, bigSep_univ_equiv wOrdE (fun k => (semVal (sendCell c k) 0 : sProp 𝕄))]; exact bigSep_sep' _ _ _
  have eo : Pre 8 (fun n => outP c n (outF m c)) = ((c : Thread nD τ).loc main_v1 ↦{fullShare} outF m c : sProp 𝕄) := by
    rw [Pre_all, result_parts c]
  have ea : (bigSep Finset.univ fun i : Fin 2 => iprop((∃ f, aSlot (F := F) c i f) ∗ semVal (dCell c (aSem i)) 0))
      = iprop((bigSep Finset.univ fun i : Fin 2 => iprop(∃ f, aSlot (F := F) c i f)) ∗ bigSep Finset.univ fun i : Fin 2 => semVal (dCell c (aSem i)) 0) := bigSep_sep' _ _ _
  have eb : (bigSep Finset.univ fun i : Fin 2 => iprop((∃ f, oSlot (F := F) c i f) ∗ semVal (dCell c (oSem i)) 0))
      = iprop((bigSep Finset.univ fun i : Fin 2 => iprop(∃ f, oSlot (F := F) c i f)) ∗ bigSep Finset.univ fun i : Fin 2 => semVal (dCell c (oSem i)) 0) := bigSep_sep' _ _ _
  unfold StW doneP restP Post
  rw [ep, eo, Ow_end, sems_split (fun i => semVal (dCell c i) 0)]
  iintro ⟨#HE, HO, -, ⟨HS, Hss⟩, Ho, HY, HH, Ha, Hb, Hx, Hu⟩
  ihave HL := (landing_whole m) $$ [HH HS]
  · isplitl [HH] <;> iassumption
  icases HL with ⟨HL, Hrr⟩
  imod (bigSep_upd (P := Env m K) fun i => aSt_end m K (c := c) i) $$ [Ha] with Ha2
  · isplitr; · iexact HE
    iexact Ha
  imod (bigSep_upd (P := Env m K) fun i => oSt_end m K (c := c) i) $$ [Ho] with Ho2
  · isplitr; · iexact HE
    iexact Ho
  imod (bigSep_upd (P := Env m K) fun j => close_k m K (c := c) (uSem j) 0 (le_of_eq (nR_u j))) $$ [Hu] with Hu2
  · isplitr; · iexact HE
    iexact Hu
  imodintro
  ihave Ha3 := (BIBase.Entails.of_eq ea) $$ Ha2
  ihave Ho3 := (BIBase.Entails.of_eq eb) $$ Ho2
  icases Ha3 with ⟨Ha4, Has⟩
  icases Ho3 with ⟨Ho4, Hos⟩
  ihave Ha5 := (aslots_join c (m ((c : Thread nD τ).loc cc0_scratch1))) $$ Ha4
  ihave Ho5 := (oslots_join c (m ((c : Thread nD τ).loc cc0_scratch2))) $$ Ho4
  isplitr [HO]
  · isplitl [Hx]; · iexact Hx
    isplitl [HY]; · iexact HY
    isplitl [HL]; · iexists _; iexact HL
    isplitl [Ha5]; · iexact Ha5
    isplitl [Ho5]; · iexact Ho5
    isplitr [Hb]
    · isplitl [Has]; · iexact Has
      isplitl [Hos]; · iexact Hos
      isplitl [Hss]; · iexact Hss
      isplitl [Hrr] <;> iassumption
    iexact Hb
  iexact HO

end Cert.KProof
-- ==== Proof.K.Start.lean ====
/-
The start of the kernel on one device: what the launch deals it is the state before the barrier.
-/
module

public import proofs.«01_k».proof.Proof.K.Finish

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ) (K : Dev nD × Option (DmaSem sig) → ℕ)

omit [FloatOps F] in
/-- A family over the semaphores of a device: the barrier's member, and the others. -/
theorem opt_split (Φ : Option (DmaSem sig) → sProp 𝕄) : bigSep Finset.univ Φ = iprop((bigSep Finset.univ fun i => Φ (some i)) ∗ Φ none) := by
  rw [bigSep_univ_equiv (Equiv.optionEquivSumPUnit.{0} (DmaSem sig)).symm, bigSep_univ_sum, bigSep_univ_of_subsingleton (I := PUnit.{1}) PUnit.unit]
  rfl

/-- The tokens of the duties that `c` pays. -/
def payToks (c : Dev nD) : sProp 𝕄 :=
  iprop((bigSep Finset.univ fun δ : Fin 3 => dutyTok ER (barCell (nb δ c)) 0 (opp δ))
    ∗ (bigSep Finset.univ fun n : Fin 8 => dutyTok ER (dCell c (aSem (slotC n))) (n.val / 2) 0)
    ∗ (bigSep Finset.univ fun n : Fin 8 => dutyTok ER (dCell c (oSem (slotC n))) (n.val / 2) 0)
    ∗ (bigSep Finset.univ fun k : Fin 32 => dutyTok ER (sendCell c k) 0 0)
    ∗ bigSep Finset.univ fun k : Fin 32 => dutyTok ER (recvCell (tgt c k) k) 0 0)

/-- Its positions and these tokens. -/
def linear (c : Dev nD) : sProp 𝕄 := iprop((bigSep Finset.univ fun i : Option (DmaSem sig) => atPos ER (kcell (c, i)) 0 ∅ 0) ∗ payToks (F := F) c)

/-- What the others' transfers and signals will credit it. -/
def creds (c : Dev nD) : sProp 𝕄 := iprop(cred (tallyAt (barCell c) () 3) ∗ bigSep Finset.univ fun k : Fin 32 => cred (tallyAt (recvCell c k) () Nr))

omit [FloatOps F] in
/-- The share of the argument that is lent, cut for the transfers and the copies. -/
theorem x_leaves (c : Dev nD) : xP m c qR ⊢ iprop((bigSep Finset.univ fun k : Fin 32 => (if k.val < 11 then xP m c (xLeaf k.val) else iprop(emp) : sProp 𝕄))
    ∗ bigSep Finset.univ fun n : Fin 8 => xP m c (xLeaf (11 + n.val))) := by
  have e0 : xP m c qR = bigSep Finset.univ fun k : Fin 32 => xP m c (xLeaf k.val) := by
    have h := ShareLeaves.pointsTo_leaves (Ix := Unit) (Name := ℕ) (U := UU) (Lvl := ℕ) (ℓ := (c : Thread nD τ).loc main_arg0) Finset.univ (X m c) 5 qR
    refine Eq.trans h ?_
    show (bigSep (Finset.univ : Finset (Fin 32)) _) = _
    refine bigSep_congr fun k _ => ?_
    unfold xP xLeaf
    have : (⟨k.val % 32, Nat.mod_lt _ (by decide)⟩ : Fin (2 ^ 5)) = k := Fin.ext (Nat.mod_eq_of_lt k.isLt)
    rw [this]
  have e1 : (bigSep Finset.univ fun k : Fin 32 => xP m c (xLeaf k.val))
      = iprop((bigSep (Finset.univ.filter fun k : Fin 32 => k.val < 11) fun k => xP m c (xLeaf k.val))
        ∗ bigSep (Finset.univ.filter fun k : Fin 32 => ¬ k.val < 11) fun k => xP m c (xLeaf k.val)) := bigSep_filter_split _ _
  have e2 : (bigSep (Finset.univ.filter fun k : Fin 32 => k.val < 11) fun k => xP m c (xLeaf k.val))
      = bigSep Finset.univ fun k : Fin 32 => (if k.val < 11 then xP m c (xLeaf k.val) else iprop(emp) : sProp 𝕄) := bigSep_filter _ _ _
  have hinj : Function.Injective fun n : Fin 8 => (⟨11 + n.val, by omega⟩ : Fin 32) := fun a b h => Fin.ext (by have := congrArg Fin.val h; simp only at this; omega)
  have hsub : Finset.univ.map ⟨fun n : Fin 8 => (⟨11 + n.val, by omega⟩ : Fin 32), hinj⟩ ⊆ Finset.univ.filter fun k : Fin 32 => ¬ k.val < 11 := by
    intro x hx
    obtain ⟨n, -, rfl⟩ := Finset.mem_map.mp hx
    exact Finset.mem_filter.mpr ⟨Finset.mem_univ _, by show ¬ 11 + n.val < 11; omega⟩
  have e3 : (bigSep (Finset.univ.map ⟨fun n : Fin 8 => (⟨11 + n.val, by omega⟩ : Fin 32), hinj⟩) fun k => xP m c (xLeaf k.val))
      = bigSep Finset.univ fun n : Fin 8 => xP m c (xLeaf (11 + n.val)) := BI.bigSep_map _
  rw [e0, e1, e2, ← e3]
  exact sep_mono_right (bigSep_subset hsub)

theorem aSt_start (c : Dev nD) (i : Fin 2) : iprop(Env m K ∗ (∃ f, aSlot (F := F) c i f) ∗ atPos ER (dCell c (aSem i)) 0 ∅ 0) ⊢ aSt m c i (cnt 0 i) (cnt 0 i) := by
  have hc : cnt 0 i = 0 := by unfold cnt; have := i.isLt; omega
  rw [hc]
  unfold aSt aMem
  rw [if_pos rfl, if_pos rfl]
  iintro ⟨#HE, Hm, Hat⟩
  isplitl [Hm]; · iexact Hm
  isplitl [Hat]; · iexact Hat
  iapply (Env_reached m K (c, some (aSem i))) $$ HE
theorem oSt_start (c : Dev nD) (i : Fin 2) : iprop(Env m K ∗ (∃ f, oSlot (F := F) c i f) ∗ atPos ER (dCell c (oSem i)) 0 ∅ 0) ⊢ oSt m c i (cnt 0 i) (cnt 0 i) (cnt 0 i) := by
  have hc : cnt 0 i = 0 := by unfold cnt; have := i.isLt; omega
  rw [hc]
  unfold oSt
  rw [if_pos rfl, if_pos rfl]
  iintro ⟨#HE, Hm, Hat⟩
  isplitl [Hm]; · iexact Hm
  isplitl [Hat]; · iexact Hat
  iapply (Env_reached m K (c, some (oSem i))) $$ HE

omit [FloatOps F] in
/-- A family, each member joined with what every device knows. -/
theorem bigSep_with {I : Type} [DecidableEq I] {S : Finset I} {P : sProp 𝕄} [BI.Persistent P] {Φ Ψ : I → sProp 𝕄}
    (h : ∀ i, iprop(P ∗ Φ i) ⊢ Ψ i) : iprop(P ∗ bigSep S Φ) ⊢ bigSep S Ψ := by
  have e : iprop(bigSep S (fun _ => P) ∗ bigSep S Φ) = bigSep S fun i => iprop(P ∗ Φ i) := (bigSep_sep' _ _ _).symm
  refine BIBase.Entails.trans (sep_mono_left (BI.bigSep_of_persistent S P)) ?_
  refine BIBase.Entails.trans (BIBase.Entails.of_eq e) ?_
  exact bigSep_mono fun i _ => h i

omit [FloatOps F] in
/-- Two families joined. -/
theorem bigSep_zip {I : Type} {S : Finset I} (Φ Ψ : I → sProp 𝕄) : iprop(bigSep S Φ ∗ bigSep S Ψ) ⊢ bigSep S fun i => iprop(Φ i ∗ Ψ i) :=
  BIBase.Entails.of_eq (bigSep_sep' _ _ _).symm

/-- The buffers of one device before the kernel. -/
def bufs (c : Dev nD) : sProp 𝕄 :=
  iprop(((c : Thread nD τ).loc main_arg0 ↦{fullShare} X m c) ∗ (∃ f : S8192x1024.Idx → Elt F .f32, (c : Thread nD τ).loc main_v1 ↦{fullShare} f)
    ∗ (∃ f : S8192x1024.Idx → Elt F .f32, (c : Thread nD τ).loc cc0_scratch0 ↦{fullShare} f)
    ∗ (∃ f : S2x1024x1024.Idx → Elt F .f32, (c : Thread nD τ).loc cc0_scratch1 ↦{fullShare} f)
    ∗ (∃ f : S2x1024x1024.Idx → Elt F .f32, (c : Thread nD τ).loc cc0_scratch2 ↦{fullShare} f))

theorem to_StB (c : Dev nD) : iprop(Env m K ∗ linear c ∗ creds c ∗ bufs m c ∗ ∃ W, owes (c : Thread nD τ) (O₀ c) W) ⊢ StB m K c (restP m c) := by
  have e1 : (bigSep Finset.univ fun i : Option (DmaSem sig) => (atPos ER (kcell (c, i)) 0 ∅ 0 : sProp 𝕄))
      = iprop((bigSep Finset.univ fun i : DmaSem sig => atPos ER (dCell c i) 0 ∅ 0) ∗ atPos ER (barCell c) 0 ∅ 0) := opt_split _
  have er : (bigSep Finset.univ fun p => rcvP (F := F) c (rOrd p)) = bigSep Finset.univ fun k => rcvP (F := F) c k := (bigSep_univ_equiv rOrdE (fun k => rcvP (F := F) c k)).symm
  have ex : ((c : Thread nD τ).loc main_arg0 ↦{fullShare} X m c : sProp 𝕄) ⊢ iprop(xP m c qL ∗ xP m c qR) := (pointsTo_share (PosShare.mem_left_op_right fullShare)).1
  unfold linear payToks creds bufs StB restP
  rw [e1, sems_split (fun i => atPos ER (dCell c i) 0 ∅ 0), er]
  iintro ⟨#HE, ⟨⟨⟨Haa, Hao, Has, Har, Hau⟩, Hab⟩, Htb, Hta, Hto, Hts, Htr⟩, ⟨Hcb, Hcr⟩, ⟨Hx, ⟨%fy, Hy⟩, ⟨%f0, H0⟩, ⟨%f1, H1⟩, ⟨%f2, H2⟩⟩, HO⟩
  ihave Hx2 := ex $$ Hx
  icases Hx2 with ⟨HxL, HxR⟩
  ihave Hx3 := (x_leaves m c) $$ HxR
  icases Hx3 with ⟨Hxs, Hxa⟩
  ihave Hy2 := (BIBase.Entails.of_eq (result_parts c fy)) $$ Hy
  ihave H02 := (BIBase.Entails.of_eq (landing_parts c fullShare f0)) $$ H0
  ihave H12 := (BIBase.Entails.of_eq (aslots_parts c f1)) $$ H1
  ihave H22 := (BIBase.Entails.of_eq (oslots_parts c f2)) $$ H2
  isplitr; · iexact HE
  isplitl [HO]; · iexact HO
  isplitl [Htb]; · iexact Htb
  isplitl [H02]
  · have e : (bigSep Finset.univ fun k => pieceP (F := F) c k fullShare f0) ⊢ bigSep Finset.univ fun k => iprop(∃ f, pieceP (F := F) c k fullShare f) :=
      bigSep_mono fun k _ => show pieceP (F := F) c k fullShare f0 ⊢ iprop(∃ f, pieceP (F := F) c k fullShare f) from by iintro H; iexists f0; iexact H
    iapply e $$ H02
  isplitl [Hcb]; · iexact Hcb
  isplitl [Hab]; · iexact Hab
  isplitl [Hts Htr Has Hxs]
  · unfold sndN
    iapply bigSep_zip
    isplitl [Hts]; · iexact Hts
    iapply bigSep_zip
    isplitl [Htr]; · iexact Htr
    iapply bigSep_zip
    isplitl [Has]; · iexact Has
    iexact Hxs
  isplitl [Hcr Har]
  · unfold rcvP
    iapply bigSep_zip
    isplitl [Hcr] <;> iassumption
  isplitl [Hta Hxa]
  · unfold aRP
    iapply bigSep_zip
    isplitl [Hta] <;> iassumption
  isplitl [Haa H12]
  · have e : iprop(Env m K ∗ bigSep Finset.univ fun i => iprop(aSlot (F := F) c i f1 ∗ atPos ER (dCell c (aSem i)) 0 ∅ 0))
        ⊢ bigSep Finset.univ fun i => aSt m c i (cnt 0 i) (cnt 0 i) := bigSep_with fun i => by
      iintro ⟨#HE, H1, H2⟩
      iapply (aSt_start m K c i)
      isplitr; · iexact HE
      isplitl [H1]; · iexists f1; iexact H1
      iexact H2
    iapply e
    isplitr; · iexact HE
    iapply bigSep_zip
    isplitl [H12] <;> iassumption
  isplitl [Hto Hy2]
  · unfold oRP
    iapply bigSep_zip
    isplitl [Hto]; · iexact Hto
    have e : (bigSep Finset.univ fun n => outP (F := F) c n fy) ⊢ bigSep Finset.univ fun n => iprop(∃ f, outP (F := F) c n f) :=
      bigSep_mono fun k _ => show outP (F := F) c k fy ⊢ iprop(∃ f, outP (F := F) c k f) from by iintro H; iexists fy; iexact H
    iapply e $$ Hy2
  isplitl [Hao H22]
  · have e : iprop(Env m K ∗ bigSep Finset.univ fun i => iprop(oSlot (F := F) c i f2 ∗ atPos ER (dCell c (oSem i)) 0 ∅ 0))
        ⊢ bigSep Finset.univ fun i => oSt m c i (cnt 0 i) (cnt 0 i) (cnt 0 i) := bigSep_with fun i => by
      iintro ⟨#HE, H1, H2⟩
      iapply (oSt_start m K c i)
      isplitr; · iexact HE
      isplitl [H1]; · iexists f2; iexact H1
      iexact H2
    iapply e
    isplitr; · iexact HE
    iapply bigSep_zip
    isplitl [H22] <;> iassumption
  isplitl [HxL] <;> iassumption

end Cert.KProof
-- ==== Proof.K.Ghost.lean ====
/-
The launch's ghost state: the cells, the tokens of their duties and the credit each device starts with.
-/
module

public import proofs.«01_k».proof.Proof.K.Start

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]
local notation "𝕄" => MT nD τ sig Unit (Elt F) ℕ UU ℕ
variable (m : (ℓ : Loc nD τ sig) → Buf (Elt F) ℓ)

/-! ## Cells and tokens -/

theorem csem_inj : Function.Injective csem := fun a b h => by
  cases a with
  | none => cases b with
    | none => rfl
    | some j => exact absurd h (fun h' => by cases h')
  | some i => cases b with
    | none => exact absurd h (fun h' => by cases h')
    | some j => exact congrArg some (SemLoc.dma.inj h)
theorem kcell_inj : Function.Injective (kcell : Dev nD × Option (DmaSem sig) → GSem nD τ sig) := by
  rintro ⟨c, k⟩ ⟨c', k'⟩ h
  have h1 : c = c' := congrArg (fun g : GSem nD τ sig => g.1.1) h
  subst h1
  have h2 : k = k' := csem_inj (congrArg (fun g : GSem nD τ sig => g.2) h)
  rw [h2]
def ringCells : Finset (GSem nD τ sig) := Finset.univ.map ⟨kcell, kcell_inj⟩

/-- The duties of one device's semaphores: the barrier's three, one per chunk for the copies in and out, one per transfer for
    the senders and the receivers. -/
abbrev TIx : Type := Fin 3 ⊕ Fin 8 ⊕ Fin 8 ⊕ Fin 32 ⊕ Fin 32
def tokAt : TIx → SemLoc sig × ℕ × DD :=
  Sum.elim (fun δ => (.reg barS, 0, δ)) (Sum.elim (fun n => (.dma (aSem (slotC n)), n.val / 2, 0)) (Sum.elim (fun n => (.dma (oSem (slotC n)), n.val / 2, 0))
    (Sum.elim (fun k => (.dma (sSem k), 0, 0)) (fun k => (.dma (rSem k), 0, 0)))))
theorem tokAt_inj : Function.Injective tokAt := by decide +kernel
def tokOf (p : Dev nD × TIx) : GSem nD τ sig × ℕ × DD := (((p.1 : Thread nD τ), (tokAt p.2).1), (tokAt p.2).2)
theorem tokOf_inj : Function.Injective tokOf := by
  rintro ⟨c, j⟩ ⟨c', j'⟩ h
  have h1 : c = c' := congrArg (fun x : GSem nD τ sig × ℕ × DD => x.1.1.1) h
  have h2 : tokAt j = tokAt j' := Prod.ext (congrArg (fun x : GSem nD τ sig × ℕ × DD => x.1.2) h) (congrArg (fun x : GSem nD τ sig × ℕ × DD => x.2) h)
  rw [h1, tokAt_inj h2]
def ringToks : Finset (GSem nD τ sig × ℕ × DD) := Finset.univ.map ⟨tokOf, tokOf_inj⟩

def u₀ : UU := (initOf (Pipeline.cells cfgs cellOf_inj) (Pipeline.launchToks cfgs cellOf_inj), initOf ringCells ringToks)

/-- The duty tokens of device `c`'s own semaphores. -/
def toks (c : Dev nD) : sProp 𝕄 :=
  iprop((bigSep Finset.univ fun δ : Fin 3 => dutyTok ER (barCell c) 0 δ)
    ∗ (bigSep Finset.univ fun n : Fin 8 => dutyTok ER (dCell c (aSem (slotC n))) (n.val / 2) 0)
    ∗ (bigSep Finset.univ fun n : Fin 8 => dutyTok ER (dCell c (oSem (slotC n))) (n.val / 2) 0)
    ∗ (bigSep Finset.univ fun k : Fin 32 => dutyTok ER (sendCell c k) 0 0)
    ∗ bigSep Finset.univ fun k : Fin 32 => dutyTok ER (recvCell c k) 0 0)

/-- What the launch deals device `c`. -/
def G (c : Dev nD) : sProp 𝕄 :=
  iprop((bigSep Finset.univ fun k : Option (DmaSem sig) => roundState ER (Rd m) (kcell (c, k)) 0)
    ∗ (bigSep Finset.univ fun k : Option (DmaSem sig) => iprop(atPos ER (kcell (c, k)) 0 ∅ 0 ∗ reached ER (kcell (c, k)) 0)) ∗ toks (F := F) c)

/-- The invariants of all cells, and that all are at round 0 or later. -/
def records (K : Dev nD × Option (DmaSem sig) → ℕ) : sProp 𝕄 :=
  iprop((bigSep Finset.univ fun p => cellInv ER (Rd m) (K p) (kcell p)) ∗ bigSep Finset.univ fun p => reached ER (kcell p) 0)
instance records_persistent (K) : BI.Persistent (records m K) := by unfold records; infer_instance

/-- What each device holds once the invariants are there. -/
def G' (c : Dev nD) : sProp 𝕄 := iprop(∃ K, records m K ∗ linear (F := F) c)

theorem fund_cells : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option (DmaSem sig) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_sum, bigSep_univ_sum, bigSep_univ_sum]
    unfold toks; rfl
  iintro HX
  imod (Rounds.fund ER (Rd m) ringCells ringToks) $$ HX with ⟨Hst, Hr, Hat, Htok⟩
  imodintro
  ihave Hst' := (BIBase.Entails.of_eq (hX fun g => roundState ER (Rd m) g 0)) $$ Hst
  ihave Hat' := (BIBase.Entails.of_eq (hX fun g => atPos ER g 0 ∅ 0)) $$ Hat
  ihave Hr' := (BIBase.Entails.of_eq (hX fun g => reached ER g 0)) $$ Hr
  ihave Htok' := (BIBase.Entails.of_eq hT) $$ Htok
  unfold G; simp only [bigSep_sep']
  isplitl [Hst']; · iexact Hst'
  isplitl [Hat' Hr']
  · isplitl [Hat'] <;> iassumption
  iexact Htok'

/-! ## The invariants, for all devices at once -/

/-- The kernel's own semaphores: the 74 of the transfers. -/
abbrev osem : DmaSem sig → SemLoc sig := fun i => .dma i
theorem ownSemFacts : Pipeline.OwnSemFacts cfg0.spec osem := ⟨fun k => by revert k; decide, fun _ _ h => SemLoc.dma.inj h, fun _ w => w.elim0⟩

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) := by
  have es : (bigSep Finset.univ fun k : Option (DmaSem sig) => semVal (kcell (c, k)) 0 : sProp 𝕄)
      = iprop(Pipeline.ownSems0 (Ix := Unit) (Name := ℕ) (U := UU) (Lvl := ℕ) (Val := Elt F) (τ := τ) osem c ∗ semVal (barCell c) 0) := opt_split _
  have ha : iprop((bigSep Finset.univ fun k : Option (DmaSem sig) => semVal (kcell (c, k)) 0) ∗ bigSep Finset.univ fun k => roundState ER (Rd m) (kcell (c, k)) 0)
      ⊢ (|={Set.univ}=> bigSep Finset.univ fun k => iprop(∃ κ : ℕ, cellInv ER (Rd m) κ (kcell (c, k))) : sProp 𝕄) := by
    rw [← bigSep_sep']
    exact BIBase.Entails.trans (bigSep_mono fun k _ => BIBase.Entails.trans (Rounds.body_intro ER (Rd m) (kcell (c, k))) inv_alloc) (bigSep_fupd _ _)
  unfold G
  rw [unscopedSems0_eq]
  iintro ⟨Hos, Hus, Hst, Hat, Htok⟩
  imod ha $$ [Hos Hus Hst] with Hinv
  · isplitl [Hos Hus]
    · iapply (BIBase.Entails.of_eq es.symm)
      isplitl [Hos] <;> iassumption
    iexact Hst
  imodintro
  isplitl [Hinv]; · iexact Hinv
  isplitl [Hat]; · iexact Hat
  iexact Htok

def oppEquiv : Fin 3 ≃ Fin 3 := ⟨opp, opp, opp_opp, opp_opp⟩

omit [FloatOps F] in
/-- The tokens dealt to the devices that pay: a barrier's token to the neighbour it is for, a receiver's to the sender. -/
theorem toks_around : (bigSep Finset.univ fun c : Dev nD => (toks c : sProp 𝕄)) ⊢ bigSep Finset.univ fun c : Dev nD => payToks c := by
  have eb : (bigSep Finset.univ fun c : Dev nD => bigSep Finset.univ fun δ : Fin 3 => (dutyTok ER (barCell c) 0 δ : sProp 𝕄))
      = bigSep Finset.univ fun c : Dev nD => bigSep Finset.univ fun δ : Fin 3 => dutyTok ER (barCell (nb δ c)) 0 (opp δ) := by
    rw [bigSep_univ_comm (fun (c : Dev nD) (δ : Fin 3) => (dutyTok ER (barCell c) 0 δ : sProp 𝕄)),
      bigSep_univ_comm (fun (c : Dev nD) (δ : Fin 3) => (dutyTok ER (barCell (nb δ c)) 0 (opp δ) : sProp 𝕄)),
      bigSep_univ_equiv oppEquiv]
    refine bigSep_congr fun δ _ => ?_
    exact bigSep_univ_equiv (nbEquiv δ) (fun c : Dev nD => (dutyTok ER (barCell c) 0 (opp δ) : sProp 𝕄))
  have er : (bigSep Finset.univ fun c : Dev nD => bigSep Finset.univ fun k : Fin 32 => (dutyTok ER (recvCell c k) 0 0 : sProp 𝕄))
      = bigSep Finset.univ fun c : Dev nD => bigSep Finset.univ fun k : Fin 32 => dutyTok ER (recvCell (tgt c k) k) 0 0 := by
    rw [bigSep_univ_comm (fun (c : Dev nD) (k : Fin 32) => (dutyTok ER (recvCell c k) 0 0 : sProp 𝕄)),
      bigSep_univ_comm (fun (c : Dev nD) (k : Fin 32) => (dutyTok ER (recvCell (tgt c k) k) 0 0 : sProp 𝕄))]
    refine bigSep_congr fun k _ => ?_
    exact bigSep_univ_equiv (nbEquiv (dirK k)) (fun c : Dev nD => (dutyTok ER (recvCell c k) 0 0 : sProp 𝕄))
  unfold toks payToks
  simp only [bigSep_sep']
  rw [eb, er]

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun p : Dev nD × Option (DmaSem sig) => iprop(∃ κ : ℕ, cellInv ER (Rd m) κ (kcell p))),
    bigSep_congr (s := Finset.univ) (fun (c : Dev nD) _ => bigSep_sep' Finset.univ (fun k : Option (DmaSem sig) => (atPos ER (kcell (c, k)) 0 ∅ 0 : sProp 𝕄)) (fun k => reached ER (kcell (c, k)) 0)),
    bigSep_sep', ← bigSep_univ_prod (fun p : Dev nD × Option (DmaSem sig) => (reached ER (kcell p) 0 : sProp 𝕄))]
  iintro ⟨HI, ⟨Hat, #HR⟩, Htok⟩
  ihave HK := (BI.bigSep_exists_pi Finset.univ (fun (p : Dev nD × Option (DmaSem sig)) (κ : ℕ) => (cellInv ER (Rd m) κ (kcell p) : sProp 𝕄))) $$ HI
  icases HK with ⟨%K, #HI⟩
  ihave Htk := (toks_around (F := F)) $$ Htok
  iapply (bigSep_with (P := records m K) (Φ := fun c => linear (F := F) c) fun c => show iprop(records m K ∗ linear c) ⊢ G' m c from by
    unfold G'
    iintro H
    iexists K
    iexact H)
  isplitr
  · unfold records; isplitl; · iexact HI
    iexact HR
  · unfold linear
    iapply bigSep_zip
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  BIBase.Entails.trans (BIBase.Entails.trans (bigSep_mono fun c _ => core_alloc m c) (bigSep_fupd _ _)) (BI.fupd_mono (regroup m))

/-! ## The launch credit -/

theorem tally_bar (δ : Fin 3) (d c : Dev nD) : tallyAt (barCell (nb δ d)) () 1 (barCell c) () = if d = nb (opp δ) c then 1 else 0 := by
  rw [tallyAt_apply]
  by_cases h : d = nb (opp δ) c
  · subst h; rw [nb_nb_opp, if_pos ⟨rfl, rfl⟩, if_pos rfl]
  · rw [if_neg h, if_neg]
    rintro ⟨h1, -⟩
    have h2 : c = nb δ d := congrArg (fun g : GSem nD τ sig => g.1.1) h1
    exact h (by rw [h2, nb_opp_nb])
theorem tally_recv (d c : Dev nD) (k k' : Fin 32) :
    tallyAt (recvCell (tgt d k') k') () Nr (recvCell c k) () = if k' = k then (if d = sndr c k then Nr else 0) else 0 := by
  rw [tallyAt_apply]
  by_cases hk : k' = k
  · subst hk
    rw [if_pos rfl]
    by_cases h : d = sndr c k'
    · rw [if_pos h, if_pos]
      refine ⟨?_, rfl⟩
      rw [h]; unfold tgt sndr; rw [nb_nb_opp]
    · rw [if_neg h, if_neg]
      rintro ⟨h1, -⟩
      have h2 : c = tgt d k' := congrArg (fun g : GSem nD τ sig => g.1.1) h1
      exact h (by rw [h2]; unfold tgt sndr; rw [nb_opp_nb])
  · rw [if_neg hk, if_neg]
    rintro ⟨h1, -⟩
    exact hk (rSem_inj (SemLoc.dma.inj (congrArg Prod.snd h1))).symm
theorem Ow_bar (d c : Dev nD) : Ow d 0 (barCell c) () = 0 := by
  by_contra h
  obtain ⟨k, -, hk⟩ := Ow_pos (Nat.pos_of_ne_zero h)
  exact absurd (congrArg Prod.snd hk) (fun h' => by cases h')
theorem Ow_recv (d c : Dev nD) (k : Fin 32) : Ow d 0 (recvCell c k) () = if d = sndr c k then Nr else 0 := by
  unfold Ow
  rw [Finset.sum_apply, Finsupp.finset_sum_apply, Finset.sum_congr rfl fun k' _ => tally_recv d c k k', Finset.sum_ite_eq',
    if_pos (show k ∈ Finset.univ.filter (fun j : Fin 32 => 0 ≤ j.val) from Finset.mem_filter.mpr ⟨Finset.mem_univ k, Nat.zero_le _⟩)]
theorem owed_bar (d c : Dev nD) :
    O₀ d (barCell c) () = (if d = nb (opp 1) c then 1 else 0) + (if d = nb (opp 2) c then 1 else 0) + (if d = nb (opp 0) c then 1 else 0) := by
  unfold O₀ O₂ O₁
  rw [Pi.add_apply, Finsupp.add_apply, Pi.add_apply, Finsupp.add_apply, Pi.add_apply, Finsupp.add_apply, tally_bar, tally_bar, tally_bar, Ow_bar, Nat.zero_add]
theorem owed_recv (d c : Dev nD) (k : Fin 32) : O₀ d (recvCell c k) () = if d = sndr c k then Nr else 0 := by
  have h : ∀ e : Dev nD, tallyAt (barCell e) () 1 (recvCell c k) () = 0 := fun e => by
    rw [tallyAt_apply, if_neg]
    rintro ⟨h1, -⟩
    exact absurd (congrArg Prod.snd h1) (fun h' => by cases h')
  unfold O₀ O₂ O₁
  rw [Pi.add_apply, Finsupp.add_apply, Pi.add_apply, Finsupp.add_apply, Pi.add_apply, Finsupp.add_apply, h, h, h, Ow_recv, Nat.add_zero]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (nb (opp 1) c) fun _ => 1, Finset.sum_ite_eq' Finset.univ (nb (opp 2) c) fun _ => 1, Finset.sum_ite_eq' Finset.univ (nb (opp 0) c) fun _ => 1,
    if_pos (Finset.mem_univ _), if_pos (Finset.mem_univ _), if_pos (Finset.mem_univ _)]
theorem launch_recv (c : Dev nD) (k : Fin 32) :
    tallyOn (recvCell c k) (launchCredit (Pipeline.owing O₀) 0 (recvCell c k)) = (tallyAt (recvCell c k) () Nr : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (sndr c k) fun _ => Nr,
    if_pos (Finset.mem_univ _)]

omit [FloatOps F] in
theorem creds_intro (c : Dev nD) : (Pipeline.launchCred O₀ c : sProp 𝕄) ⊢ creds (F := F) c := by
  have hinj : Function.Injective fun k : Fin 32 => (SemLoc.dma (rSem k) : SemLoc sig) := fun a b h => rSem_inj (SemLoc.dma.inj h)
  have hsub : Finset.univ.map ⟨fun k : Fin 32 => (SemLoc.dma (rSem k) : SemLoc sig), hinj⟩ ⊆ Finset.univ.erase (SemLoc.reg barS) := by
    intro x hx
    obtain ⟨k, -, rfl⟩ := Finset.mem_map.mp hx
    have hne : (SemLoc.dma (rSem k) : SemLoc sig) ≠ SemLoc.reg barS := by simp
    exact Finset.mem_erase.mpr ⟨hne, Finset.mem_univ _⟩
  have e : bigSep (Finset.univ.map ⟨fun k : Fin 32 => (SemLoc.dma (rSem k) : SemLoc sig), hinj⟩)
      (fun sm => (cred (tallyOn ((c : Thread nD τ), sm) (launchCredit (Pipeline.owing O₀) 0 ((c : Thread nD τ), sm))) : sProp 𝕄))
      = bigSep Finset.univ fun k : Fin 32 => cred (tallyAt (recvCell c k) () Nr) :=
    (BI.bigSep_map _).trans (bigSep_congr fun k _ => congrArg _ (launch_recv c k))
  unfold Pipeline.launchCred creds
  rw [bigSep_univ_at _ (SemLoc.reg barS), launch_bar, ← e]
  exact sep_mono_right (bigSep_subset hsub)

end Cert.KProof
-- ==== Proof.K.Run.lean ====
/-
The run of the program on all devices: every execution ends with each device's argument as it was, its result as computed,
and every semaphore at zero.
-/
module

public import proofs.«01_k».proof.Proof.K.Ghost
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

def s₀ : MemSt nD τ sig (Elt F) := ⟨m, fun _ => 0, ρ⟩

/-- What the kernel starts from, apart from its scoped buffers. -/
def start (c : Dev nD) : sProp 𝕄 :=
  iprop(levAts L lv ∗ G' m c ∗ creds (F := F) c ∗ ((c : Thread nD τ).loc main_arg0 ↦{fullShare} X m c)
    ∗ ∃ f : S8192x1024.Idx → Elt F .f32, (c : Thread nD τ).loc main_v1 ↦{fullShare} f)
/-- Its scoped buffers. -/
def scr (c : Dev nD) : sProp 𝕄 :=
  iprop((∃ f : S8192x1024.Idx → Elt F .f32, (c : Thread nD τ).loc cc0_scratch0 ↦{fullShare} f)
    ∗ (∃ f : S2x1024x1024.Idx → Elt F .f32, (c : Thread nD τ).loc cc0_scratch1 ↦{fullShare} f)
    ∗ (∃ f : S2x1024x1024.Idx → Elt F .f32, (c : Thread nD τ).loc cc0_scratch2 ↦{fullShare} f))

def dats (_ : Fin 1) (c : Dev nD) : Dat τ (Elt F) Unit ℕ UU ℕ cfg0 c where
  A w := Fin.elim0 (show Fin 0 from w)
  after w _ := Fin.elim0 (show Fin 0 from w)
  Φ t := match t with
    | ⟨0, _⟩ => iprop(start m c ∗ scr (F := F) c)
    | ⟨_ + 1, _⟩ => Post m c
  q _ := fullShare
  owed t := match t with
    | ⟨0, _⟩ => O₀ c
    | ⟨_ + 1, _⟩ => 0

theorem scopedRest_eq (c : Dev nD) : (Pipeline.scopedRest (Ix := Unit) (Name := ℕ) (U := UU) (Lvl := ℕ) (Val := Elt F) cfg0.spec c : sProp 𝕄) = scr c := scopedRest0_eq c

set_option maxRecDepth 100000 in
/-- The state a device's kernel starts from and ends in, as the pipeline states them. -/
theorem body_core (c : Dev nD) :
    iprop((start m c ∗ scr (F := F) c) ∗ ∃ W, owes (c : Thread nD τ) (O₀ c) W)
      ⊢ WP c (bodyAt0 (F := F) t0_0) (fun _ => iprop(Post m c ∗ ∃ W, owes (c : Thread nD τ) 0 W)) := by
  unfold start G'
  iintro ⟨⟨⟨Hl, ⟨%K, Hrec, Hlin⟩, Hcr, Hx, Hy⟩, Hscr⟩, HO⟩
  have hb := kernel_body m K (c := c) (R := restP m c) (h0 := Memref.isWhole_whole _) (h1 := Memref.isWhole_whole _) (h2 := Memref.isWhole_whole _) (h3 := Memref.isWhole_whole _)
    (h4 := Memref.isWhole_whole _) (Q' := fun _ => iprop(Post m c ∗ ∃ W, owes (c : Thread nD τ) 0 W)) (finish m K)
  iapply hb
  iapply (to_StB m K c)
  unfold Env records bufs scr
  isplitl [Hl Hrec]
  · isplitl [Hl] <;> iassumption
  isplitl [Hlin]; · iexact Hlin
  isplitl [Hcr]; · iexact Hcr
  isplitl [Hx Hy Hscr]
  · isplitl [Hx]; · iexact Hx
    isplitl [Hy]; · iexact Hy
    iexact Hscr
  iexact HO

set_option maxRecDepth 100000 in
/-- The library's obligation for the kernel's one point. -/
theorem body_obligation (c : Dev nD) : BodyObligation (dats (F := F) m 0 c) (defs₀ (F := F)) 𝒱₀ () Set.univ := fun t => by
  rw [fin_N0 t]
  show iprop((start m c ∗ scr (F := F) c) ∗ (dats m 0 c).owesAt () (Fin.castSucc t0_0) ∗ _) ⊢ wp frame (wpE (defs₀ (F := F)) 𝒱₀ (c : Thread nD τ) none) Set.univ (bodyAt0 (F := F) t0_0)
    (fun _ => iprop(Post m c ∗ (dats m 0 c).owesAt () (Fin.succ t0_0) ∗ _))
  unfold Dat.owesAt Pipeline.owesWithin
  rw [show (dats m 0 c).owed (Fin.castSucc t0_0) = O₀ c from rfl, show (dats m 0 c).owed (Fin.succ t0_0) = 0 from rfl]
  have hw : ∀ Φ : Fin cfg0.W → sProp 𝕄, bigSep Finset.univ Φ = iprop(emp) := fun Φ => bigSep_empty
  rw [hw, hw]
  iintro ⟨HS, ⟨%W, -, HO⟩, -⟩
  have hb := body_core m c
  unfold WP at hb
  have hm : ∀ (_ : PUnit.{1}), iprop(Post m c ∗ ∃ W, owes (c : Thread nD τ) 0 W) ⊢ iprop(Post m c ∗ (∃ W : Waits sig Unit, ⌜(↑W : Set (SemLoc sig × Unit)) ⊆ (dats m 0 c).bound () (Fin.succ t0_0)⌝ ∗ owes (c : Thread nD τ) 0 W) ∗ emp) := fun _ => by
    iintro ⟨HP, ⟨%W, HO⟩⟩
    isplitl [HP]; · iexact HP
    isplitl [HO]
    · iexists W
      isplitr; · ipureintro; exact fun _ _ => Or.inl trivial
      iexact HO
    iempintro
  iapply (BIBase.Entails.trans hb (wp_mono frame (wpE (defs₀ (F := F)) 𝒱₀ (c : Thread nD τ) none) Set.univ hm))
  isplitl [HS]; · iexact HS
  iexists W
  iexact HO

/-! ## The launch -/

omit [FloatOps F] in
/-- A whole buffer held at any share tells what the memory holds. -/
theorem read_one (ℓ : Loc nD τ sig) (q : PosShare TreeShare) (f : Buf (Elt F) ℓ) (s' : Phys nD τ sig (Elt F)) :
    iprop((ℓ ↦{q} f) ∗ SI s') ⊢ (iprop(⌜s'.mem.mem ℓ = f⌝ ∗ SI s') : sProp 𝕄) := by
  have h := pointsTo_read_all (Ix := Unit) (Name := ℕ) (U := UU) (Lvl := ℕ) (I := Unit) {()} (fun _ => ℓ) (fun _ => f) s' q
  rw [bigSep_singleton] at h
  refine BIBase.Entails.trans h ?_
  iintro ⟨%h1, HS⟩
  isplitr; · ipureintro; exact h1 () (Finset.mem_singleton_self _)
  iexact HS

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Hx, Hy⟩, Hlev, Hcr, -, HG⟩
  ihave Hc := (creds_intro (F := F) c) $$ Hcr
  imodintro
  unfold start
  isplitl
  · isplitl [Hlev]; · iexact Hlev
    isplitl [HG]; · iexact HG
    isplitl [Hc]; · iexact Hc
    isplitl [Hx]; · iexact Hx
    iexists _; iexact Hy
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ scr (F := F) c) from rfl, scopedRest_eq]
  iintro ⟨Hs, -, Hr⟩
  isplitl [Hs] <;> iassumption

/-- What a device keeps to the end of the program. -/
def keep (c : Dev nD) : sProp 𝕄 := iprop(unscopedSems0 c ∗ xP m c qL ∗ ((c : Thread nD τ).loc main_v1 ↦{fullShare} outF m c))

theorem phi1_exit (c : Dev nD) :
    (dats m 0 c).Φ (Fin.last cfg0.N) ⊢ iprop(keep m c ∗ Pipeline.ownSems0 osem c ∗ Pipeline.scopedRest cfg0.spec c) := by
  rw [show (dats m 0 c).Φ (Fin.last cfg0.N) = Post m c from rfl, scopedRest_eq]
  unfold Post keep scr
  rw [unscopedSems0_eq]
  iintro ⟨Hx, Hy, H0, H1, H2, Hs, Hb⟩
  isplitl [Hx Hy Hb]
  · isplitl [Hb]; · iexact Hb
    isplitl [Hx] <;> iassumption
  isplitl [Hs]; · unfold Pipeline.ownSems0; iexact Hs
  isplitl [H0]; · iexact H0
  isplitl [H1] <;> iassumption

theorem keep_read (c : Dev nD) (s' : Phys nD τ sig (Elt F)) :
    iprop(keep m c ∗ emp ∗ SI s') ⊢ |={Set.univ}=> iprop(⌜s'.mem.mem ((c : Thread nD τ).loc main_arg0) = X m c
      ∧ s'.mem.mem ((c : Thread nD τ).loc main_v1) = outF m c ∧ ∀ sm : SemLoc sig, sm.isScoped .tc = false → s'.mem.sem ((c : Thread nD τ), sm) = 0⌝ ∗ SI s') := by
  unfold keep xP
  iintro ⟨⟨Hu, Hx, Hy⟩, -, HSI⟩
  ihave H1 := (read_one ((c : Thread nD τ).loc main_arg0) qL (X m c) s') $$ [Hx HSI]
  · isplitl [Hx] <;> iassumption
  icases H1 with ⟨%h1, HSI⟩
  ihave H2 := (read_one ((c : Thread nD τ).loc main_v1) fullShare (outF m c) s') $$ [Hy HSI]
  · isplitl [Hy] <;> iassumption
  icases H2 with ⟨%h2, HSI⟩
  ihave %h3 := (tcUnscoped_read c s') $$ [Hu HSI]
  · isplitl [Hu] <;> iassumption
  imodintro
  isplitr; · ipureintro; exact ⟨h1, h2, h3⟩
  iexact HSI

theorem waits (c : Dev nD) : (levAts L lv : sProp 𝕄) ⊢ Pipeline.cellsWaits cfgs (dats m) () 0 c :=
  Pipeline.cellsWaits_intro cfgs (dats m) () 0 c fun w => Fin.elim0 (show Fin 0 from w)

set_option maxRecDepth 100000 in
/-- From any memory with zero counters, every weakly fair execution of the program on the eight devices terminates, and in
    every final state each device's argument is as it was, its result is `outF`, and every semaphore counter is zero. -/
theorem run_main : θ_run defs (onTc (τ := τ) (main (F := F))) (s₀ m ρ) (fun r =>
    (∀ c : Dev nD, r.2.mem ((c : Thread nD τ).loc main_arg0) = X m c ∧ r.2.mem ((c : Thread nD τ).loc main_v1) = outF m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => Fin.elim0 (show Fin 0 from w)) (harr := arr_whole0) (hstage := stage_whole0)
    (hshare := fun _ w => Fin.elim0 (show Fin 0 from w))
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ w => Fin.elim0 (show Fin 0 from w)) (hpf := fun _ k => k.elim0)
    (X := start m) (Y := keep m) (Z := fun _ => iprop(emp))
    (hX := start_intro m ρ) (hin := phi0_intro m) (hout := phi1_exit m)
    (QY := fun c s => s.mem ((c : Thread nD τ).loc main_arg0) = X m c
      ∧ s.mem ((c : Thread nD τ).loc main_v1) = outF m c ∧ ∀ sm : SemLoc sig, sm.isScoped .tc = false → s.sem ((c : Thread nD τ), sm) = 0)
    (hY := keep_read m)
    (hQ := fun _ h hs => ⟨fun c => ⟨(h c).2.2.1, (h c).2.2.2.1⟩, sem_eq_zero hs fun c => (h c).2.2.2.2⟩)

end Cert.KProof
-- ==== Proof.K.Value.lean ====
/-
  The value of the kernel's result against the reference's. Device `c` ends with, at row `i` and column `j` of its
  block, `x[z][i, 1024 z + j] + x[1 - z][i, 1024 z + j]`, `z` the device's coordinate on the last mesh axis and `x[z]` the
  part of the argument the device holds; the reference's result there is the sum of the two parts. Over the extended reals
  the two sums are the same, addition being commutative, with no assumption on the elements.
-/
module

public import proofs.«01_k».proof.Proof.K.Sched
public import proofs.«01_k».proof.Proof.Gen.ReferenceIdeal.Run
public import Idealize.ShloMosaic.Lib.Layout
public import Idealize.ShloMosaic.Lib.IdealHost
public import Idealize.ShloMosaic.Lib.Pointwise.Reduce

@[expose] public section

noncomputable section

namespace Cert.KProof

open Cert.KernelIdeal Cert.KernelIdeal.Gen
open Idealize.ShloMosaic Idealize.ShloMosaic.TcCoe Idealize.SL.Sem

/-- The whole argument: two parts of 8192 × 2048. -/
abbrev WholeX := (⟨3, ![2, 8192, 2048]⟩ : Shape).Idx → EReal

/-- The reference's result of a whole argument. -/
abbrev refSum (x : WholeX) : (⟨2, ![8192, 2048]⟩ : Shape).Idx → EReal :=
  Host.reduceAdd (F := Ideal) (φ := .f32) x (constant Cert.ReferenceIdeal.S_ .f32 0x00000000#32)
    Cert.ReferenceIdeal.Gen.reducesTo_S2x8192x2048_S8192x2048_d0 Cert.ReferenceIdeal.Gen.h_S_

/-- The reference's result at a row and a column is the sum of the two parts there. -/
theorem refSum_apply (x : WholeX) (a : Fin 8192) (l : Fin 2048) : refSum x (ix2 a l) = x (ix3 0 a l) + x (ix3 1 a l) := by
  unfold refSum
  rw [Idealize.ShloMosaic.ValueIdx.hostReduceAdd_apply, Ideal.hostReduceAdd_r3_a0]
  have h0 : (constant (F := Ideal) Cert.ReferenceIdeal.S_ .f32 0x00000000#32) (Shape.Idx.first Cert.ReferenceIdeal.Gen.h_S_) = (0 : EReal) := by
    simp [constant]
  rw [h0, zero_add]
  exact Fin.sum_univ_two (fun k : Fin 2 => x (ix3 k a l))

/-- A device's part of the argument, read at a row and a column: the part its last coordinate names. -/
theorem X_of_whole (m : (ℓ : Loc nD τ sig) → Buf (Elt Ideal) ℓ) (x : WholeX) (c : Dev nD)
    (h : m ((c : Thread nD τ).loc main_arg0)
      = Layout.blockN ⟨3, ![1, 8192, 2048]⟩ ⟨3, ![2, 8192, 2048]⟩ (Layout.meshBlock [2, 2, 2] ![[2], [], []] c) x)
    (a : Fin 8192) (l : Fin 2048) : X m c (xix a l) = x (ix3 ⟨zOf c, Nat.mod_lt _ (by decide)⟩ a l) := by
  unfold X
  rw [h, Layout.blockN_apply]
  congr 1
  funext b
  apply Fin.ext
  rw [Layout.TilesN.idx_val]
  fin_cases b
  · show (c.val / 1 % 2 * 1 + 0) * 1 + 0 = c.val % 2
    omega
  · show 0 * 8192 + a.val = a.val
    omega
  · show 0 * 2048 + l.val = l.val
    omega

/-- Two numbers below two that differ name the two parts, in either order. -/
theorem two_parts (x : WholeX) (a : Fin 8192) (l : Fin 2048) (z z' : Fin 2) (h : z'.val = 1 - z.val) :
    x (ix3 z a l) + x (ix3 z' a l) = x (ix3 0 a l) + x (ix3 1 a l) := by
  rcases z with ⟨_ | _ | n, hz⟩
  · have e : z' = 1 := Fin.ext h
    rw [e]; rfl
  · have e : z' = 0 := Fin.ext h
    rw [e]; exact add_comm _ _
  · omega

/-- What device `c` ends with is its block of columns of the reference's result. -/
theorem outF_eq (m : (ℓ : Loc nD τ sig) → Buf (Elt Ideal) ℓ) (x : WholeX)
    (h : ∀ c : Dev nD, m ((c : Thread nD τ).loc main_arg0)
      = Layout.blockN ⟨3, ![1, 8192, 2048]⟩ ⟨3, ![2, 8192, 2048]⟩ (Layout.meshBlock [2, 2, 2] ![[2], [], []] c) x)
    (c : Dev nD) :
    outF m c = Layout.blockN ⟨2, ![8192, 1024]⟩ ⟨2, ![8192, 2048]⟩ (Layout.meshBlock [2, 2, 2] ![[], [2]] c) (refSum x) := by
  funext i
  have hi0 : (i 0).val < 8192 := (i 0).isLt
  have hi1 : (i 1).val < 1024 := (i 1).isLt
  rw [Layout.blockN_apply]
  have e : (show Layout.TilesN ⟨2, ![8192, 1024]⟩ ⟨2, ![8192, 2048]⟩ _ from by decide).idx (Layout.meshBlock [2, 2, 2] ![[], [2]] c) i
      = ix2 (i 0) (colZ (zOf c) (i 1)) := by
    funext b
    apply Fin.ext
    rw [Layout.TilesN.idx_val]
    fin_cases b
    · show 0 * 8192 + (i 0).val = (i 0).val
      omega
    · show (c.val / 1 % 2 * 1 + 0) * 1024 + (i 1).val = c.val % 2 % 2 * 1024 + (i 1).val
      omega
  rw [e]
  refine Eq.trans ?_ (refSum_apply x (i 0) (colZ (zOf c) (i 1))).symm
  refine (congrArg₂ (fun u v : EReal => u + v) (X_of_whole m x c (h c) (i 0) (colZ (zOf c) (i 1)))
    (X_of_whole m x (srcDev c ((i 0).val / 2048) ((i 0).val % 2048 / 256)) (h _) (i 0) (colZ (zOf c) (i 1)))).trans ?_
  exact two_parts x _ _ _ _ (zOf_srcDev c _ (by omega) _ (by omega))

end Cert.KProof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Run
public import proofs.«01_k».proof.Proof.K.Value
public import Idealize.ShloMosaic.Lib.Quiescent

@[expose] public section

noncomputable section

namespace Cert.Proof

open Idealize.ShloMosaic Idealize.ShloMosaic.TcCoe Idealize.SL.Sem

/-- The idealized kernel, for any float values: it runs, its argument ends unchanged and every counter ends at zero. -/
theorem frame_any {F : FTy → Type} [FloatOps F]
    (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).1, h.2⟩) (Cert.KProof.run_main m g)

set_option maxRecDepth 100000 in
set_option maxHeartbeats 0 in
/-- `Cert.quiescent_Kernel`: the kernel and its idealization are the same text, so the run above at bit patterns is the
    kernel's. -/
theorem frame_p : Cert.quiescent_Kernel := fun m g _ => by
  have h := frame_any (F := Bits) m g
  exact h

/-- `Cert.quiescent_KernelIdeal`: the run above at the extended reals. -/
theorem frame_pi : Cert.quiescent_KernelIdeal := fun m g _ => frame_any (F := Ideal) m g

/-- `Cert.quiescent_ReferenceIdeal`: the reference's run, its argument unchanged; it declares no semaphore. -/
theorem frame_ri : Cert.quiescent_ReferenceIdeal := fun m g _ =>
  (θ_run Cert.ReferenceIdeal.defs _ _).mono (fun r h => ⟨fun c => (h c).2, sem_eq_zero_of_no_sems rfl r.2⟩)
    (Cert.ReferenceIdeal.Value.run m g)

/-- `Cert.algebraic_KernelIdeal_ReferenceIdeal`: each device's result is its block of columns of the sum of the argument's
    two parts. -/
theorem algebraic : Cert.algebraic_KernelIdeal_ReferenceIdeal := fun m g m' g' _ hx =>
  ⟨Cert.KProof.refSum (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (Cert.KProof.outF_eq m _ hx c), (h.1 c).1⟩) (Cert.KProof.run_main m g),
    (θ_run Cert.ReferenceIdeal.defs _ _).mono (fun _ h => h 0) (Cert.ReferenceIdeal.Value.run m' g')⟩

/-- Everything the certificate claims. -/
theorem claim : Cert.Claim := ⟨Cert.Kernel.Gen.facts, Cert.KernelIdeal.Gen.facts, Cert.ReferenceIdeal.Gen.facts,
  frame_p, frame_pi, frame_ri, trivial, algebraic⟩

end Cert.Proof

end
